-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![32, 1024, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x1024 : Shape := ⟨2, ![2048, 1024]⟩
abbrev S1024x32 : Shape := ⟨2, ![1024, 32]⟩
abbrev S2048x2 : Shape := ⟨2, ![2048, 2]⟩
abbrev S8x1024x1024 : Shape := ⟨3, ![8, 1024, 1024]⟩
abbrev S_ : Shape := ⟨0, ![]⟩

class Facts : Prop where
  bcast_S_S2048x2 : S_.BroadcastsInDim S2048x2 (![] : Fin 0 → Fin S2048x2.rank)

variable [Facts]

def fn {F : FTy → Type} [FloatOps F] (main_arg0 : FVec F S2048x1024 .f32) (main_arg1 : FVec F S1024x32 .f32) (main_arg2 : IVec S2048x2 32) (main_arg3 : FVec F S8x1024x1024 .f32) : IVec S2048x2 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 32#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  main_v4
-- ==== Pre_routed_ReferenceIdeal.lean ====
abbrev S2048x1024 : Shape := ⟨2, ![2048, 1024]⟩
abbrev S1024x32 : Shape := ⟨2, ![1024, 32]⟩
abbrev S2048x2 : Shape := ⟨2, ![2048, 2]⟩
abbrev S32x1024x1024 : Shape := ⟨3, ![32, 1024, 1024]⟩
abbrev S_ : Shape := ⟨0, ![]⟩

class Facts : Prop where
  bcast_S_S2048x2 : S_.BroadcastsInDim S2048x2 (![] : Fin 0 → Fin S2048x2.rank)

variable [Facts]

def fn {F : FTy → Type} [FloatOps F] (main_arg0 : FVec F S2048x1024 .f32) (main_arg1 : FVec F S1024x32 .f32) (main_arg2 : IVec S2048x2 32) (main_arg3 : FVec F S32x1024x1024 .f32) : IVec S2048x2 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 32#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  main_v4
-- ==== Kernel.lean ====
abbrev S2048x1024 : Shape := ⟨2, ![2048, 1024]⟩
abbrev S1024x32 : Shape := ⟨2, ![1024, 32]⟩
abbrev S2048x2 : Shape := ⟨2, ![2048, 2]⟩
abbrev S8x1024x1024 : Shape := ⟨3, ![8, 1024, 1024]⟩
abbrev S2x1024x256 : Shape := ⟨3, ![2, 1024, 256]⟩
abbrev S2 : Shape := ⟨1, ![2]⟩
abbrev S2x2x2x1024x256 : Shape := ⟨5, ![2, 2, 2, 1024, 256]⟩
abbrev S2x2x2 : Shape := ⟨3, ![2, 2, 2]⟩
abbrev S_ : Shape := ⟨0, ![]⟩
abbrev S1 : Shape := ⟨1, ![1]⟩
abbrev S1x1024x256 : Shape := ⟨3, ![1, 1024, 256]⟩
abbrev S1024x256 : Shape := ⟨2, ![1024, 256]⟩
abbrev S2048x32 : Shape := ⟨2, ![2048, 32]⟩
abbrev S2048 : Shape := ⟨1, ![2048]⟩
abbrev S2048x1 : Shape := ⟨2, ![2048, 1]⟩
abbrev S2048x256 : Shape := ⟨2, ![2048, 256]⟩
abbrev S1x1x1x1024x256 : Shape := ⟨5, ![1, 1, 1, 1024, 256]⟩
abbrev S1x1x1 : Shape := ⟨3, ![1, 1, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x2, .i32⟩
  | .hbm, ⟨3, _⟩ => ⟨S8x1024x1024, .f32⟩
  | .hbm, ⟨4, _⟩ => ⟨S2048x1024, .f32⟩
  | .local _ .vmem, ⟨0, _⟩ => ⟨S2048x1024, .f32⟩
  | .local _ .vmem, ⟨1, _⟩ => ⟨S1024x32, .f32⟩
  | .local _ .vmem, ⟨2, _⟩ => ⟨S2048x2, .i32⟩
  | .local _ .vmem, ⟨3, _⟩ => ⟨S2048x1024, .f32⟩
  | .local _ .vmem, ⟨4, _⟩ => ⟨S2x1024x256, .f32⟩
  | .local _ .vmem, ⟨5, _⟩ => ⟨S2x2x2x1024x256, .bf16⟩
  | .local _ .vmem, ⟨6, _⟩ => ⟨S2x2x2x1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_6 : BitVec 32 := 1#32
  let v13 : BitVec 32 := Scalar.muli v5 c1_i32_6
  let v14 : BitVec 32 := Scalar.addi c0_i32_7 v13
  v14.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v15 : BitVec 32 := Scalar.muli v7 c1_i32_9
  let v16 : BitVec 32 := Scalar.addi c0_i32_10 v15
  v16.toNat
def k0_dev3 (d0 : Dev nD) : Nat :=
  let c0_i32_222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let v10 : BitVec 32 := Scalar.select v9 v7 v5
  let c1_i32_221 : BitVec 32 := 1#32
  let v313 : BitVec 32 := Scalar.muli v10 c1_i32_221
  let v314 : BitVec 32 := Scalar.addi c0_i32_222 v313
  v314.toNat
def k0_dev4 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_3 : BitVec 32 := 1#32
  let v6 : BitVec 32 := Scalar.addi v2 c1_i32_3
  let c4_i32_4 : BitVec 32 := 4#32
  let v7 : BitVec 32 := Scalar.remsi v6 c4_i32_4
  let v11 : BitVec 32 := Scalar.select v9 v5 v7
  let c1_i32_245 : BitVec 32 := 1#32
  let v329 : BitVec 32 := Scalar.muli v11 c1_i32_245
  let v330 : BitVec 32 := Scalar.addi c0_i32_246 v329
  v330.toNat
def k0_dev5 (d0 : Dev nD) : Nat :=
  let c0_i32_536 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_3 : BitVec 32 := 1#32
  let v6 : BitVec 32 := Scalar.addi v2 c1_i32_3
  let c4_i32_4 : BitVec 32 := 4#32
  let v7 : BitVec 32 := Scalar.remsi v6 c4_i32_4
  let v11 : BitVec 32 := Scalar.select v9 v5 v7
  let c1_i32_535 : BitVec 32 := 1#32
  let v637 : BitVec 32 := Scalar.muli v11 c1_i32_535
  let v638 : BitVec 32 := Scalar.addi c0_i32_536 v637
  v638.toNat
def k0_dev6 (d0 : Dev nD) : Nat :=
  let c0_i32_561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let v10 : BitVec 32 := Scalar.select v9 v7 v5
  let c1_i32_560 : BitVec 32 := 1#32
  let v653 : BitVec 32 := Scalar.muli v10 c1_i32_560
  let v654 : BitVec 32 := Scalar.addi c0_i32_561 v653
  v654.toNat
def k0_dev7 (d0 : Dev nD) : Nat :=
  let c0_i32_586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let v10 : BitVec 32 := Scalar.select v9 v7 v5
  let c1_i32_585 : BitVec 32 := 1#32
  let v669 : BitVec 32 := Scalar.muli v10 c1_i32_585
  let v670 : BitVec 32 := Scalar.addi c0_i32_586 v669
  v670.toNat
def k0_dev8 (d0 : Dev nD) : Nat :=
  let c0_i32_611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_3 : BitVec 32 := 1#32
  let v6 : BitVec 32 := Scalar.addi v2 c1_i32_3
  let c4_i32_4 : BitVec 32 := 4#32
  let v7 : BitVec 32 := Scalar.remsi v6 c4_i32_4
  let v11 : BitVec 32 := Scalar.select v9 v5 v7
  let c1_i32_610 : BitVec 32 := 1#32
  let v685 : BitVec 32 := Scalar.muli v11 c1_i32_610
  let v686 : BitVec 32 := Scalar.addi c0_i32_611 v685
  v686.toNat
def k0_dev9 (d0 : Dev nD) : Nat :=
  let c0_i32_989 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_3 : BitVec 32 := 1#32
  let v6 : BitVec 32 := Scalar.addi v2 c1_i32_3
  let c4_i32_4 : BitVec 32 := 4#32
  let v7 : BitVec 32 := Scalar.remsi v6 c4_i32_4
  let v11 : BitVec 32 := Scalar.select v9 v5 v7
  let c1_i32_988 : BitVec 32 := 1#32
  let v1035 : BitVec 32 := Scalar.muli v11 c1_i32_988
  let v1036 : BitVec 32 := Scalar.addi c0_i32_989 v1035
  v1036.toNat
def k0_dev10 (d0 : Dev nD) : Nat :=
  let c0_i32_1014 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let v10 : BitVec 32 := Scalar.select v9 v7 v5
  let c1_i32_1013 : BitVec 32 := 1#32
  let v1051 : BitVec 32 := Scalar.muli v10 c1_i32_1013
  let v1052 : BitVec 32 := Scalar.addi c0_i32_1014 v1051
  v1052.toNat
def k0_dev11 (d0 : Dev nD) : Nat :=
  let c0_i32_1039 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let v10 : BitVec 32 := Scalar.select v9 v7 v5
  let c1_i32_1038 : BitVec 32 := 1#32
  let v1067 : BitVec 32 := Scalar.muli v10 c1_i32_1038
  let v1068 : BitVec 32 := Scalar.addi c0_i32_1039 v1067
  v1068.toNat
def k0_dev12 (d0 : Dev nD) : Nat :=
  let c0_i32_1064 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_3 : BitVec 32 := 1#32
  let v6 : BitVec 32 := Scalar.addi v2 c1_i32_3
  let c4_i32_4 : BitVec 32 := 4#32
  let v7 : BitVec 32 := Scalar.remsi v6 c4_i32_4
  let v11 : BitVec 32 := Scalar.select v9 v5 v7
  let c1_i32_1063 : BitVec 32 := 1#32
  let v1083 : BitVec 32 := Scalar.muli v11 c1_i32_1063
  let v1084 : BitVec 32 := Scalar.addi c0_i32_1064 v1083
  v1084.toNat
def k0_dev13 (d0 : Dev nD) : Nat :=
  let c0_i32_1436 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_3 : BitVec 32 := 1#32
  let v6 : BitVec 32 := Scalar.addi v2 c1_i32_3
  let c4_i32_4 : BitVec 32 := 4#32
  let v7 : BitVec 32 := Scalar.remsi v6 c4_i32_4
  let v11 : BitVec 32 := Scalar.select v9 v5 v7
  let c1_i32_1435 : BitVec 32 := 1#32
  let v1427 : BitVec 32 := Scalar.muli v11 c1_i32_1435
  let v1428 : BitVec 32 := Scalar.addi c0_i32_1436 v1427
  v1428.toNat
def k0_dev14 (d0 : Dev nD) : Nat :=
  let c0_i32_1461 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let v10 : BitVec 32 := Scalar.select v9 v7 v5
  let c1_i32_1460 : BitVec 32 := 1#32
  let v1443 : BitVec 32 := Scalar.muli v10 c1_i32_1460
  let v1444 : BitVec 32 := Scalar.addi c0_i32_1461 v1443
  v1444.toNat
def k0_dev15 (d0 : Dev nD) : Nat :=
  let c0_i32_1486 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let v10 : BitVec 32 := Scalar.select v9 v7 v5
  let c1_i32_1485 : BitVec 32 := 1#32
  let v1459 : BitVec 32 := Scalar.muli v10 c1_i32_1485
  let v1460 : BitVec 32 := Scalar.addi c0_i32_1486 v1459
  v1460.toNat
def k0_dev16 (d0 : Dev nD) : Nat :=
  let c0_i32_1511 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_3 : BitVec 32 := 1#32
  let v6 : BitVec 32 := Scalar.addi v2 c1_i32_3
  let c4_i32_4 : BitVec 32 := 4#32
  let v7 : BitVec 32 := Scalar.remsi v6 c4_i32_4
  let v11 : BitVec 32 := Scalar.select v9 v5 v7
  let c1_i32_1510 : BitVec 32 := 1#32
  let v1475 : BitVec 32 := Scalar.muli v11 c1_i32_1510
  let v1476 : BitVec 32 := Scalar.addi c0_i32_1511 v1475
  v1476.toNat
def k0_dev17 (d0 : Dev nD) : Nat :=
  let c0_i32_1712 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_3 : BitVec 32 := 1#32
  let v6 : BitVec 32 := Scalar.addi v2 c1_i32_3
  let c4_i32_4 : BitVec 32 := 4#32
  let v7 : BitVec 32 := Scalar.remsi v6 c4_i32_4
  let v11 : BitVec 32 := Scalar.select v9 v5 v7
  let c1_i32_1711 : BitVec 32 := 1#32
  let v1575 : BitVec 32 := Scalar.muli v11 c1_i32_1711
  let v1576 : BitVec 32 := Scalar.addi c0_i32_1712 v1575
  v1576.toNat
def k0_dev18 (d0 : Dev nD) : Nat :=
  let c0_i32_1737 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.remsi v2 c2_i32
  let c0_i32 : BitVec 32 := 0#32
  let v9 : BitVec 1 := Scalar.cmpi .eq v8 c0_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let v10 : BitVec 32 := Scalar.select v9 v7 v5
  let c1_i32_1736 : BitVec 32 := 1#32
  let v1591 : BitVec 32 := Scalar.muli v10 c1_i32_1736
  let v1592 : BitVec 32 := Scalar.addi c0_i32_1737 v1591
  v1592.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x1024 : Shape := ⟨2, ![2048, 1024]⟩
abbrev S1024x32 : Shape := ⟨2, ![1024, 32]⟩
abbrev S2048x2 : Shape := ⟨2, ![2048, 2]⟩
abbrev S32x1024x1024 : Shape := ⟨3, ![32, 1024, 1024]⟩
abbrev S2048x32 : Shape := ⟨2, ![2048, 32]⟩
abbrev S_ : Shape := ⟨0, ![]⟩
abbrev S2048 : Shape := ⟨1, ![2048]⟩
abbrev S2048x1 : Shape := ⟨2, ![2048, 1]⟩
abbrev S2048x1024x1024 : Shape := ⟨3, ![2048, 1024, 1024]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x2, .i32⟩
  | .hbm, ⟨3, _⟩ => ⟨S32x1024x1024, .f32⟩
  | .hbm, ⟨4, _⟩ => ⟨S2048x32, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x32, .f32⟩
  | .hbm, ⟨9, _⟩ => ⟨S2048x32, .f32⟩
  | .hbm, ⟨10, _⟩ => ⟨S2048x32, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x32, .f32⟩
  | .hbm, ⟨15, _⟩ => ⟨S2048x32, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S2048x1, .i32⟩
  | .hbm, ⟨36, _⟩ => ⟨S2048x1, .i32⟩
  | .hbm, ⟨37, _⟩ => ⟨S2048x2, .i32⟩
  | .hbm, ⟨38, _⟩ => ⟨S2048, .f32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S2048, .i32⟩
  | .hbm, ⟨53, _⟩ => ⟨S2048x1, .i32⟩
  | .hbm, ⟨54, _⟩ => ⟨S2048x1, .i32⟩
  | .hbm, ⟨55, _⟩ => ⟨S2048x2, .i32⟩
  | .hbm, ⟨56, _⟩ => ⟨S2048, .f32⟩
  | .hbm, ⟨57, _⟩ => ⟨S2048, .f32⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048, .i32⟩
  | .hbm, ⟨65, _⟩ => ⟨S2048x1, .i32⟩
  | .hbm, ⟨66, _⟩ => ⟨S2048x1024x1024, .f32⟩
  | .hbm, ⟨67, _⟩ => ⟨S2048x1024, .f32⟩
  | .hbm, ⟨68, _⟩ => ⟨S_, .i32⟩
  | .hbm, ⟨69, _⟩ => ⟨S2048, .i32⟩
  | .hbm, ⟨70, _⟩ => ⟨S2048, .i1⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S2048, .i32⟩
  | .hbm, ⟨75, _⟩ => ⟨S2048x1, .i32⟩
  | .hbm, ⟨76, _⟩ => ⟨S2048x1024x1024, .f32⟩
  | .hbm, ⟨77, _⟩ => ⟨S2048x1024, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048, .f32⟩
  | .hbm, ⟨83, _⟩ => ⟨S2048x1, .f32⟩
  | .hbm, ⟨84, _⟩ => ⟨S2048x1024, .f32⟩
  | .hbm, ⟨85, _⟩ => ⟨S2048x1024, .f32⟩
  | .hbm, ⟨86, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.KernelIdeal.Vals.lean ====
/-
# `Vals`: what the body computes, on every device

Each value that the printed body hands from one of its segments to the next, as a function of the launch memory:
first those of the expert sums (no transfer in them), then the chunk of columns each device stores, what one half of
a chunk holds after each exchange (`outv`), what is sent (`sndv`), and the values read back from the exchange.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The memrefs and what they hold at launch -/

abbrev xM : Memref sig .tc .vmem S2048x1024 .f32 := Memref.whole cc0_stg0_0
abbrev rM : Memref sig .tc .vmem S1024x32 .f32 := Memref.whole cc0_stg1_0
abbrev iM : Memref sig .tc .vmem S2048x2 .i32 := Memref.whole cc0_stg2_0
abbrev oM : Memref sig .tc .vmem S2048x1024 .f32 := Memref.whole cc0_stg3_0
abbrev wM : Memref sig .tc .hbm S8x1024x1024 .f32 := Memref.whole main_arg3
abbrev eM : Memref sig .tc .vmem S2x1024x256 .f32 := Memref.whole cc0_scratch0
abbrev sM : Memref sig .tc .vmem S2x2x2x1024x256 .bf16 := Memref.whole cc0_scratch2
abbrev vM : Memref sig .tc .vmem S2x2x2x1024x256 .bf16 := Memref.whole cc0_scratch3

/-- The tokens, the router's weights and the routing, as fetched. -/
def xstg (c : Dev nD) : Vec F S2048x1024 .f32 := m ((c : Thread nD τ).loc main_arg0)
def rstg (c : Dev nD) : Vec F S1024x32 .f32 := m ((c : Thread nD τ).loc main_arg1)
def istg (c : Dev nD) : Vec F S2048x2 .i32 := m ((c : Thread nD τ).loc main_arg2)

/-- An expert's column block lies inside the weights. -/
theorem wR_inb (e : Fin 8) (k : Fin 4) : ∀ a, (![e.val, 0, 256 * k.val] : Fin 3 → ℕ) a + S1x1024x256.size a ≤ S8x1024x1024.size a := by
  revert e k; decide
/-- The rectangle of expert `e`'s weights that feeds column chunk `k`. -/
abbrev wR (e : Fin 8) (k : Fin 4) : Rect S8x1024x1024 := Rect.unit (s := S8x1024x1024) ![e.val, 0, 256 * k.val] S1x1024x256.size (wR_inb e k)
/-- Those weights on device `c`. -/
def wblk (c : Dev nD) (e : Fin 8) (k : Fin 4) : Vec F S1x1024x256 .f32 :=
  (wM : Memref sig .tc .hbm S8x1024x1024 .f32).view.readAt (Elt F) (wR e k).toLoadRect (m ((c : Thread nD τ).loc main_arg3))

/-! ## The values of the expert sums -/

set_option backward.proofsInPublic true

def val_v2 (m : (ℓ : Loc nD τ sig) → Buf (Elt F) ℓ) (c : Dev nD) : BitVec 32 :=
  let v0 : BitVec 32 := Dev.word c
  let v1 : BitVec 32 := Scalar.divsi v0 1#32
  let v2 : BitVec 32 := Scalar.remsi v1 4#32
  v2
def val_v10 (m : (ℓ : Loc nD τ sig) → Buf (Elt F) ℓ) (c : Dev nD) : BitVec 32 :=
  let v0 : BitVec 32 := Dev.word c
  let v1 : BitVec 32 := Scalar.divsi v0 1#32
  let v2 : BitVec 32 := Scalar.remsi v1 4#32
  let v3 : BitVec 32 := Scalar.subi v2 1#32
  let v4 : BitVec 32 := Scalar.addi v3 4#32
  let v5 : BitVec 32 := Scalar.remsi v4 4#32
  let v6 : BitVec 32 := Scalar.addi v2 1#32
  let v7 : BitVec 32 := Scalar.remsi v6 4#32
  let v8 : BitVec 32 := Scalar.remsi v2 2#32
  let v9 : BitVec 1 := Scalar.cmpi .eq v8 0#32
  let v10 : BitVec 32 := Scalar.select v9 v7 v5
  v10
def val_v11 (m : (ℓ : Loc nD τ sig) → Buf (Elt F) ℓ) (c : Dev nD) : BitVec 32 :=
  let v0 : BitVec 32 := Dev.word c
  let v1 : BitVec 32 := Scalar.divsi v0 1#32
  let v2 : BitVec 32 := Scalar.remsi v1 4#32
  let v3 : BitVec 32 := Scalar.subi v2 1#32
  let v4 : BitVec 32 := Scalar.addi v3 4#32
  let v5 : BitVec 32 := Scalar.remsi v4 4#32
  let v6 : BitVec 32 := Scalar.addi v2 1#32
  let v7 : BitVec 32 := Scalar.remsi v6 4#32
  let v8 : BitVec 32 := Scalar.remsi v2 2#32
  let v9 : BitVec 1 := Scalar.cmpi .eq v8 0#32
  let v11 : BitVec 32 := Scalar.select v9 v5 v7
  v11
def val_v24 (m : (ℓ : Loc nD τ sig) → Buf (Elt F) ℓ) (c : Dev nD) : FVec F S2048x1024 .f32 :=
  k0_pay2 (xstg m c)
def val_v26 (m : (ℓ : Loc nD τ sig) → Buf (Elt F) ℓ) (c : Dev nD) : FVec F S1024x32 .f32 :=
  k0_pay3 (rstg m c)
def val_v38 (m : (ℓ : Loc nD τ sig) → Buf (Elt F) ℓ) (c : Dev nD) : IVec S2048x2 32 :=
  k0_pay5 (istg m c)
def val_v55 (m : (ℓ : Loc nD τ sig) → Buf (Elt F) ℓ) (c : Dev nD) : FVec F S2048x1 .f32 :=
  k0_pay9 (val_v24 m c) (val_v26 m c) (istg m c)
def val_v56 (m : (ℓ : Loc nD τ sig) → Buf (Elt F) ℓ) (c : Dev nD) : FVec F S2048x1 .f32 :=
  k0_pay10 (val_v24 m c) (val_v26 m c) (istg m c)
def val_v57 (m : (ℓ : Loc nD τ sig) → Buf (Elt F) ℓ) (c : Dev nD) : FVec F S2048x256 .f32 :=
  k0_pay11 (F := F)
def val_v88 (m : (ℓ : Loc nD τ sig) → Buf (Elt F) ℓ) (c : Dev nD) : FVec F S2048x256 .f32 :=
  (k0_pay12 (val_v2 m c) (val_v24 m c) (val_v38 m c) (val_v55 m c) (val_v56 m c) (val_v57 m c) (wblk m c 0 0))
def val_v119 (m : (ℓ : Loc nD τ sig) → Buf (Elt F) ℓ) (c : Dev nD) : FVec F S2048x256 .f32 :=
  (k0_pay13 (val_v2 m c) (val_v24 m c) (val_v38 m c) (val_v55 m c) (val_v56 m c) (val_v88 m c) (wblk m c 1 0))
def val_v150 (m : (ℓ : Loc nD τ sig) → Buf (Elt F) ℓ) (c : Dev nD) : FVec F S2048x256 .f32 :=
  k0_pay14 (val_v2 m c) (val_v24 m c) (val_v38 m c) (val_v55 m c) (val_v56 m c) (val_v119 m c) (wblk m c 2 0)
def val_v164 (m : (ℓ : Loc nD τ sig) → Buf (Elt F) ℓ) (c : Dev nD) : FVec F S1024x256 .f32 :=
  k0_pay15 (wblk m c 3 0)
def val_cst_111 (m : (ℓ : Loc nD τ sig) → Buf (Elt F) ℓ) (c : Dev nD) : FVec F S2048x256 .f32 :=
  let cst_111 : FVec F S2048x256 .f32 := constant S2048x256 .f32 0x00000000#32
  cst_111
def val_v181 (m : (ℓ : Loc nD τ sig) → Buf (Elt F) ℓ) (c : Dev nD) : FVec F S2048x256 .f32 :=
  k0_pay16 (val_v2 m c) (val_v24 m c) (val_v38 m c) (val_v55 m c) (val_v56 m c) (val_v150 m c) (val_v164 m c) (val_cst_111 m c)
def val_v196 (m : (ℓ : Loc nD τ sig) → Buf (Elt F) ℓ) (c : Dev nD) : FVec F S2048x256 .f32 :=
  k0_pay17 (val_v24 m c) (wblk m c 4 0)
def val_v198 (m : (ℓ : Loc nD τ sig) → Buf (Elt F) ℓ) (c : Dev nD) : BitVec 32 :=
  let v197 : BitVec 32 := Scalar.muli (val_v2 m c) 8#32
  let v198 : BitVec 32 := Scalar.addi v197 4#32
  v198
def val_v212 (m : (ℓ : Loc nD τ sig) → Buf (Elt F) ℓ) (c : Dev nD) : FVec F S2048x256 .f32 :=
  k0_pay18 (val_v38 m c) (val_v55 m c) (val_v56 m c) (val_v181 m c) (val_v196 m c) (val_v198 m c)
def val_v227 (m : (ℓ : Loc nD τ sig) → Buf (Elt F) ℓ) (c : Dev nD) : FVec F S2048x256 .f32 :=
  k0_pay19 (val_v24 m c) (wblk m c 5 0)
def val_v229 (m : (ℓ : Loc nD τ sig) → Buf (Elt F) ℓ) (c : Dev nD) : BitVec 32 :=
  let v228 : BitVec 32 := Scalar.muli (val_v2 m c) 8#32
  let v229 : BitVec 32 := Scalar.addi v228 5#32
  v229
def val_v232 (m : (ℓ : Loc nD τ sig) → Buf (Elt F) ℓ) (c : Dev nD) : IVec S2048x1 1 :=
  k0_pay20 (val_v2 m c) (val_v38 m c)
def val_v233 (m : (ℓ : Loc nD τ sig) → Buf (Elt F) ℓ) (c : Dev nD) : FVec F S2048x1 .f32 :=
  k0_pay21 (F := F)
def val_v243 (m : (ℓ : Loc nD τ sig) → Buf (Elt F) ℓ) (c : Dev nD) : FVec F S2048x256 .f32 :=
  k0_pay22 (val_v38 m c) (val_v55 m c) (val_v56 m c) (val_v212 m c) (val_v227 m c) (val_v229 m c) (val_v232 m c) (val_v233 m c)
def val_v258 (m : (ℓ : Loc nD τ sig) → Buf (Elt F) ℓ) (c : Dev nD) : FVec F S2048x256 .f32 :=
  k0_pay23 (val_v24 m c) (wblk m c 6 0)
def val_v265 (m : (ℓ : Loc nD τ sig) → Buf (Elt F) ℓ) (c : Dev nD) : FVec F S2048x1 .f32 :=
  k0_pay24 (val_v2 m c) (val_v38 m c) (val_v55 m c)
def val_v268 (m : (ℓ : Loc nD τ sig) → Buf (Elt F) ℓ) (c : Dev nD) : IVec S2048x1 1 :=
  k0_pay25 (val_v2 m c) (val_v38 m c)
def val_cst_178 (m : (ℓ : Loc nD τ sig) → Buf (Elt F) ℓ) (c : Dev nD) : F .f32 :=
  let cst_178 : F .f32 := Scalar.ofBits .f32 0x00000000#32
  cst_178
def val_v274 (m : (ℓ : Loc nD τ sig) → Buf (Elt F) ℓ) (c : Dev nD) : FVec F S2048x256 .f32 :=
  k0_pay26 (val_v56 m c) (val_v243 m c) (val_v258 m c) (val_v265 m c) (val_v268 m c) (val_cst_178 m c)
def val_v304 (m : (ℓ : Loc nD τ sig) → Buf (Elt F) ℓ) (c : Dev nD) : FVec F S2048x256 .f32 :=
  k0_pay27 (val_v2 m c) (val_v24 m c) (val_v38 m c) (val_v55 m c) (val_v56 m c) (wblk m c 7 0)
def val_v339 (m : (ℓ : Loc nD τ sig) → Buf (Elt F) ℓ) (c : Dev nD) : FVec F S2048x256 .f32 :=
  (k0_pay32 (F := F))
def val_v370 (m : (ℓ : Loc nD τ sig) → Buf (Elt F) ℓ) (c : Dev nD) : FVec F S2048x256 .f32 :=
  k0_pay33 (val_v2 m c) (val_v24 m c) (val_v38 m c) (val_v55 m c) (val_v56 m c) (val_v339 m c) (wblk m c 0 1)
def val_v383 (m : (ℓ : Loc nD τ sig) → Buf (Elt F) ℓ) (c : Dev nD) : Vec F S1x1024x256 .f32 :=
  (wblk m c 1 1)
def val_v401 (m : (ℓ : Loc nD τ sig) → Buf (Elt F) ℓ) (c : Dev nD) : FVec F S2048x256 .f32 :=
  k0_pay34 (val_v2 m c) (val_v24 m c) (val_v38 m c) (val_v55 m c) (val_v56 m c) (val_v370 m c) (val_v383 m c)
def val_v416 (m : (ℓ : Loc nD τ sig) → Buf (Elt F) ℓ) (c : Dev nD) : FVec F S2048x256 .f32 :=
  k0_pay35 (val_v24 m c) (wblk m c 2 1)
def val_v417 (m : (ℓ : Loc nD τ sig) → Buf (Elt F) ℓ) (c : Dev nD) : BitVec 32 :=
  let v417 : BitVec 32 := Scalar.muli (val_v2 m c) 8#32
  v417
def val_v432 (m : (ℓ : Loc nD τ sig) → Buf (Elt F) ℓ) (c : Dev nD) : FVec F S2048x256 .f32 :=
  k0_pay36 (val_v38 m c) (val_v55 m c) (val_v56 m c) (val_v401 m c) (val_v416 m c) (val_v417 m c)
def val_v447 (m : (ℓ : Loc nD τ sig) → Buf (Elt F) ℓ) (c : Dev nD) : FVec F S2048x256 .f32 :=
  k0_pay37 (val_v24 m c) (wblk m c 3 1)
def val_v449 (m : (ℓ : Loc nD τ sig) → Buf (Elt F) ℓ) (c : Dev nD) : BitVec 32 :=
  let v448 : BitVec 32 := Scalar.muli (val_v2 m c) 8#32
  let v449 : BitVec 32 := Scalar.addi v448 3#32
  v449
def val_v452 (m : (ℓ : Loc nD τ sig) → Buf (Elt F) ℓ) (c : Dev nD) : IVec S2048x1 1 :=
  k0_pay38 (val_v2 m c) (val_v38 m c)
def val_v463 (m : (ℓ : Loc nD τ sig) → Buf (Elt F) ℓ) (c : Dev nD) : FVec F S2048x256 .f32 :=
  k0_pay39 (val_v38 m c) (val_v55 m c) (val_v56 m c) (val_v432 m c) (val_v447 m c) (val_v449 m c) (val_v452 m c)
def val_v478 (m : (ℓ : Loc nD τ sig) → Buf (Elt F) ℓ) (c : Dev nD) : FVec F S2048x256 .f32 :=
  k0_pay40 (val_v24 m c) (wblk m c 4 1)
def val_v485 (m : (ℓ : Loc nD τ sig) → Buf (Elt F) ℓ) (c : Dev nD) : FVec F S2048x1 .f32 :=
  k0_pay41 (val_v2 m c) (val_v38 m c) (val_v55 m c)
def val_v486 (m : (ℓ : Loc nD τ sig) → Buf (Elt F) ℓ) (c : Dev nD) : IVec S2048x1 32 :=
  k0_pay42 (val_v38 m c)
def val_v487 (m : (ℓ : Loc nD τ sig) → Buf (Elt F) ℓ) (c : Dev nD) : IVec S2048x1 32 :=
  k0_pay43 (val_v2 m c)
def val_v494 (m : (ℓ : Loc nD τ sig) → Buf (Elt F) ℓ) (c : Dev nD) : FVec F S2048x256 .f32 :=
  k0_pay44 (val_v56 m c) (val_v463 m c) (val_v478 m c) (val_v485 m c) (val_v486 m c) (val_v487 m c)
def val_v509 (m : (ℓ : Loc nD τ sig) → Buf (Elt F) ℓ) (c : Dev nD) : FVec F S2048x256 .f32 :=
  k0_pay45 (val_v24 m c) (wblk m c 5 1)
def val_v522 (m : (ℓ : Loc nD τ sig) → Buf (Elt F) ℓ) (c : Dev nD) : FVec F S2048x1 .f32 :=
  k0_pay46 (val_v2 m c) (val_v38 m c) (val_v55 m c) (val_v56 m c)
def val_v556 (m : (ℓ : Loc nD τ sig) → Buf (Elt F) ℓ) (c : Dev nD) : FVec F S2048x256 .f32 :=
  (k0_pay47 (val_v2 m c) (val_v24 m c) (val_v38 m c) (val_v55 m c) (val_v56 m c) (val_v494 m c) (val_v509 m c) (val_v522 m c) (wblk m c 6 1))
def val_v695 (m : (ℓ : Loc nD τ sig) → Buf (Elt F) ℓ) (c : Dev nD) : FVec F S2048x256 .f32 :=
  k0_pay59 (F := F)
def val_v710 (m : (ℓ : Loc nD τ sig) → Buf (Elt F) ℓ) (c : Dev nD) : FVec F S2048x256 .f32 :=
  k0_pay60 (val_v24 m c) (wblk m c 0 2)
def val_v724 (m : (ℓ : Loc nD τ sig) → Buf (Elt F) ℓ) (c : Dev nD) : FVec F S2048x256 .f32 :=
  k0_pay61 (val_v2 m c) (val_v38 m c) (val_v55 m c) (val_v56 m c)
def val_v757 (m : (ℓ : Loc nD τ sig) → Buf (Elt F) ℓ) (c : Dev nD) : FVec F S2048x256 .f32 :=
  (k0_pay62 (val_v2 m c) (val_v24 m c) (val_v38 m c) (val_v55 m c) (val_v56 m c) (val_v695 m c) (val_v710 m c) (val_v724 m c) (wblk m c 1 2))
def val_v788 (m : (ℓ : Loc nD τ sig) → Buf (Elt F) ℓ) (c : Dev nD) : FVec F S2048x256 .f32 :=
  (k0_pay63 (val_v2 m c) (val_v24 m c) (val_v38 m c) (val_v55 m c) (val_v56 m c) (val_v757 m c) (wblk m c 2 2))
def val_v819 (m : (ℓ : Loc nD τ sig) → Buf (Elt F) ℓ) (c : Dev nD) : FVec F S2048x256 .f32 :=
  (k0_pay64 (val_v2 m c) (val_v24 m c) (val_v38 m c) (val_v55 m c) (val_v56 m c) (val_v788 m c) (wblk m c 3 2))
def val_v850 (m : (ℓ : Loc nD τ sig) → Buf (Elt F) ℓ) (c : Dev nD) : FVec F S2048x256 .f32 :=
  (k0_pay65 (val_v2 m c) (val_v24 m c) (val_v38 m c) (val_v55 m c) (val_v56 m c) (val_v819 m c) (wblk m c 4 2))
def val_v881 (m : (ℓ : Loc nD τ sig) → Buf (Elt F) ℓ) (c : Dev nD) : FVec F S2048x256 .f32 :=
  (k0_pay66 (val_v2 m c) (val_v24 m c) (val_v38 m c) (val_v55 m c) (val_v56 m c) (val_v850 m c) (wblk m c 5 2))
def val_v912 (m : (ℓ : Loc nD τ sig) → Buf (Elt F) ℓ) (c : Dev nD) : FVec F S2048x256 .f32 :=
  (k0_pay67 (val_v2 m c) (val_v24 m c) (val_v38 m c) (val_v55 m c) (val_v56 m c) (val_v881 m c) (wblk m c 6 2))
def val_v1093 (m : (ℓ : Loc nD τ sig) → Buf (Elt F) ℓ) (c : Dev nD) : FVec F S2048x256 .f32 :=
  (k0_pay77 (F := F))
def val_v1124 (m : (ℓ : Loc nD τ sig) → Buf (Elt F) ℓ) (c : Dev nD) : FVec F S2048x256 .f32 :=
  (k0_pay78 (val_v2 m c) (val_v24 m c) (val_v38 m c) (val_v55 m c) (val_v56 m c) (val_v1093 m c) (wblk m c 0 3))
def val_v1155 (m : (ℓ : Loc nD τ sig) → Buf (Elt F) ℓ) (c : Dev nD) : FVec F S2048x256 .f32 :=
  (k0_pay79 (val_v2 m c) (val_v24 m c) (val_v38 m c) (val_v55 m c) (val_v56 m c) (val_v1124 m c) (wblk m c 1 3))
def val_v1186 (m : (ℓ : Loc nD τ sig) → Buf (Elt F) ℓ) (c : Dev nD) : FVec F S2048x256 .f32 :=
  (k0_pay80 (val_v2 m c) (val_v24 m c) (val_v38 m c) (val_v55 m c) (val_v56 m c) (val_v1155 m c) (wblk m c 2 3))
def val_v1217 (m : (ℓ : Loc nD τ sig) → Buf (Elt F) ℓ) (c : Dev nD) : FVec F S2048x256 .f32 :=
  (k0_pay81 (val_v2 m c) (val_v24 m c) (val_v38 m c) (val_v55 m c) (val_v56 m c) (val_v1186 m c) (wblk m c 3 3))
def val_v1248 (m : (ℓ : Loc nD τ sig) → Buf (Elt F) ℓ) (c : Dev nD) : FVec F S2048x256 .f32 :=
  (k0_pay82 (val_v2 m c) (val_v24 m c) (val_v38 m c) (val_v55 m c) (val_v56 m c) (val_v1217 m c) (wblk m c 4 3))
def val_v1279 (m : (ℓ : Loc nD τ sig) → Buf (Elt F) ℓ) (c : Dev nD) : FVec F S2048x256 .f32 :=
  k0_pay83 (val_v2 m c) (val_v24 m c) (val_v38 m c) (val_v55 m c) (val_v56 m c) (val_v1248 m c) (wblk m c 5 3)
def val_v1293 (m : (ℓ : Loc nD τ sig) → Buf (Elt F) ℓ) (c : Dev nD) : FVec F S1024x256 .f32 :=
  k0_pay84 (wblk m c 6 3)
def val_v1310 (m : (ℓ : Loc nD τ sig) → Buf (Elt F) ℓ) (c : Dev nD) : FVec F S2048x256 .f32 :=
  k0_pay85 (val_v2 m c) (val_v24 m c) (val_v38 m c) (val_v55 m c) (val_v56 m c) (val_v1279 m c) (val_v1293 m c)
def val_v1319 (m : (ℓ : Loc nD τ sig) → Buf (Elt F) ℓ) (c : Dev nD) : FVec F S2048x256 .f32 :=
  k0_pay86 (val_v24 m c) (wblk m c 7 3)
def val_v1332 (m : (ℓ : Loc nD τ sig) → Buf (Elt F) ℓ) (c : Dev nD) : FVec F S2048x1 .f32 :=
  k0_pay87 (val_v2 m c) (val_v38 m c) (val_v55 m c) (val_v56 m c)
def val_c1_i32_1357 (m : (ℓ : Loc nD τ sig) → Buf (Elt F) ℓ) (c : Dev nD) : BitVec 32 :=
  1#32

/-! ## The chunks and the exchange -/

/-- The columns chunk `k` that device `c` stores: its own experts' sum. -/
def chunk (c : Dev nD) : Fin 4 → Vec F S2048x256 .f32
  | 0 => k0_pay28 (val_v274 m c) (val_v304 m c)
  | 1 => k0_pay48 (val_v2 m c) (val_v24 m c) (val_v38 m c) (val_v55 m c) (val_v56 m c) (val_v556 m c) (wblk m c 7 1)
  | 2 => k0_pay68 (val_v2 m c) (val_v24 m c) (val_v38 m c) (val_v55 m c) (val_v56 m c) (val_v912 m c) (wblk m c 7 2)
  | 3 => k0_pay88 (val_v1310 m c) (val_v1319 m c) (val_v1332 m c)

/-- Devices 0 and 1, and 2 and 3, exchange with each other. -/
def pairA (c : Dev nD) : Dev nD := (![1, 0, 3, 2] : Fin 4 → Fin 4) c
/-- Devices 0 and 3, and 1 and 2, exchange with each other. -/
def pairB (c : Dev nD) : Dev nD := (![3, 2, 1, 0] : Fin 4 → Fin 4) c
/-- Whom device `c` exchanges half `h` with at stage `s`. -/
def partner (c : Dev nD) (s h : Fin 2) : Dev nD := if s = h then pairA c else pairB c

/-- The two halves of the rows lie inside a column block. -/
theorem rowR_inb (h : Fin 2) : ∀ a, (![1024 * h.val, 0] : Fin 2 → ℕ) a + S1024x256.size a ≤ S2048x256.size a := by
  revert h; decide
/-- Half `h` of a chunk's rows. -/
abbrev rowR (h : Fin 2) : Rect S2048x256 := Rect.unit (s := S2048x256) ![1024 * h.val, 0] S1024x256.size (rowR_inb h)

/-- What a half chunk is sent as, and what it becomes when its partner's arrives. -/
abbrev stF (o : Vec F S1024x256 .f32) : FVec F S1x1x1x1024x256 .bf16 := k0_pay29 o
abbrev finF (o : Vec F S1024x256 .f32) (r : Vec F S1x1x1x1024x256 .bf16) : Vec F S1024x256 .f32 := k0_pay1 o r

/-- Half `h` of chunk `k` on device `c` after `n` of the two exchanges. -/
def outv : (n : ℕ) → Dev nD → Fin 2 → Fin 4 → Vec F S1024x256 .f32
  | 0, c, h, k => fun x => chunk m c k ((rowR h).emb x)
  | 1, c, h, k => finF (outv 0 c h k) (stF (outv 0 (partner c 0 h) h k))
  | n + 2, c, h, k => finF (outv (n + 1) c h k) (stF (outv (n + 1) (partner c 1 h) h k))
/-- What device `c` sends of it at stage `s`. -/
def sndv (c : Dev nD) (s h : Fin 2) (k : Fin 4) : FVec F S1x1x1x1024x256 .bf16 := stF (outv m s.val c h k)

/-! ## The values read back from the exchange -/

def val_v325 (m : (ℓ : Loc nD τ sig) → Buf (Elt F) ℓ) (c : Dev nD) : FVec F S1024x256 .bf16 :=
  (k0_pay30 (outv m 0 c 1 0))
def val_v604 (m : (ℓ : Loc nD τ sig) → Buf (Elt F) ℓ) (c : Dev nD) : FVec F S1024x256 .f32 :=
  k0_pay49 (outv m 0 c 0 0)
def val_v607 (m : (ℓ : Loc nD τ sig) → Buf (Elt F) ℓ) (c : Dev nD) : FVec F S1024x256 .f32 :=
  k0_pay50 (sndv m (partner c 0 0) 0 0 0)
def val_v625 (m : (ℓ : Loc nD τ sig) → Buf (Elt F) ℓ) (c : Dev nD) : FVec F S1024x256 .f32 :=
  (k0_pay52 (outv m 0 c 1 0))
def val_v648 (m : (ℓ : Loc nD τ sig) → Buf (Elt F) ℓ) (c : Dev nD) : FVec F S1024x256 .f32 :=
  (k0_pay55 (outv m 1 c 1 0))
def val_v1027 (m : (ℓ : Loc nD τ sig) → Buf (Elt F) ℓ) (c : Dev nD) : FVec F S1024x256 .f32 :=
  (k0_pay72 (outv m 0 c 1 1) (sndv m (partner c 0 1) 0 1 1))
def val_v1471 (m : (ℓ : Loc nD τ sig) → Buf (Elt F) ℓ) (c : Dev nD) : FVec F S1024x256 .bf16 :=
  (k0_pay96 (outv m 0 c 1 3))
def val_v1567 (m : (ℓ : Loc nD τ sig) → Buf (Elt F) ℓ) (c : Dev nD) : FVec F S1024x256 .f32 :=
  (k0_pay101 (outv m 0 c 1 3) (sndv m (partner c 0 1) 0 1 3))

end Cert.KernelIdeal.Moe
-- ==== Proof.KernelIdeal.Common.lean ====
/-
# `Common`: the protocol of the exchange, stated once for every device

Four devices exchange half chunks pairwise. For a stage `s`, a half `h` and a chunk `k` a device sends what it has of
the half chunk to `partner c s h` and receives the partner's. The transfers of chunk `k` use the semaphores and the
slots `(s, h, k mod 2)`, round `k / 2` of their cells.

* The barrier cell of a device has two duties at round 0, one per neighbour. A neighbour's signal hands over its receive
  slots for the stages and halves in which the two are partners.
* A send cell's round hands the device its send slot back.
* A receive cell's round hands the device its receive slot holding what its partner sent, and with chunks 1 and 2 the
  partner's receive slot that the device sends the next chunk to: the partner has read it by then.
-/
module

public import proofs.«01_k».proof.Proof.KernelIdeal.Vals
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's rounds, the local copies' counters -/

abbrev UB : Type := URounds (GSem nD τ sig) Bool
abbrev UC : Type := UB × Counters
abbrev UU : Type := UR sig nD τ × UC

local notation "𝕄" => MT nD τ sig (Fin 2) (Elt F) ℕ UU ℕ

abbrev EP : Emb (UR sig nD τ) (MT nD τ sig (Fin 2) (Elt F) ℕ UU ℕ) := embL
abbrev ER : Emb UB (MT nD τ sig (Fin 2) (Elt F) ℕ UU ℕ) := (Emb.inl : Emb UB UC).trans embR
abbrev EC : UEmb Counters (MT nD τ sig (Fin 2) (Elt F) ℕ UU ℕ) := countersEmb (U := UU)

variable (m : (ℓ : Loc nD τ sig) → Buf (Elt F) ℓ)

/-! ## Semaphores, slots, cells -/

/-- The parity of a chunk names its slot; its half, the round. -/
abbrev qOf (k : Fin 4) : Fin 2 := ⟨k.val % 2, Nat.mod_lt _ (by decide)⟩
abbrev rOf (k : Fin 4) : ℕ := k.val / 2
abbrev iOf (k : Fin 4) : Fin 2 := ⟨k.val / 2, by omega⟩

/-- The runtime's barrier semaphore. -/
abbrev barS : Sem sig := (SemArray.scalar (sig.barrier 0 rfl) : Sems sig S_).sem

/-- The send semaphores' numbers are in range. -/
theorem sendIx (s h q : Fin 2) : 6 + 4 * s.val + 2 * h.val + q.val < sig.nDmaSem := by revert s h q; decide
/-- The receive semaphores' numbers are in range. -/
theorem recvIx (s h q : Fin 2) : 14 + 4 * s.val + 2 * h.val + q.val < sig.nDmaSem := by revert s h q; decide
/-- The send and receive semaphores of stage `s`, half `h`, parity `q`. -/
def sendS (s h q : Fin 2) : DmaSem sig := ⟨6 + 4 * s.val + 2 * h.val + q.val, sendIx s h q⟩
def recvS (s h q : Fin 2) : DmaSem sig := ⟨14 + 4 * s.val + 2 * h.val + q.val, recvIx s h q⟩

abbrev barCell (c : Dev nD) : GSem nD τ sig := ((c : Thread nD τ), .reg barS)
abbrev sendCell (c : Dev nD) (s h q : Fin 2) : GSem nD τ sig := ((c : Thread nD τ), .dma (sendS s h q))
abbrev recvCell (c : Dev nD) (s h q : Fin 2) : GSem nD τ sig := ((c : Thread nD τ), .dma (recvS s h q))

/-- The slots lie inside the send and receive buffers. -/
theorem slotR_inb (s h q : Fin 2) : ∀ a, (![s.val, h.val, q.val, 0, 0] : Fin 5 → ℕ) a + S1x1x1x1024x256.size a ≤ S2x2x2x1024x256.size a := by
  revert s h q; decide
/-- The slot `(s, h, q)` of the send and the receive buffer. -/
abbrev slotR (s h q : Fin 2) : Rect S2x2x2x1024x256 :=
  Rect.unit (s := S2x2x2x1024x256) ![s.val, h.val, q.val, 0, 0] S1x1x1x1024x256.size (slotR_inb s h q)

/-- The bytes of a half chunk, as its transfer's semaphores count them. -/
def N : ℕ := ((vM : Memref sig .tc .vmem S2x2x2x1024x256 .bf16).access (slotR 0 0 0)).dmaCredit
/-- A transfer's credit is positive. -/
theorem N_pos : 0 < N := View.dmaCredit_pos _ (by decide)

/-! ## Rectangles of a buffer -/

/-- Device `c` holds the rectangle `r` of `M`, reading `V`. -/
def blk {sp : Space} {s : Shape} {e : EltTy} (M : Memref sig .tc sp s e) (r : Rect s) (c : Dev nD) (V : r.shape.Idx → Elt F e) : sProp 𝕄 :=
  iprop(∃ f : Buf (Elt F) ((M.access r : View sig .tc _ _ _).loc (c : Thread nD τ)), ⌜(M.access r : View sig .tc _ _ _).read (Elt F) f = V⌝
    ∗ ((M.access r : View sig .tc _ _ _).loc (c : Thread nD τ) ↦[(M.access r : View sig .tc _ _ _).set]{fullShare} f))
/-- Device `c` holds the rectangle `r` of `M`. -/
def anyBlk {sp : Space} {s : Shape} {e : EltTy} (M : Memref sig .tc sp s e) (r : Rect s) (c : Dev nD) : sProp 𝕄 :=
  iprop(∃ f : Buf (Elt F) ((M.access r : View sig .tc _ _ _).loc (c : Thread nD τ)),
    ((M.access r : View sig .tc _ _ _).loc (c : Thread nD τ) ↦[(M.access r : View sig .tc _ _ _).set]{fullShare} f))

omit [FloatOps F] in
/-- A block whose value is known is a block of some value. -/
theorem blk_any {sp : Space} {s : Shape} {e : EltTy} (M : Memref sig .tc sp s e) (r : Rect s) (c : Dev nD) (V : r.shape.Idx → Elt F e) :
    (blk M r c V : sProp 𝕄) ⊢ anyBlk M r c := by
  unfold blk anyBlk; iintro ⟨%f, -, H⟩; iexists f; iexact H

omit [FloatOps F] in
instance blk_storable {sp : Space} {s : Shape} {e : EltTy} (M : Memref sig .tc sp s e) (r : Rect s) (c : Dev nD) (V : r.shape.Idx → Elt F e) :
    BI.Storable (upEmb : UEmb _ 𝕄) (blk M r c V : sProp 𝕄) := by unfold blk; infer_instance
omit [FloatOps F] in
instance anyBlk_storable {sp : Space} {s : Shape} {e : EltTy} (M : Memref sig .tc sp s e) (r : Rect s) (c : Dev nD) :
    BI.Storable (upEmb : UEmb _ 𝕄) (anyBlk (F := F) M r c : sProp 𝕄) := by unfold anyBlk; infer_instance

/-! ## What the cells hand over -/

/-- Device `d`'s receive slot for chunk `k`, free, its receive cell at that chunk's round. -/
def pslot (d : Dev nD) (s h : Fin 2) (k : Fin 4) : sProp 𝕄 :=
  iprop(anyBlk vM (slotR s h (qOf k)) d ∗ reached ER (recvCell d s h (qOf k)) (rOf k))

/-- What comes along with chunk `k` of device `d`: its receive slot for the next chunk but one of its parity. -/
def give (d : Dev nD) (s h : Fin 2) : Fin 4 → sProp 𝕄
  | 0 => iprop(emp)
  | 1 => pslot d s h 2
  | 2 => pslot d s h 3
  | 3 => iprop(emp)

/-- What device `n` hands device `d` at the barrier: its receive slots wherever `d` is its partner. -/
def barOne (n d : Dev nD) (s h : Fin 2) : sProp 𝕄 := if partner n s h = d then iprop(pslot n s h 0 ∗ pslot n s h 1) else iprop(emp)
def barPay (n d : Dev nD) : sProp 𝕄 := iprop(barOne n d 0 0 ∗ barOne n d 0 1 ∗ barOne n d 1 0 ∗ barOne n d 1 1)

def sendPay (c : Dev nD) (s h q : Fin 2) : sProp 𝕄 := anyBlk sM (slotR s h q) c
def recvPay (c : Dev nD) (s h : Fin 2) (k : Fin 4) : sProp 𝕄 :=
  iprop(blk vM (slotR s h (qOf k)) c (sndv m (partner c s h) s h k) ∗ give (partner c s h) s h k)

instance pslot_storable (d : Dev nD) (s h : Fin 2) (k : Fin 4) : BI.Storable (upEmb : UEmb _ 𝕄) (pslot (F := F) d s h k) := by
  unfold pslot; infer_instance
instance give_storable (d : Dev nD) (s h : Fin 2) (k : Fin 4) : BI.Storable (upEmb : UEmb _ 𝕄) (give (F := F) d s h k) := by
  unfold give; split <;> infer_instance
instance barOne_storable (n d : Dev nD) (s h : Fin 2) : BI.Storable (upEmb : UEmb _ 𝕄) (barOne (F := F) n d s h) := by
  unfold barOne; split <;> infer_instance
instance barPay_storable (n d : Dev nD) : BI.Storable (upEmb : UEmb _ 𝕄) (barPay (F := F) n d) := by
  unfold barPay; infer_instance
instance sendPay_storable (c : Dev nD) (s h q : Fin 2) : BI.Storable (upEmb : UEmb _ 𝕄) (sendPay (F := F) c s h q) := by
  unfold sendPay; infer_instance
instance recvPay_storable (c : Dev nD) (s h : Fin 2) (k : Fin 4) : BI.Storable (upEmb : UEmb _ 𝕄) (recvPay m c s h k) := by
  unfold recvPay; infer_instance

/-- The device that signals duty `b` of a barrier cell. -/
def nbr (c : Dev nD) (b : Bool) : Dev nD := if b then pairA c else pairB c

/-- The first pairing is its own inverse. -/
theorem pairA_pairA (c : Dev nD) : pairA (pairA c) = c := by revert c; decide
/-- The second pairing is its own inverse. -/
theorem pairB_pairB (c : Dev nD) : pairB (pairB c) = c := by revert c; decide
/-- Being the neighbour on a given side goes both ways. -/
theorem nbr_nbr (c : Dev nD) (b : Bool) : nbr (nbr c b) b = c := by revert c b; decide
/-- The partner's partner is the device itself. -/
theorem partner_partner (c : Dev nD) (s h : Fin 2) : partner (partner c s h) s h = c := by revert c s h; decide

/-! ## The schedule -/

/-- A number's last binary digit. -/
def dg (n : ℕ) : Fin 2 := ⟨n % 2, Nat.mod_lt _ (by decide)⟩
/-- The chunk of parity `q` at round `r`. -/
def kOf (q : Fin 2) (r : ℕ) : Fin 4 := ⟨(q.val + 2 * r) % 4, Nat.mod_lt _ (by decide)⟩

/-- A barrier cell has one round with two duties of a unit each; a send or a receive cell two rounds with one duty of
    a half chunk's bytes. -/
def exRd : Rounds.Schedule (GSem nD τ sig) Bool 𝕄 where
  duties g r := if g.1.2 = .tc then (match g.2 with
    | .reg _ => if r = 0 then Finset.univ else ∅
    | .dma i => if 6 ≤ i.val ∧ r < 2 then {false} else ∅) else ∅
  unitless _ := False
  amount g _ _ := match g.2 with
    | .reg _ => 1
    | .dma _ => N
  payload g r d := match g.2 with
    | .reg _ => barPay (nbr g.1.1 d) g.1.1
    | .dma i => if 14 ≤ i.val then recvPay m g.1.1 (dg ((i.val - 14) / 4)) (dg ((i.val - 14) / 2)) (kOf (dg (i.val - 14)) r)
        else sendPay g.1.1 (dg ((i.val - 6) / 4)) (dg ((i.val - 6) / 2)) (dg (i.val - 6))
  amount_pos g _ _ _ := by
    split
    · exact Nat.one_pos
    · exact N_pos

instance exRd_payload_storable (g : GSem nD τ sig) (r : ℕ) (d : Bool) : BI.Storable (upEmb : UEmb _ 𝕄) ((exRd m).payload g r d) := by
  show BI.Storable upEmb (match g.2 with
    | .reg _ => barPay (nbr g.1.1 d) g.1.1
    | .dma i => if 14 ≤ i.val then recvPay m g.1.1 (dg ((i.val - 14) / 4)) (dg ((i.val - 14) / 2)) (kOf (dg (i.val - 14)) r)
        else sendPay g.1.1 (dg ((i.val - 6) / 4)) (dg ((i.val - 6) / 2)) (dg (i.val - 6)))
  (repeat' split) <;> infer_instance

section Sched
variable (c : Dev nD) (s h q : Fin 2)

/-- A barrier cell's first round has both neighbours' duties. -/
theorem duties_bar : (exRd m).duties (barCell c) 0 = Finset.univ := rfl
/-- A send cell has one duty in each of its two rounds. -/
theorem duties_send (r : ℕ) (hr : r < 2) : (exRd m).duties (sendCell c s h q) r = {false} := by
  dsimp only [exRd]; rw [if_pos rfl]; exact if_pos ⟨by dsimp only [sendS]; omega, hr⟩
/-- A receive cell has one duty in each of its two rounds. -/
theorem duties_recv (r : ℕ) (hr : r < 2) : (exRd m).duties (recvCell c s h q) r = {false} := by
  dsimp only [exRd]; rw [if_pos rfl]; exact if_pos ⟨by dsimp only [recvS]; omega, hr⟩
/-- A barrier cell has no duty after its first round. -/
theorem duties_bar_later : ∀ r, 1 ≤ r → (exRd m).duties (barCell c) r = ∅ := fun r hr => by
  dsimp only [exRd]; rw [if_pos rfl]; exact if_neg (by omega)
/-- No cell has a duty after its second round. -/
theorem duties_later (g : GSem nD τ sig) : ∀ r, 2 ≤ r → (exRd m).duties g r = ∅ := fun r hr => by
  dsimp only [exRd]
  by_cases h : g.1.2 = .tc
  · rw [if_pos h]
    cases g.2 with
    | reg _ => exact if_neg (by omega)
    | dma i => exact if_neg (by omega)
  · rw [if_neg h]

/-- A duty of a barrier cell is one unit. -/
theorem amount_bar (r : ℕ) (d : Bool) : (exRd m).amount (barCell c) r d = 1 := rfl
/-- A duty of a send cell is a transfer's credit. -/
theorem amount_send (r : ℕ) (d : Bool) : (exRd m).amount (sendCell c s h q) r d = N := rfl
/-- A duty of a receive cell is a transfer's credit. -/
theorem amount_recv (r : ℕ) (d : Bool) : (exRd m).amount (recvCell c s h q) r d = N := rfl

/-- A barrier cell awaits two units. -/
theorem expect_bar : (exRd m).expect (barCell c) 0 = 2 := by
  unfold Schedule.expect Schedule.amountOf
  rw [duties_bar, Finset.sum_congr rfl fun d _ => amount_bar m c 0 d, Finset.sum_const, Finset.card_univ, Fintype.card_bool, smul_eq_mul]
/-- A send cell awaits a transfer's credit each round. -/
theorem expect_send (r : ℕ) (hr : r < 2) : (exRd m).expect (sendCell c s h q) r = N := by
  unfold Schedule.expect Schedule.amountOf; rw [duties_send m c s h q r hr, Finset.sum_singleton, amount_send]
/-- A receive cell awaits a transfer's credit each round. -/
theorem expect_recv (r : ℕ) (hr : r < 2) : (exRd m).expect (recvCell c s h q) r = N := by
  unfold Schedule.expect Schedule.amountOf; rw [duties_recv m c s h q r hr, Finset.sum_singleton, amount_recv]

/-- A barrier signal brings what the neighbour hands over. -/
theorem payload_bar (b : Bool) : (exRd m).payload (barCell c) 0 b = barPay (nbr c b) c := rfl
/-- A send cell gives back its send slot. -/
theorem payload_send (r : ℕ) (d : Bool) : (exRd m).payload (sendCell c s h q) r d = sendPay c s h q := by
  fin_cases s <;> fin_cases h <;> fin_cases q <;> rfl
/-- A receive cell brings the chunk that arrived, with what comes along. -/
theorem payload_recv (k : Fin 4) (d : Bool) : (exRd m).payload (recvCell c s h (qOf k)) (rOf k) d = recvPay m c s h k := by
  fin_cases s <;> fin_cases h <;> fin_cases k <;> rfl

/-- What a barrier cell brings in all: both neighbours' parts. -/
theorem rest_bar : bigSep ((exRd m).duties (barCell c) 0 \ ∅) (fun d => (exRd m).payload (barCell c) 0 d)
    = iprop(barPay (pairB c) c ∗ barPay (pairA c) c) := by
  rw [Finset.sdiff_empty, duties_bar, bigSep_univ_eq_bigSepL [false, true] (by decide) (by decide), bigSepL_cons_cons, bigSepL_singleton,
    payload_bar, payload_bar]
  rfl
/-- What a send cell brings in all in a round: its slot. -/
theorem rest_send (r : ℕ) (hr : r < 2) : bigSep ((exRd m).duties (sendCell c s h q) r \ ∅) (fun d => (exRd m).payload (sendCell c s h q) r d)
    = sendPay c s h q := by
  rw [Finset.sdiff_empty, duties_send m c s h q r hr, bigSep_singleton, payload_send]
/-- What a receive cell brings in all in a chunk's round: that chunk's part. -/
theorem rest_recv (k : Fin 4) : bigSep ((exRd m).duties (recvCell c s h (qOf k)) (rOf k) \ ∅)
      (fun d => (exRd m).payload (recvCell c s h (qOf k)) (rOf k) d) = recvPay m c s h k := by
  rw [Finset.sdiff_empty, duties_recv m c s h (qOf k) (rOf k) (by show k.val / 2 < 2; omega), bigSep_singleton, payload_recv]

end Sched

/-! ## What a device owes; the levels -/

/-- A transfer to come: stage, half, chunk. -/
abbrev Xfer : Type := Fin 2 × Fin 2 × Fin 4

/-- The units a device owes its partners' receive cells for the transfers to come. -/
def owedX (c : Dev nD) : List Xfer → CellTallies nD τ sig (Fin 2)
  | [] => 0
  | x :: xs => owedX c xs + tallyAt (recvCell (partner c x.1 x.2.1) x.1 x.2.1 (qOf x.2.2)) (iOf x.2.2) N

/-- All of them, in the order they are sent. -/
def allX : List Xfer :=
  [(0,0,0), (0,1,0), (1,0,0), (1,1,0), (0,0,1), (0,1,1), (1,0,1), (1,1,1),
   (0,0,2), (0,1,2), (1,0,2), (1,1,2), (0,0,3), (0,1,3), (1,0,3), (1,1,3)]

def L (g : GSem nD τ sig) : Finset (Fin 2) := if g.1.2 = .tc then Finset.univ else ∅
/-- Barrier cells at 1; a receive cell by the chunk and the stage awaited; everything else at 0. -/
def lv (g : GSem nD τ sig) (ι : Fin 2) : ℕ := match g.2 with
  | .reg _ => 1
  | .dma i => if 14 ≤ i.val then 2 + 2 * (kOf (dg (i.val - 14)) ι.val).val + (dg ((i.val - 14) / 4)).val else 0

/-- Only the devices' main cores have tallies. -/
theorem L_of_ne (g : GSem nD τ sig) (h : g.1.2 ≠ .tc) : L g = ∅ := if_neg h
/-- On the main cores both tallies are in use. -/
theorem L_tc (c : Dev nD) (sm : SemLoc sig) : L ((c : Thread nD τ), sm) = Finset.univ := if_pos rfl

/-- A receive cell's level: it grows with the chunk, then with the stage. -/
theorem lv_recv (c : Dev nD) (s h : Fin 2) (k : Fin 4) : lv (recvCell c s h (qOf k)) (iOf k) = 2 + 2 * k.val + s.val := by
  fin_cases s <;> fin_cases h <;> fin_cases k <;> rfl

/-- What is owed for a list of transfers is owed to the receive cell of one of them. -/
theorem owedX_pos {c : Dev nD} {g : GSem nD τ sig} {u : Fin 2} {xs : List Xfer} (h : 0 < owedX c xs g u) :
    ∃ x ∈ xs, g = recvCell (partner c x.1 x.2.1) x.1 x.2.1 (qOf x.2.2) ∧ u = iOf x.2.2 := by
  induction xs with
  | nil => exact absurd h (Nat.lt_irrefl 0)
  | cons x xs ih =>
    unfold owedX at h
    rw [Pi.add_apply, Finsupp.add_apply, tallyAt_apply] at h
    by_cases hx : g = recvCell (partner c x.1 x.2.1) x.1 x.2.1 (qOf x.2.2) ∧ u = iOf x.2.2
    · exact ⟨x, List.mem_cons_self, hx⟩
    · rw [if_neg hx, Nat.add_zero] at h
      obtain ⟨y, hy, hg⟩ := ih h
      exact ⟨y, List.mem_cons_of_mem _ hy, hg⟩

/-- A device may wait on one of its cells at level `b` while the transfers it still owes are awaited above it. -/
theorem mayWait_owedX (c : Dev nD) (sm : SemLoc sig) (ι : Fin 2) (b : ℕ) (xs : List Xfer) (hb : lv ((c : Thread nD τ), sm) ι ≤ b)
    (hxs : ∀ x ∈ xs, b < 2 + 2 * x.2.2.val + x.1.val) :
    (levAts L lv : sProp 𝕄) ⊢ MayWait (c : Thread nD τ) sm ι (owedX c xs) :=
  MayOwe.of_cut (L := L) (lev := lv) b (fun p hp => by rw [Finset.mem_singleton.mp hp, L_tc]; exact Finset.mem_univ _)
    (fun g u hg => by obtain ⟨x, -, rfl, rfl⟩ := owedX_pos hg; rw [L_tc]; exact Finset.mem_univ _)
    (fun p hp => by rw [Finset.mem_singleton.mp hp]; exact hb)
    (fun g u hg => by obtain ⟨x, hx, rfl, rfl⟩ := owedX_pos hg; rw [lv_recv]; exact hxs x hx)

end Cert.KernelIdeal.Moe
-- ==== Proof.KernelIdeal.Steps.lean ====
/-
# `Steps`: the effects of the body, one lemma each

Loads and stores of a rectangle, the local copies of the expert weights, and a transfer's four steps: its start, the wait
for the send, the wait for the receive, and what is held between them.
-/
module

public import proofs.«01_k».proof.Proof.KernelIdeal.Common
public import Idealize.ShloMosaic.Lib.ViewIndex

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (Fin 2) (Elt F) ℕ UU ℕ

variable (m : (ℓ : Loc nD τ sig) → Buf (Elt F) ℓ)

abbrev 𝒱₀ : Variants := Variants.none

/-- The weakest precondition of a program of device `c`'s core. -/
abbrev wpD (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Basic

variable {α : Type} (c : Dev nD)

/-- A load of a rectangle held with its contents. -/
theorem ld_blk {cs : CoreSpace} {s : Shape} {e : EltTy} {M : Memref sig .tc cs s e} {r : Rect s} {V : r.shape.Idx → Elt F e}
    {hl : M.view.LoadsAt r.toLoadRect} {k : (r.shape.Idx → Elt F e) → Prog (TpuEff nD τ sig (Elt F) Λ₀ .tc) α} {Q : α → sProp 𝕄} :
    (blk M r c V : sProp 𝕄) ⊢ iprop((blk M r c V -∗ wpD c (k V) Q) -∗ wpD c (.op (.load M r.toLoadRect hl) k) Q) := by
  unfold blk
  iintro ⟨%f, %hf, H⟩ Hk
  subst hf
  have hS : ((M.access r : View sig .tc _ _ _).set : Finset (Idx ((M.access r : View sig .tc _ _ _).loc (c : Thread nD τ)))) ⊆ (M.access r : View sig .tc _ _ _).set :=
    Finset.Subset.refl _
  iapply (wp_load_rect 𝒱₀ (c : Thread nD τ) none Set.univ (m := M) (r := r) (hl := hl) hS) $$ H
  iintro H
  iapply Hk
  iexists f
  isplitr; · (ipureintro; rfl)
  iexact H

/-- A load of a rectangle held with any contents, whose value isn't used. -/
theorem ld_any {cs : CoreSpace} {s : Shape} {e : EltTy} {M : Memref sig .tc cs s e} {r : Rect s}
    {hl : M.view.LoadsAt r.toLoadRect} {k : (r.shape.Idx → Elt F e) → Prog (TpuEff nD τ sig (Elt F) Λ₀ .tc) α} {Q : α → sProp 𝕄} :
    (anyBlk M r c : sProp 𝕄) ⊢ iprop((∀ V, anyBlk M r c -∗ wpD c (k V) Q) -∗ wpD c (.op (.load M r.toLoadRect hl) k) Q) := by
  unfold anyBlk
  iintro ⟨%f, H⟩ Hk
  have hS : ((M.access r : View sig .tc _ _ _).set : Finset (Idx ((M.access r : View sig .tc _ _ _).loc (c : Thread nD τ)))) ⊆ (M.access r : View sig .tc _ _ _).set :=
    Finset.Subset.refl _
  iapply (wp_load_rect 𝒱₀ (c : Thread nD τ) none Set.univ (m := M) (r := r) (hl := hl) hS) $$ H
  iintro H
  iapply Hk
  iexists f
  iexact H

/-- A store to a rectangle. -/
theorem st_any {cs : CoreSpace} {s : Shape} {e : EltTy} {M : Memref sig .tc cs s e} {r : Rect s}
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (anyBlk M r c : sProp 𝕄) ⊢ iprop((blk M r c w -∗ wpD c (k ⟨⟩) Q) -∗ wpD c (.op (.store M r w Finset.univ hx hm) k) Q) := by
  unfold anyBlk blk
  iintro ⟨%f, H⟩ Hk
  have hS : ((M.access r : View sig .tc _ _ _).setOn Finset.univ : Finset (Idx ((M.access r : View sig .tc _ _ _).loc (c : Thread nD τ)))) ⊆ (M.access r : View sig .tc _ _ _).set := by
    rw [View.setOn_univ]
  iapply (wp_store 𝒱₀ (c : Thread nD τ) none Set.univ (m := M) (r := r) (Mk := Finset.univ) hS) $$ H
  iintro H
  iapply Hk
  iexists (M.access r : View sig .tc _ _ _).write (Elt F) f w Finset.univ
  isplitr; · (ipureintro; exact View.read_write_univ _ _)
  iexact H

end Basic

/-! ## What a device owes -/

/-- Device `c` owes the transfers `xs`. -/
def ow (c : Dev nD) (xs : List Xfer) : sProp 𝕄 := iprop(∃ W : Waits sig (Fin 2), owes (c : Thread nD τ) (owedX c xs) W)

/-! ## The local copies of the weights -/

abbrev ewS (p : Fin 2) : DmaSem sig := ⟨4 + p.val, by revert p; decide⟩
/-- The slots lie inside the weights' buffer. -/
theorem slotE_inb (p : Fin 2) : ∀ a, (![p.val, 0, 0] : Fin 3 → ℕ) a + S1x1024x256.size a ≤ S2x1024x256.size a := by revert p; decide
/-- The slot of parity `p` of the weights' buffer. -/
abbrev slotE (p : Fin 2) : Rect S2x1024x256 := Rect.unit (s := S2x1024x256) ![p.val, 0, 0] S1x1024x256.size (slotE_inb p)

def NE : ℕ := ((eM : Memref sig .tc .vmem S2x1024x256 .f32).access (slotE 0)).dmaCredit
/-- The credit of a weights' copy is positive. -/
theorem NE_pos : 0 < NE := View.dmaCredit_pos _ (by decide)

/-- The share of the weights that the copies into slot `p` read from. -/
def qE (p : Fin 2) : PosShare TreeShare := if p = 0 then fullShare.left else fullShare.right

abbrev wLoc (c : Dev nD) : Loc nD τ sig := (wM : Memref sig .tc .hbm S8x1024x1024 .f32).view.loc (c : Thread nD τ)

/-- Slot `p`'s semaphore is at rest. -/
def ewIdle (c : Dev nD) (p : Fin 2) : sProp 𝕄 :=
  iprop(semVal ((c : Thread nD τ), .dma (ewS p)) 0 ∗ (wLoc c ↦{qE p} m (wLoc c)))
/-- Slot `p` is being filled with the weights of expert `e` for chunk `k`. -/
def ewBusy (c : Dev nD) (p : Fin 2) (e : Fin 8) (k : Fin 4) : sProp 𝕄 :=
  iprop(Transfers.Flight EC (c : Thread nD τ) (.dma (ewS p)) 0 NE iprop(blk eM (slotE p) c (wblk m c e k)
    ∗ (((wM : Memref sig .tc .hbm S8x1024x1024 .f32).access (wR e k) : View sig .tc _ _ _).loc (c : Thread nD τ)
        ↦[((wM : Memref sig .tc .hbm S8x1024x1024 .f32).access (wR e k) : View sig .tc _ _ _).set]{qE p} m (wLoc c)))
    ∗ (wLoc c ↦[Finset.univ \ ((wM : Memref sig .tc .hbm S8x1024x1024 .f32).access (wR e k) : View sig .tc _ _ _).set]{qE p} m (wLoc c)))

/-- What a view reads once another's elements were written through a re-indexing of both. -/
theorem read_landed {κ κ' : Kind} {sp sp' : Space} {s s' : Shape} {e : EltTy} (v : View sig κ sp s e) (v' : View sig κ' sp' s e) (h h' : s'.numel = s.numel)
    (f : v.ty.Contents (Elt F)) (g : v'.ty.Contents (Elt F)) :
    v.read (Elt F) ((v.reshape s' h).write (Elt F) f ((v'.reshape s' h').read (Elt F) g) Finset.univ) = v'.read (Elt F) g := by
  funext y
  obtain ⟨x, rfl⟩ := (Shape.reshapeEquiv h).surjective y
  rw [View.read_write_reshape]
  rfl

section Ew

variable {α : Type} (c : Dev nD) (p : Fin 2) (e : Fin 8) (k : Fin 4)

abbrev wSq (e : Fin 8) (k : Fin 4) : Memref sig .tc .hbm S1024x256 .f32 :=
  ((wM : Memref sig .tc .hbm S8x1024x1024 .f32).slice (wR e k) (fun _ => rfl) : Memref sig .tc .hbm S1x1024x256 .f32).squeeze S1024x256 squeezes_S1x1024x256_S1024x256
abbrev eSq (p : Fin 2) : Memref sig .tc .vmem S1024x256 .f32 :=
  ((eM : Memref sig .tc .vmem S2x1024x256 .f32).slice (slotE p) (fun _ => rfl) : Memref sig .tc .vmem S1x1024x256 .f32).squeeze S1024x256 squeezes_S1x1024x256_S1024x256

/-- A copy of a block of weights into a slot starts: the slot and the share of the weights go into it. -/
theorem ew_start {sm : DmaSem sig} (hsm : sm = ewS p) {h1 : (wSq e k).view.WordExact} {h2 : (eSq p).view.WordExact}
    {h3 : DmaTarget.Typed (nD := nD) (τ := τ) (p := .tc) .hbm (.dma sm) (.here (eSq p))}
    {K : PUnit → Prog (TpuEff nD τ sig (Elt F) Λ₀ .tc) α} {Q : α → sProp 𝕄} :
    iprop(ewIdle m c p ∗ anyBlk eM (slotE p) c)
      ⊢ iprop((ewBusy m c p e k -∗ wpD c (K ⟨⟩) Q) -∗ wpD c (.op (.enqueueDma (wSq e k) (.here (eSq p)) (.dma sm) h1 h2 h3) K) Q) := by
  subst hsm
  have hset : ((eSq p).view.set : Finset (Idx ((eSq p).view.loc (c : Thread nD τ)))) = ((eM : Memref sig .tc .vmem S2x1024x256 .f32).access (slotE p) : View sig .tc _ _ _).set :=
    View.set_reshape _ _
  have hsetw : ((wSq e k).view.set : Finset (Idx ((wSq e k).view.loc (c : Thread nD τ)))) = ((wM : Memref sig .tc .hbm S8x1024x1024 .f32).access (wR e k) : View sig .tc _ _ _).set :=
    View.set_reshape _ _
  unfold ewIdle anyBlk ewBusy
  iintro ⟨⟨Hv, HW⟩, ⟨%f, He⟩⟩ Hk
  ihave HW := (pointsTo_split_subset (Finset.subset_univ ((wSq e k).view.set))).1 $$ HW
  icases HW with ⟨HW, HWr⟩
  iapply (Transfers.wp_dmaLocal EC 𝒱₀ (c : Thread nD τ) none (src := wSq e k) (dst := eSq p) (via := .same) (fs := m (wLoc c)) (fd := f) (q := qE p)
      (Sd := (eSq p).view.set) 0 NE (by fin_cases p <;> rfl) NE_pos (Finset.Subset.refl _)) $$ [HW He Hv]
  · isplitl [HW]; · iexact HW
    isplitl [He]; · rw [hset]; iexact He
    iexact Hv
  iintro HF
  iapply Hk
  isplitl [HF]
  · iapply (Transfers.Flight_mono EC (c : Thread nD τ) ?_) $$ HF
    unfold blk
    iintro ⟨He, HW⟩
    isplitl [He]
    · iexists _
      isplitr
      rotate_left
      · rw [hset]; iexact He
      ipureintro
      exact read_landed _ _ _ _ _ _
    · rw [hsetw]; iexact HW
  · rw [hsetw]; iexact HWr

/-- The wait for it: the slot comes back holding the block, and the share of the weights. -/
theorem ew_wait {sm : DmaSem sig} (hsm : sm = ewS p) {h1 : (wSq e k).view.WordExact} {h2 : (eSq p).view.WordExact} (xs : List Xfer)
    {K : PUnit → Prog (TpuEff nD τ sig (Elt F) Λ₀ .tc) α} {Q : α → sProp 𝕄} :
    iprop(levAts L lv ∗ ewBusy m c p e k ∗ ow c xs)
      ⊢ iprop((iprop(ewIdle m c p ∗ blk eM (slotE p) c (wblk m c e k) ∗ ow c xs) -∗ wpD c (K ⟨⟩) Q)
        -∗ wpD c (.op (.waitDma2 sm (wSq e k) (eSq p) h1 h2) K) Q) := by
  subst hsm
  unfold ewIdle ewBusy ow
  iintro ⟨#Hlev, ⟨HF, HWr⟩, %W, HO⟩ Hk
  iapply (Transfers.wp_waitLocalO EC 𝒱₀ (c : Thread nD τ) none (sem := ewS p) (srcw := wSq e k) (dstw := eSq p) (O := owedX c xs) (W := W) 0 (N := NE) (by fin_cases p <;> rfl)) $$ [HF HO]
  · isplitl [HF]; · iexact HF
    isplitl [HO]; · iexact HO
    iapply (mayWait_owedX c (.dma (ewS p)) 0 0 xs (by fin_cases p <;> exact Nat.le_refl 0) (fun x _ => by omega)); iexact Hlev
  iintro ⟨⟨He, HW⟩, Hv, HO⟩
  iapply Hk
  isplitl [Hv HW HWr]
  · isplitl [Hv]; · iexact Hv
    iapply (pointsTo_split_subset (Finset.subset_univ _)).2
    isplitl [HW]; · iexact HW
    iexact HWr
  isplitl [He]; · iexact He
  iexists _
  iexact HO
end Ew

/-! ## The cells and their invariants -/

/-- A device's seventeen cells: the barrier's, the eight sends', the eight receives'. -/
def csem (j : Fin 17) : SemLoc sig := if j.val = 0 then .reg barS else .dma ⟨5 + j.val, by show 5 + j.val < 22; omega⟩
abbrev kcell (ck : Dev nD × Fin 17) : GSem nD τ sig := ((ck.1 : Thread nD τ), csem ck.2)
def sIx (s h q : Fin 2) : Fin 17 := ⟨1 + 4 * s.val + 2 * h.val + q.val, by omega⟩
def rIx (s h q : Fin 2) : Fin 17 := ⟨9 + 4 * s.val + 2 * h.val + q.val, by omega⟩

/-- Cell number zero is the barrier. -/
theorem kcell_bar (c : Dev nD) : kcell (c, 0) = barCell c := rfl
/-- The cell numbered for a send slot is its send semaphore. -/
theorem kcell_send (c : Dev nD) (s h q : Fin 2) : kcell (c, sIx s h q) = sendCell c s h q := by
  fin_cases s <;> fin_cases h <;> fin_cases q <;> rfl
/-- The cell numbered for a receive slot is its receive semaphore. -/
theorem kcell_recv (c : Dev nD) (s h q : Fin 2) : kcell (c, rIx s h q) = recvCell c s h q := by
  fin_cases s <;> fin_cases h <;> fin_cases q <;> rfl

/-- Every cell's invariant, named by `K`. -/
def invs (K : Dev nD × Fin 17 → ℕ) : sProp 𝕄 :=
  bigSep Finset.univ fun ck : Dev nD × Fin 17 => cellInv ER (exRd m) (K ck) (kcell ck)

instance invs_persistent (K : Dev nD × Fin 17 → ℕ) : BI.Persistent (invs m K) := by unfold invs; infer_instance

/-- Of all the invariants, any one cell's. -/
theorem inv_at (K : Dev nD × Fin 17 → ℕ) (ck : Dev nD × Fin 17) : invs m K ⊢ cellInv ER (exRd m) (K ck) (kcell ck) := by
  unfold invs; exact bigSep_elim (Finset.mem_univ ck)
/-- Of all the invariants, a barrier cell's. -/
theorem inv_bar (K : Dev nD × Fin 17 → ℕ) (c : Dev nD) : invs m K ⊢ cellInv ER (exRd m) (K (c, 0)) (barCell c) := inv_at m K (c, 0)
/-- Of all the invariants, a send cell's. -/
theorem inv_send (K : Dev nD × Fin 17 → ℕ) (c : Dev nD) (s h q : Fin 2) : invs m K ⊢ cellInv ER (exRd m) (K (c, sIx s h q)) (sendCell c s h q) := by
  rw [← kcell_send]; exact inv_at m K (c, sIx s h q)
/-- Of all the invariants, a receive cell's. -/
theorem inv_recv (K : Dev nD × Fin 17 → ℕ) (c : Dev nD) (s h q : Fin 2) : invs m K ⊢ cellInv ER (exRd m) (K (c, rIx s h q)) (recvCell c s h q) := by
  rw [← kcell_recv]; exact inv_at m K (c, rIx s h q)

/-! ## A transfer -/

section Xfer

variable {α : Type} (K : Dev nD × Fin 17 → ℕ) (c : Dev nD) (s h : Fin 2) (k : Fin 4)

/-- The duties of transfer `k`: the send cell's and the partner's receive cell's, and the credit of the receive awaited. -/
def tok (c : Dev nD) (s h : Fin 2) (k : Fin 4) : sProp 𝕄 :=
  iprop(dutyTok ER (sendCell c s h (qOf k)) (rOf k) false ∗ dutyTok ER (recvCell (partner c s h) s h (qOf k)) (rOf k) false
    ∗ cred (tallyAt (recvCell c s h (qOf k)) (iOf k) N))
/-- Both cells of the slot `(s, h, q)` are at round `r`. -/
def pos (c : Dev nD) (s h q : Fin 2) (r : ℕ) : sProp 𝕄 :=
  iprop(atPos ER (sendCell c s h q) r ∅ 0 ∗ reached ER (sendCell c s h q) r ∗ atPos ER (recvCell c s h q) r ∅ 0)
/-- Transfer `k` is under way. -/
def fly (c : Dev nD) (s h : Fin 2) (k : Fin 4) : sProp 𝕄 :=
  iprop(cred (tallyAt (sendCell c s h (qOf k)) 0 N) ∗ cred (tallyAt (recvCell c s h (qOf k)) (iOf k) N) ∗ pos c s h (qOf k) (rOf k))
/-- It is sent; the partner's is awaited. -/
def mid (c : Dev nD) (s h : Fin 2) (k : Fin 4) : sProp 𝕄 :=
  iprop(cred (tallyAt (recvCell c s h (qOf k)) (iOf k) N)
    ∗ atPos ER (sendCell c s h (qOf k)) (rOf k + 1) ∅ 0 ∗ reached ER (sendCell c s h (qOf k)) (rOf k + 1) ∗ atPos ER (recvCell c s h (qOf k)) (rOf k) ∅ 0)
/-- The receive slot holds what the partner sent. -/
def got (c : Dev nD) (s h : Fin 2) (k : Fin 4) : sProp 𝕄 := blk vM (slotR s h (qOf k)) c (sndv m (partner c s h) s h k)

abbrev sSq (s h q : Fin 2) : Memref sig .tc .vmem S1024x256 .bf16 :=
  ((sM : Memref sig .tc .vmem S2x2x2x1024x256 .bf16).slice (slotR s h q) (fun _ => rfl) : Memref sig .tc .vmem S1x1x1x1024x256 .bf16).squeeze S1024x256 squeezes_S1x1x1x1024x256_S1024x256
abbrev vSq (s h q : Fin 2) : Memref sig .tc .vmem S1024x256 .bf16 :=
  ((vM : Memref sig .tc .vmem S2x2x2x1024x256 .bf16).slice (slotR s h q) (fun _ => rfl) : Memref sig .tc .vmem S1x1x1x1024x256 .bf16).squeeze S1024x256 squeezes_S1x1x1x1024x256_S1024x256

/-- Every chunk falls in one of two rounds. -/
theorem rOf_lt (k : Fin 4) : rOf k < 2 := by show k.val / 2 < 2; omega

/-- A send slot with its unit axes dropped covers the same elements. -/
theorem set_sSq (q : Fin 2) (c : Dev nD) : ((sSq s h q).view.set : Finset (Idx ((sSq s h q).view.loc (c : Thread nD τ))))
    = ((sM : Memref sig .tc .vmem S2x2x2x1024x256 .bf16).access (slotR s h q) : View sig .tc _ _ _).set := View.set_reshape _ _
/-- A receive slot with its unit axes dropped covers the same elements. -/
theorem set_vSq (q : Fin 2) (c : Dev nD) : ((vSq s h q).view.set : Finset (Idx ((vSq s h q).view.loc (c : Thread nD τ))))
    = ((vM : Memref sig .tc .vmem S2x2x2x1024x256 .bf16).access (slotR s h q) : View sig .tc _ _ _).set := View.set_reshape _ _

/-- Transfer `k` starts. -/
theorem xf_start {n : Dev nD} (hn : n = partner c s h) {q : Fin 2} (hq : q = qOf k) {ss sr : DmaSem sig} (hss : ss = sendS s h q) (hsr : sr = recvS s h q) (xs : List Xfer)
    {hsc : (vSq s h q).view.ref.isScScratch = false} {h1 : (sSq s h q).view.WordExact} {h2 : (vSq s h q).view.WordExact}
    {h3 : DmaTarget.Typed (nD := nD) (τ := τ) (p := .tc) .vmem (.dma sr) (.remote (Dev.tc n) (vSq s h q) (.dma ss) hsc)}
    {kk : PUnit → Prog (TpuEff nD τ sig (Elt F) Λ₀ .tc) α} {Q : α → sProp 𝕄} :
    iprop(invs m K ∗ tok c s h k ∗ pos c s h q (rOf k) ∗ blk sM (slotR s h q) c (sndv m c s h k) ∗ pslot (partner c s h) s h k ∗ give c s h k ∗ ow c ((s, h, k) :: xs))
      ⊢ iprop((iprop(fly c s h k ∗ ow c xs) -∗ wpD c (kk ⟨⟩) Q)
        -∗ wpD c (.op (.enqueueDma (sSq s h q) (.remote (Dev.tc n) (vSq s h q) (.dma ss) hsc) (.dma sr) h1 h2 h3) kk) Q) := by
  subst hn hq hss hsr
  unfold fly tok pos blk pslot anyBlk ow
  iintro ⟨#HI, ⟨HtS, HtR, HcR⟩, ⟨HaS, #HrS, HaR⟩, ⟨%fs, %hfs, Hs⟩, ⟨⟨%fd, Hd⟩, #HrR⟩, Hg, %W, HO⟩ Hk
  iapply (Rounds.wp_send_pointsTo_with 𝒱₀ ER (exRd m) (c : Thread nD τ) none (src := sSq s h (qOf k)) (dst := vSq s h (qOf k))
    (c' := (partner c s h : Thread nD τ)) (κ₁ := K (c, sIx s h (qOf k))) (κ₂ := K (partner c s h, rIx s h (qOf k)))
    (sS := .dma (sendS s h (qOf k))) (sem := .dma (recvS s h (qOf k)))
    (r₁ := rOf k) (r₂ := rOf k) (d₁ := false) (d₂ := false) (fd := fd) (fs := fs) (q := fullShare) (F := give c s h k)
    (by rw [duties_send m c s h (qOf k) (rOf k) (rOf_lt k)]; exact Finset.mem_singleton_self _)
    (by rw [duties_recv m (partner c s h) s h (qOf k) (rOf k) (rOf_lt k)]; exact Finset.mem_singleton_self _)
    (iOf k) 0 N rfl (amount_send m c s h (qOf k) (rOf k) false) (amount_recv m (partner c s h) s h (qOf k) (rOf k) false) (owedX c xs) rfl (W := W)
    (by
      rw [payload_send]; unfold sendPay anyBlk
      iintro H; iexists fs; rw [set_sSq s h (qOf k) c]; iexact H)
    (by
      rw [payload_recv]; unfold recvPay blk
      rw [partner_partner]
      iintro ⟨H, Hg⟩
      isplitl [H]
      · iexists _
        isplitr
        rotate_left
        · rw [set_vSq s h (qOf k) (partner c s h)]; iexact H
        ipureintro
        exact (read_landed _ _ _ _ _ _).trans hfs
      · iexact Hg)) $$ [HtS HtR Hs Hd Hg HO]
  · isplitr; · iapply (inv_send m K c s h (qOf k)); iexact HI
    isplitr; · iapply (inv_recv m K (partner c s h) s h (qOf k)); iexact HI
    isplitl [Hs]; · rw [set_sSq s h (qOf k) c]; iexact Hs
    isplitl [Hd Hg]
    · isplitl [Hd]; · rw [set_vSq s h (qOf k) (partner c s h)]; iexact Hd
      iexact Hg
    isplitl [HO]; · iexact HO
    isplitl [HtS]; · iexact HtS
    isplitr; · iexact HrS
    isplitl [HtR]; · iexact HtR
    iexact HrR
  iintro ⟨HcS, HO⟩
  iapply Hk
  isplitr [HO]
  · isplitl [HcS]; · iexact HcS
    isplitl [HcR]; · iexact HcR
    isplitl [HaS]; · iexact HaS
    isplitr; · iexact HrS
    iexact HaR
  · iexists W; iexact HO

/-- The wait for the send: the send slot comes back. -/
theorem xf_sent {q : Fin 2} (hq : q = qOf k) {ss : DmaSem sig} (hss : ss = sendS s h q) (xs : List Xfer)
    {h1 : (vSq s h q).view.WordExact} {h2 : (sSq s h q).view.WordExact}
    {kk : PUnit → Prog (TpuEff nD τ sig (Elt F) Λ₀ .tc) α} {Q : α → sProp 𝕄} :
    iprop(invs m K ∗ levAts L lv ∗ fly c s h k ∗ ow c xs)
      ⊢ iprop((iprop(mid c s h k ∗ anyBlk sM (slotR s h q) c ∗ ow c xs) -∗ wpD c (kk ⟨⟩) Q)
        -∗ wpD c (.op (.waitDma2 ss (vSq s h q) (sSq s h q) h1 h2) kk) Q) := by
  subst hq hss
  unfold fly pos ow mid
  iintro ⟨#HI, #Hlev, ⟨HcS, HcR, HaS, #HrS, HaR⟩, %W, HO⟩ Hk
  iapply (Rounds.wp_wait_rest_token 𝒱₀ ER (exRd m) (c : Thread nD τ) none (κ := K (c, sIx s h (qOf k)))
      (wpE_waitDma2_eq 𝒱₀ (c : Thread nD τ) none Set.univ) (Set.mem_univ _) 0 (O := owedX c xs) (W := W) (R := rOf k) (m := 0) (T := ∅)
      (by rw [Nat.zero_add, expect_send m c s h (qOf k) (rOf k) (rOf_lt k)]; rfl)) $$ [HcS HO HaS]
  · isplitr; · iapply (inv_send m K c s h (qOf k)); iexact HI
    isplitl [HcS]; · iexact HcS
    isplitl [HO]; · iexact HO
    isplitr; · iapply (mayWait_owedX c (.dma (sendS s h (qOf k))) 0 0 xs (by generalize qOf k = q; fin_cases s <;> fin_cases h <;> fin_cases q <;> exact Nat.le_refl 0) (fun x _ => by omega)); iexact Hlev
    iexact HaS
  iintro ⟨HO, HaS, #HrS', Hpay⟩
  ihave Hs := (Entails.of_eq (rest_send m c s h (qOf k) (rOf k) (rOf_lt k))) $$ Hpay
  unfold sendPay
  iapply Hk
  isplitl [HcR HaS HaR]
  · isplitl [HcR]; · iexact HcR
    isplitl [HaS]; · iexact HaS
    isplitr; · iexact HrS'
    iexact HaR
  isplitl [Hs]; · iexact Hs
  iexists _; iexact HO

/-- The wait for the receive: the receive slot comes back with what the partner sent, and with chunks 1 and 2 the
    partner's slot for the next. -/
theorem xf_recv {q : Fin 2} (hq : q = qOf k) {sr : DmaSem sig} (hsr : sr = recvS s h q) (xs : List Xfer) (hxs : ∀ x ∈ xs, 2 + 2 * k.val + s.val < 2 + 2 * x.2.2.val + x.1.val)
    {h1 : (sSq s h q).view.WordExact} {h2 : (vSq s h q).view.WordExact}
    {kk : PUnit → Prog (TpuEff nD τ sig (Elt F) Λ₀ .tc) α} {Q : α → sProp 𝕄} :
    iprop(invs m K ∗ levAts L lv ∗ mid c s h k ∗ ow c xs)
      ⊢ iprop((iprop(got m c s h k ∗ reached ER (recvCell c s h q) (rOf k + 1) ∗ give (partner c s h) s h k ∗ pos c s h q (rOf k + 1) ∗ ow c xs) -∗ wpD c (kk ⟨⟩) Q)
        -∗ wpD c (.op (.waitDma2 sr (sSq s h q) (vSq s h q) h1 h2) kk) Q) := by
  subst hq hsr
  unfold pos ow mid got
  iintro ⟨#HI, #Hlev, ⟨HcR, HaS, #HrS, HaR⟩, %W, HO⟩ Hk
  iapply (Rounds.wp_wait_rest_token 𝒱₀ ER (exRd m) (c : Thread nD τ) none (κ := K (c, rIx s h (qOf k)))
      (wpE_waitDma2_eq 𝒱₀ (c : Thread nD τ) none Set.univ) (Set.mem_univ _) (iOf k) (O := owedX c xs) (W := W) (R := rOf k) (m := 0) (T := ∅)
      (by rw [Nat.zero_add, expect_recv m c s h (qOf k) (rOf k) (rOf_lt k)]; rfl)) $$ [HcR HO HaR]
  · isplitr; · iapply (inv_recv m K c s h (qOf k)); iexact HI
    isplitl [HcR]; · iexact HcR
    isplitl [HO]; · iexact HO
    isplitr; · iapply (mayWait_owedX c (.dma (recvS s h (qOf k))) (iOf k) (2 + 2 * k.val + s.val) xs (Nat.le_of_eq (lv_recv c s h k)) hxs); iexact Hlev
    iexact HaR
  iintro ⟨HO, HaR, #HrR, Hpay⟩
  ihave Hs := (Entails.of_eq (rest_recv m c s h k)) $$ Hpay
  unfold recvPay
  icases Hs with ⟨Hs, Hg⟩
  iapply Hk
  isplitl [Hs]; · iexact Hs
  isplitr; · iexact HrR
  isplitl [Hg]; · iexact Hg
  isplitr [HO]
  · isplitl [HaS]; · iexact HaS
    isplitr; · iexact HrS
    iexact HaR
  iexists _; iexact HO

end Xfer

end Cert.KernelIdeal.Moe
-- ==== Proof.KernelIdeal.Slots.lean ====
/-
# `Slots`: the buffers cut into what the steps hold, and the handshake

The weights' buffer is its two slots, the send and the receive buffer their eight, the output its four chunks of
columns and each of these its two halves. What the handshake hands over, in both directions.
-/
module

public import proofs.«01_k».proof.Proof.KernelIdeal.Steps

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (Fin 2) (Elt F) ℕ UU ℕ

variable (m : (ℓ : Loc nD τ sig) → Buf (Elt F) ℓ)

/-! ## Cutting a buffer -/

section Cut

variable {T : Type} [Fintype T] [DecidableEq T]

/-- A buffer held is the rectangles of a family that partitions it. -/
theorem cut_any {cs : Space} {s : Shape} {e : EltTy} (M : Memref sig .tc cs s e) (r : T → Rect s) (hr : ∀ t a, (r t).stride a = 1)
    (hd : ∀ t t', t ≠ t' → Disjoint (r t).set (r t').set) (hc : Finset.univ.biUnion (fun t => (r t).set) = Finset.univ)
    (c : Dev nD) (f : Buf (Elt F) (M.view.loc (c : Thread nD τ))) :
    (M.view.loc (c : Thread nD τ) ↦[M.view.set]{fullShare} f : sProp 𝕄) ⊢ bigSep Finset.univ fun t => anyBlk M (r t) c := by
  rw [pointsTo_rects (c : Thread nD τ) M fullShare r hr hd hc f]
  refine bigSep_mono fun t _ => ?_
  refine (show (owns (c : Thread nD τ) (M.slice (r t) (hr t)) fullShare (fun j => M.view.read (Elt F) f ((r t).emb j)) : sProp 𝕄)
    ⊢ blk M (r t) c (fun j => M.view.read (Elt F) f ((r t).emb j)) from .rfl).trans (blk_any M (r t) c _)

/-- The rectangles of such a family held with contents are the buffer, read back at each of them. -/
theorem join_blk {cs : Space} {s : Shape} {e : EltTy} (M : Memref sig .tc cs s e) (r : T → Rect s) (hr : ∀ t a, (r t).stride a = 1)
    (hd : ∀ t t', t ≠ t' → Disjoint (r t).set (r t').set) (hc : Finset.univ.biUnion (fun t => (r t).set) = Finset.univ)
    [∀ e, Nonempty (Elt F e)] (c : Dev nD) (X : s.Idx → Elt F e) :
    (bigSep Finset.univ fun t => blk M (r t) c (fun j => X ((r t).emb j))) ⊢ (owns (c : Thread nD τ) M fullShare X : sProp 𝕄) :=
  owns_of_rects (c : Thread nD τ) M fullShare r hr hd hc X

/-- Held with any contents they are the buffer with some. -/
theorem join_any {cs : Space} {s : Shape} {e : EltTy} (M : Memref sig .tc cs s e) (r : T → Rect s) (hr : ∀ t a, (r t).stride a = 1)
    (hd : ∀ t t', t ≠ t' → Disjoint (r t).set (r t').set) (hc : Finset.univ.biUnion (fun t => (r t).set) = Finset.univ)
    [∀ e, Nonempty (Elt F e)] (c : Dev nD) :
    (bigSep Finset.univ fun t => anyBlk M (r t) c) ⊢ (iprop(∃ f : Buf (Elt F) (M.view.loc (c : Thread nD τ)),
      M.view.loc (c : Thread nD τ) ↦[M.view.set]{fullShare} f) : sProp 𝕄) := by
  have hset : M.view.set = (Finset.univ : Finset T).biUnion fun t => (M.view.slice (r t)).set := by
    ext i; constructor
    · intro hi
      obtain ⟨x, -, rfl⟩ := Finset.mem_map.mp hi
      obtain ⟨t, -, hx⟩ := Finset.mem_biUnion.mp (hc.symm ▸ Finset.mem_univ x)
      exact Finset.mem_biUnion.mpr ⟨t, Finset.mem_univ _, by rw [View.set_slice]; exact Finset.mem_map_of_mem _ hx⟩
    · intro hi
      obtain ⟨t, -, hi⟩ := Finset.mem_biUnion.mp hi
      exact View.set_slice_subset _ _ hi
  have hne : Nonempty (Buf (Elt F) (M.view.loc (c : Thread nD τ))) := ⟨fun _ => Classical.arbitrary _⟩
  have hdv : ∀ t ∈ (Finset.univ : Finset T), ∀ t' ∈ (Finset.univ : Finset T), t ≠ t' → Disjoint (M.view.slice (r t)).set (M.view.slice (r t')).set :=
    fun t _ t' _ htt => by rw [View.set_slice, View.set_slice]; exact (Finset.disjoint_map _).mpr (hd t t' htt)
  have key : ∀ S : Finset T, (bigSep S fun t => anyBlk M (r t) c) ⊢ (iprop(∃ f : Buf (Elt F) (M.view.loc (c : Thread nD τ)),
      M.view.loc (c : Thread nD τ) ↦[S.biUnion fun t => (M.view.slice (r t)).set]{fullShare} f) : sProp 𝕄) := by
    intro S
    induction S using Finset.induction_on with
    | empty =>
      obtain ⟨f⟩ := hne
      iintro -
      iexists f
      rw [Finset.biUnion_empty, pointsTo_empty]
      itrivial
    | insert t S ht ih =>
      rw [bigSep_insert ht, Finset.biUnion_insert]
      have hdS : Disjoint (M.view.slice (r t)).set (S.biUnion fun t => (M.view.slice (r t)).set) :=
        (Finset.disjoint_biUnion_right _ _ _).mpr fun t' ht' => hdv t (Finset.mem_univ _) t' (Finset.mem_univ _) fun e => ht (e ▸ ht')
      refine (show iprop(anyBlk M (r t) c ∗ bigSep S fun t => anyBlk M (r t) c) ⊢ _ from ?_)
      iintro ⟨Ht, HS⟩
      ihave H := ih $$ HS
      icases H with ⟨%g, HS⟩
      ihave Ht' := (show (anyBlk M (r t) c : sProp 𝕄) ⊢ iprop(∃ f : Buf (Elt F) (M.view.loc (c : Thread nD τ)),
        M.view.loc (c : Thread nD τ) ↦[(M.view.slice (r t)).set]{fullShare} f) from .rfl) $$ Ht
      icases Ht' with ⟨%gt, Ht⟩
      iexists (S.biUnion fun t => (M.view.slice (r t)).set).piecewise g gt
      iapply (pointsTo_join hdS)
      isplitl [Ht]; · iexact Ht
      iexact HS
  rw [hset]
  exact key Finset.univ

end Cut

/-! ## The families -/

/-- Two different indices are one apart. -/
theorem apart {n : ℕ} (p p' : Fin n) (h : p ≠ p') : p.val + 1 ≤ p'.val ∨ p'.val + 1 ≤ p.val := by
  have := Fin.val_ne_of_ne h; omega
/-- So their multiples are a multiple apart. -/
theorem apart_mul {n : ℕ} (N : ℕ) (p p' : Fin n) (h : p ≠ p') : N * p.val + N ≤ N * p'.val ∨ N * p'.val + N ≤ N * p.val := by
  rcases apart p p' h with h | h
  · left; exact (Nat.mul_succ N p.val).symm ▸ Nat.mul_le_mul_left N h
  · right; exact (Nat.mul_succ N p'.val).symm ▸ Nat.mul_le_mul_left N h

/-- The two slots of the weights' buffer are apart. -/
theorem slotE_disj (p p' : Fin 2) (h : p ≠ p') : Disjoint (slotE p).set (slotE p').set :=
  Rect.unit_disjoint (s := S2x1024x256) 0 (apart p p' h)
/-- The two slots make up the weights' buffer. -/
theorem slotE_cover : Finset.univ.biUnion (fun p => (slotE p).set) = Finset.univ := by
  ext i
  simp only [Finset.mem_biUnion, Finset.mem_univ, true_and, iff_true]
  refine ⟨(i 0 : Fin 2), ?_⟩
  rw [Rect.mem_set_unit]
  have h0 : (i 0).val < 2 := (i 0).isLt
  have h1 : (i 1).val < 1024 := (i 1).isLt
  have h2 : (i 2).val < 256 := (i 2).isLt
  intro a
  fin_cases a
  · exact ⟨Nat.le_refl _, Nat.lt_succ_self _⟩
  · exact ⟨Nat.zero_le _, by show (i 1).val < 0 + 1024; omega⟩
  · exact ⟨Nat.zero_le _, by show (i 2).val < 0 + 256; omega⟩

/-- A slot by its stage, half and parity. -/
abbrev slotT (t : Fin 2 × Fin 2 × Fin 2) : Rect S2x2x2x1024x256 := slotR t.1 t.2.1 t.2.2

/-- The slots of the send and receive buffers are apart. -/
theorem slotT_disj (t t' : Fin 2 × Fin 2 × Fin 2) (h : t ≠ t') : Disjoint (slotT t).set (slotT t').set := by
  obtain ⟨s, h₁, q⟩ := t
  obtain ⟨s', h', q'⟩ := t'
  by_cases hs : s = s'
  · by_cases hh : h₁ = h'
    · have hq : q ≠ q' := fun e => h (by rw [hs, hh, e])
      exact Rect.unit_disjoint (s := S2x2x2x1024x256) 2 (apart q q' hq)
    · exact Rect.unit_disjoint (s := S2x2x2x1024x256) 1 (apart h₁ h' hh)
  · exact Rect.unit_disjoint (s := S2x2x2x1024x256) 0 (apart s s' hs)
/-- The eight slots make up the send or receive buffer. -/
theorem slotT_cover : Finset.univ.biUnion (fun t => (slotT t).set) = Finset.univ := by
  ext i
  simp only [Finset.mem_biUnion, Finset.mem_univ, true_and, iff_true]
  refine ⟨((i 0 : Fin 2), (i 1 : Fin 2), (i 2 : Fin 2)), ?_⟩
  rw [Rect.mem_set_unit]
  have h3 : (i 3).val < 1024 := (i 3).isLt
  have h4 : (i 4).val < 256 := (i 4).isLt
  intro a
  fin_cases a
  · exact ⟨Nat.le_refl _, Nat.lt_succ_self _⟩
  · exact ⟨Nat.le_refl _, Nat.lt_succ_self _⟩
  · exact ⟨Nat.le_refl _, Nat.lt_succ_self _⟩
  · exact ⟨Nat.zero_le _, by show (i 3).val < 0 + 1024; omega⟩
  · exact ⟨Nat.zero_le _, by show (i 4).val < 0 + 256; omega⟩

/-- The column blocks lie inside the result. -/
theorem colR_inb (k : Fin 4) : ∀ a, (![0, 256 * k.val] : Fin 2 → ℕ) a + S2048x256.size a ≤ S2048x1024.size a := by
  revert k; decide
/-- Chunk `k`'s columns of the output. -/
abbrev colR (k : Fin 4) : Rect S2048x1024 := Rect.unit (s := S2048x1024) ![0, 256 * k.val] S2048x256.size (colR_inb k)
/-- The halves of the column blocks lie inside the result. -/
theorem halfR_inb (h : Fin 2) (k : Fin 4) : ∀ a, (![1024 * h.val, 256 * k.val] : Fin 2 → ℕ) a + S1024x256.size a ≤ S2048x1024.size a := by
  revert h k; decide
/-- Half `h` of the rows of chunk `k`. -/
abbrev halfR (h : Fin 2) (k : Fin 4) : Rect S2048x1024 := Rect.unit (s := S2048x1024) ![1024 * h.val, 256 * k.val] S1024x256.size (halfR_inb h k)

/-- The column blocks are apart. -/
theorem colR_disj (k k' : Fin 4) (h : k ≠ k') : Disjoint (colR k).set (colR k').set :=
  Rect.unit_disjoint (s := S2048x1024) 1 (apart_mul 256 k k' ‹_›)
/-- The four column blocks make up the result. -/
theorem colR_cover : Finset.univ.biUnion (fun k => (colR k).set) = Finset.univ := by
  ext i
  simp only [Finset.mem_biUnion, Finset.mem_univ, true_and, iff_true]
  have h0 : (i 0).val < 2048 := (i 0).isLt
  have h1 : (i 1).val < 1024 := (i 1).isLt
  refine ⟨⟨(i 1).val / 256, by omega⟩, ?_⟩
  rw [Rect.mem_set_unit]
  intro a
  fin_cases a
  · exact ⟨Nat.zero_le _, by show (i 0).val < 0 + 2048; omega⟩
  · exact ⟨by show 256 * ((i 1).val / 256) ≤ (i 1).val; omega, by show (i 1).val < 256 * ((i 1).val / 256) + 256; omega⟩

/-- A half chunk by its half and chunk. -/
abbrev halfT (t : Fin 2 × Fin 4) : Rect S2048x1024 := halfR t.1 t.2
/-- The halves of the column blocks are apart. -/
theorem halfT_disj (t t' : Fin 2 × Fin 4) (h : t ≠ t') : Disjoint (halfT t).set (halfT t').set := by
  obtain ⟨h₁, k⟩ := t
  obtain ⟨h', k'⟩ := t'
  by_cases hh : h₁ = h'
  · have hk : k ≠ k' := fun e => h (by rw [hh, e])
    exact Rect.unit_disjoint (s := S2048x1024) 1 (apart_mul 256 k k' ‹_›)
  · exact Rect.unit_disjoint (s := S2048x1024) 0 (apart_mul 1024 h₁ h' hh)
/-- The eight halves make up the result. -/
theorem halfT_cover : Finset.univ.biUnion (fun t => (halfT t).set) = Finset.univ := by
  ext i
  simp only [Finset.mem_biUnion, Finset.mem_univ, true_and, iff_true]
  have h0 : (i 0).val < 2048 := (i 0).isLt
  have h1 : (i 1).val < 1024 := (i 1).isLt
  refine ⟨(⟨(i 0).val / 1024, by omega⟩, ⟨(i 1).val / 256, by omega⟩), ?_⟩
  rw [Rect.mem_set_unit]
  intro a
  fin_cases a
  · exact ⟨by show 1024 * ((i 0).val / 1024) ≤ (i 0).val; omega, by show (i 0).val < 1024 * ((i 0).val / 1024) + 1024; omega⟩
  · exact ⟨by show 256 * ((i 1).val / 256) ≤ (i 1).val; omega, by show (i 1).val < 256 * ((i 1).val / 256) + 256; omega⟩

/-- A half of a chunk's columns is that half chunk. -/
theorem col_half (h : Fin 2) (k : Fin 4) (x : S1024x256.Idx) : (colR k).emb ((rowR h).emb x) = (halfR h k).emb x := by
  funext a
  apply Fin.ext
  fin_cases a
  · show 0 + 1 * (1024 * h.val + 1 * (x 0).val) = 1024 * h.val + 1 * (x 0).val; omega
  · show 256 * k.val + 1 * (0 + 1 * (x 1).val) = 256 * k.val + 1 * (x 1).val; omega
/-- The two halves of a column block's rows are apart. -/
theorem rowR_disj (h h' : Fin 2) (hh : h ≠ h') : Disjoint (rowR h).set (rowR h').set :=
  Rect.unit_disjoint (s := S2048x256) 0 (apart_mul 1024 h h' hh)
/-- The two halves make up a column block's rows. -/
theorem rowR_cover : Finset.univ.biUnion (fun h => (rowR h).set) = Finset.univ := by
  ext i
  simp only [Finset.mem_biUnion, Finset.mem_univ, true_and, iff_true]
  have h0 : (i 0).val < 2048 := (i 0).isLt
  have h1 : (i 1).val < 256 := (i 1).isLt
  refine ⟨⟨(i 0).val / 1024, by omega⟩, ?_⟩
  rw [Rect.mem_set_unit]
  intro a
  fin_cases a
  · exact ⟨by show 1024 * ((i 0).val / 1024) ≤ (i 0).val; omega, by show (i 0).val < 1024 * ((i 0).val / 1024) + 1024; omega⟩
  · exact ⟨Nat.zero_le _, by show (i 1).val < 0 + 256; omega⟩

/-- A column block is its two halves. -/
theorem col_set (k : Fin 4) : (colR k).set = (halfR 0 k).set ∪ (halfR 1 k).set := by
  ext i
  rw [Finset.mem_union, Rect.mem_set_unit, Rect.mem_set_unit, Rect.mem_set_unit]
  have h0 : (i 0).val < 2048 := (i 0).isLt
  constructor
  · intro h
    have h1 : 256 * k.val ≤ (i 1).val ∧ (i 1).val < 256 * k.val + 256 := h 1
    rcases Nat.lt_or_ge (i 0).val 1024 with hlt | hge
    · left
      intro a
      fin_cases a
      · exact ⟨Nat.zero_le _, by show (i 0).val < 1024 * 0 + 1024; omega⟩
      · exact h1
    · right
      intro a
      fin_cases a
      · exact ⟨hge, by show (i 0).val < 1024 * 1 + 1024; omega⟩
      · exact h1
  · intro h a
    rcases h with h | h
    · fin_cases a
      · exact ⟨Nat.zero_le _, by show (i 0).val < 0 + 2048; omega⟩
      · exact h 1
    · fin_cases a
      · exact ⟨Nat.zero_le _, by show (i 0).val < 0 + 2048; omega⟩
      · exact h 1

/-- A chunk's columns held with contents are its two halves. -/
theorem col_split (c : Dev nD) (k : Fin 4) (V : Vec F S2048x256 .f32) :
    (blk oM (colR k) c V : sProp 𝕄) ⊢ iprop(blk oM (halfR 0 k) c (fun x => V ((rowR 0).emb x)) ∗ blk oM (halfR 1 k) c (fun x => V ((rowR 1).emb x))) := by
  have hset : (oM.access (colR k) : View sig .tc _ _ _).set = (oM.access (halfR 0 k) : View sig .tc _ _ _).set ∪ (oM.access (halfR 1 k) : View sig .tc _ _ _).set := by
    show (oM.view.slice (colR k)).set = (oM.view.slice (halfR 0 k)).set ∪ (oM.view.slice (halfR 1 k)).set
    rw [View.set_slice, View.set_slice, View.set_slice, col_set, Finset.map_union]
  have hdis : Disjoint (oM.access (halfR 0 k) : View sig .tc _ _ _).set (oM.access (halfR 1 k) : View sig .tc _ _ _).set := by
    show Disjoint (oM.view.slice (halfR 0 k)).set (oM.view.slice (halfR 1 k)).set
    rw [View.set_slice, View.set_slice]
    exact (Finset.disjoint_map _).mpr (halfT_disj (0, k) (1, k) (by simp))
  have hread : ∀ (h : Fin 2) (f : Buf (Elt F) (oM.view.loc (c : Thread nD τ))), (oM.access (halfR h k) : View sig .tc _ _ _).read (Elt F) f
      = fun x => (oM.access (colR k) : View sig .tc _ _ _).read (Elt F) f ((rowR h).emb x) := by
    intro h f
    funext x
    show oM.view.read (Elt F) f ((halfR h k).emb x) = oM.view.read (Elt F) f ((colR k).emb ((rowR h).emb x))
    rw [col_half]
  unfold blk
  iintro ⟨%f, %hf, H⟩
  subst hf
  rw [hset]
  ihave H' := (pointsTo_union hdis).1 $$ H
  icases H' with ⟨H0, H1⟩
  isplitl [H0]
  · iexists f
    isplitr; · (ipureintro; exact hread 0 f)
    iexact H0
  · iexists f
    isplitr; · (ipureintro; exact hread 1 f)
    iexact H1

/-! ## The handshake -/

/-- What a device hands its neighbour by the first pairing at the barrier, slot by slot. -/
theorem barPay_A (n : Dev nD) : barPay (F := F) n (pairA n) = iprop((pslot n 0 0 0 ∗ pslot n 0 0 1) ∗ emp ∗ emp ∗ (pslot n 1 1 0 ∗ pslot n 1 1 1)) := by
  have e : pairB n ≠ pairA n := by revert n; decide
  simp [barPay, barOne, partner, e]
/-- What a device hands its neighbour by the second pairing at the barrier, slot by slot. -/
theorem barPay_B (n : Dev nD) : barPay (F := F) n (pairB n) = iprop(emp ∗ (pslot n 0 1 0 ∗ pslot n 0 1 1) ∗ (pslot n 1 0 0 ∗ pslot n 1 0 1) ∗ emp) := by
  have e : pairA n ≠ pairB n := by revert n; decide
  simp [barPay, barOne, partner, e]

/-- What the two neighbours hand device `c`: the receive slots of its partners, two of each. -/
theorem bar_got (c : Dev nD) : iprop(barPay (F := F) (pairB c) c ∗ barPay (F := F) (pairA c) c)
    ⊢ (iprop((pslot (partner c 0 0) 0 0 0 ∗ pslot (partner c 0 0) 0 0 1) ∗ (pslot (partner c 0 1) 0 1 0 ∗ pslot (partner c 0 1) 0 1 1)
      ∗ (pslot (partner c 1 0) 1 0 0 ∗ pslot (partner c 1 0) 1 0 1) ∗ (pslot (partner c 1 1) 1 1 0 ∗ pslot (partner c 1 1) 1 1 1)) : sProp 𝕄) := by
  have hA := barPay_A (F := F) (pairA c)
  have hB := barPay_B (F := F) (pairB c)
  rw [pairA_pairA] at hA
  rw [pairB_pairB] at hB
  rw [hA, hB]
  iintro ⟨⟨-, H1, H2, -⟩, H0, -, -, H3⟩
  isplitl [H0]; · iexact H0
  isplitl [H1]; · iexact H1
  isplitl [H2]; · iexact H2
  iexact H3

/-- What device `c` hands them. -/
theorem bar_give (c : Dev nD) :
    (iprop((pslot c 0 0 0 ∗ pslot c 0 0 1) ∗ (pslot c 0 1 0 ∗ pslot c 0 1 1) ∗ (pslot c 1 0 0 ∗ pslot c 1 0 1) ∗ (pslot c 1 1 0 ∗ pslot c 1 1 1)) : sProp 𝕄)
      ⊢ iprop(barPay (F := F) c (nbr c true) ∗ barPay (F := F) c (nbr c false)) := by
  rw [show nbr c true = pairA c from rfl, show nbr c false = pairB c from rfl, barPay_A, barPay_B]
  iintro ⟨H0, H1, H2, H3⟩
  isplitl [H0 H3]
  · isplitl [H0]; · iexact H0
    isplitr; · iempintro
    isplitr; · iempintro
    iexact H3
  · isplitr; · iempintro
    isplitl [H1]; · iexact H1
    isplitl [H2]; · iexact H2
    iempintro

end Cert.KernelIdeal.Moe
-- ==== Proof.KernelIdeal.Moves.lean ====
/-
# `Moves`: the effects as the body uses them

The effects of `Steps`, each with what it takes and what it leaves one after the other, over the invariants and
the levels (`ctx`) that all of them share.
-/
module

public import proofs.«01_k».proof.Proof.KernelIdeal.Slots

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (Fin 2) (Elt F) ℕ UU ℕ

variable (m : (ℓ : Loc nD τ sig) → Buf (Elt F) ℓ) (K : Dev nD × Fin 17 → ℕ) (c : Dev nD)

/-- What every effect may use: the cells' invariants and the levels. -/
def ctx : sProp 𝕄 := iprop(levAts L lv ∗ invs m K)
instance ctx_persistent : BI.Persistent (ctx m K) := by unfold ctx; infer_instance

/-- The cell `(s, h, q)` of the receives reached the round after chunk `k`'s. -/
def rch (d : Dev nD) (s h : Fin 2) (k : Fin 4) : sProp 𝕄 := reached ER (recvCell d s h (qOf k)) (rOf k + 1)

/-- The transfers that are still to start when `i` have. -/
def rem (i : ℕ) : List Xfer := allX.drop i

/-! ## The handshake's effects -/

/-- Which neighbour is signalled first: the left one. -/
def b₁ (c : Dev nD) : Bool := c.val % 2 == 1
/-- The first signal goes to the neighbour signalled first. -/
theorem dev1_eq : (⟨k0_dev1 c, k0_dev1_lt c⟩ : Dev nD) = nbr c (b₁ c) := by revert c; decide
/-- The second signal goes to the other neighbour. -/
theorem dev2_eq : (⟨k0_dev2 c, k0_dev2_lt c⟩ : Dev nD) = nbr c (!b₁ c) := by revert c; decide

/-- What a signal to the neighbour `nbr c b` takes. -/
def kit (c : Dev nD) (b : Bool) : sProp 𝕄 :=
  iprop(dutyTok ER (barCell (nbr c b)) 0 b ∗ barPay c (nbr c b) ∗ reached ER (barCell (nbr c b)) 0)
/-- What device `c` owes from the start, and after its first signal. -/
def O₁ (c : Dev nD) : CellTallies nD τ sig (Fin 2) := owedX c (rem 0) + tallyAt (barCell (nbr c (!b₁ c))) 0 1
def O₀ (c : Dev nD) : CellTallies nD τ sig (Fin 2) := O₁ c + tallyAt (barCell (nbr c (b₁ c))) 0 1
def ow₀ (c : Dev nD) : sProp 𝕄 := iprop(∃ W : Waits sig (Fin 2), owes (c : Thread nD τ) (O₀ c) W)
def ow₁ (c : Dev nD) : sProp 𝕄 := iprop(∃ W : Waits sig (Fin 2), owes (c : Thread nD τ) (O₁ c) W)

section Moves

variable {α : Type}

/-- A copy of an expert's weights starts. -/
theorem mv_ewstart (p : Fin 2) (e : Fin 8) (k : Fin 4) {sm : DmaSem sig} (hsm : sm = ewS p) {h1 : (wSq e k).view.WordExact} {h2 : (eSq p).view.WordExact}
    {h3 : DmaTarget.Typed (nD := nD) (τ := τ) (p := .tc) .hbm (.dma sm) (.here (eSq p))}
    {kk : PUnit → Prog (TpuEff nD τ sig (Elt F) Λ₀ .tc) α} {Q : α → sProp 𝕄} :
    ewIdle m c p ⊢ iprop(anyBlk eM (slotE p) c -∗ (ewBusy m c p e k -∗ wpD c (kk ⟨⟩) Q)
      -∗ wpD c (.op (.enqueueDma (wSq e k) (.here (eSq p)) (.dma sm) h1 h2 h3) kk) Q) := by
  iintro H1 H2 Hk
  iapply (ew_start m c p e k hsm) $$ [H1 H2]
  · isplitl [H1]; · iexact H1
    iexact H2
  iexact Hk

/-- It is over; the slot holds them. -/
theorem mv_ewwait (p : Fin 2) (e : Fin 8) (k : Fin 4) {sm : DmaSem sig} (hsm : sm = ewS p) {h1 : (wSq e k).view.WordExact} {h2 : (eSq p).view.WordExact} (i : ℕ)
    {kk : PUnit → Prog (TpuEff nD τ sig (Elt F) Λ₀ .tc) α} {Q : α → sProp 𝕄} :
    ctx m K ⊢ iprop(ewBusy m c p e k -∗ ow c (rem i) -∗ (ewIdle m c p -∗ blk eM (slotE p) c (wblk m c e k) -∗ ow c (rem i) -∗ wpD c (kk ⟨⟩) Q)
      -∗ wpD c (.op (.waitDma2 sm (wSq e k) (eSq p) h1 h2) kk) Q) := by
  unfold ctx
  iintro ⟨#HL, #HI⟩ H1 H2 Hk
  iapply (ew_wait m c p e k hsm (rem i)) $$ [H1 H2]
  · isplitr; · iexact HL
    isplitl [H1]; · iexact H1
    iexact H2
  iintro ⟨A, B, C⟩
  iapply Hk $$ A B C

/-- A signal to the neighbour `nbr c b`. -/
theorem signal (b : Bool) (O : CellTallies nD τ sig (Fin 2)) (W : Waits sig (Fin 2))
    {kk : PUnit → Prog (TpuEff nD τ sig (Elt F) Λ₀ .tc) α} {Q : α → sProp 𝕄} :
    ctx m K ⊢ iprop(kit c b -∗ owes (c : Thread nD τ) (O + tallyAt (barCell (nbr c b)) 0 1) W -∗ (owes (c : Thread nD τ) O W -∗ wpD c (kk ⟨⟩) Q)
      -∗ wpD c (.op (.semSignal (Dev.tc (nbr c b)) barS (1#32 : BitVec 32).toInt) kk) Q) := by
  unfold ctx kit
  iintro ⟨#HL, #HI⟩ ⟨HT, HP, #HR⟩ HO Hk
  iapply (Rounds.wp_signal 𝒱₀ ER (exRd m) (c : Thread nD τ) none (dst := (nbr c b : Thread nD τ)) (κ := K (nbr c b, 0))
      (d := b) (by rw [duties_bar]; exact Finset.mem_univ _) ((amount_bar m (nbr c b) 0 b).trans (by decide)) 0 O rfl) $$ [HO HT HP]
  · isplitr; · iapply (inv_bar m K (nbr c b)); iexact HI
    isplitl [HO]; · iexact HO
    isplitl [HT]; · iexact HT
    isplitl [HP]; · rw [payload_bar, nbr_nbr]; iexact HP
    iexact HR
  iintro HO
  iapply Hk $$ HO

/-- The first signal. -/
theorem mv_sig₁ {kk : PUnit → Prog (TpuEff nD τ sig (Elt F) Λ₀ .tc) α} {Q : α → sProp 𝕄} :
    ctx m K ⊢ iprop(kit c (b₁ c) -∗ ow₀ c -∗ (ow₁ c -∗ wpD c (kk ⟨⟩) Q)
      -∗ wpD c (.op (.semSignal (Dev.tc (⟨k0_dev1 c, k0_dev1_lt c⟩ : Dev nD)) barS (1#32 : BitVec 32).toInt) kk) Q) := by
  rw [dev1_eq]
  unfold ow₀ O₀ ow₁
  iintro #HC HK ⟨%W, HO⟩ Hk
  iapply (signal m K c (b₁ c) (O₁ c) W) $$ HC HK HO
  iintro HO
  iapply Hk
  iexists W; iexact HO

/-- The second. -/
theorem mv_sig₂ {kk : PUnit → Prog (TpuEff nD τ sig (Elt F) Λ₀ .tc) α} {Q : α → sProp 𝕄} :
    ctx m K ⊢ iprop(kit c (!b₁ c) -∗ ow₁ c -∗ (ow c (rem 0) -∗ wpD c (kk ⟨⟩) Q)
      -∗ wpD c (.op (.semSignal (Dev.tc (⟨k0_dev2 c, k0_dev2_lt c⟩ : Dev nD)) barS (1#32 : BitVec 32).toInt) kk) Q) := by
  rw [dev2_eq]
  unfold ow₁ O₁ ow
  iintro #HC HK ⟨%W, HO⟩ Hk
  iapply (signal m K c (!b₁ c) (owedX c (rem 0)) W) $$ HC HK HO
  iintro HO
  iapply Hk
  iexists W; iexact HO

/-- What the wait on the barrier takes. -/
def bar₀ (c : Dev nD) : sProp 𝕄 := iprop(atPos ER (barCell c) 0 ∅ 0 ∗ cred (tallyAt (barCell c) 0 2))
/-- And what is left of it. -/
def bar₁ (c : Dev nD) : sProp 𝕄 := atPos ER (barCell c) 1 ∅ 0

/-- The wait for both neighbours' signals: their receive slots. -/
theorem mv_bar {kk : PUnit → Prog (TpuEff nD τ sig (Elt F) Λ₀ .tc) α} {Q : α → sProp 𝕄} :
    ctx m K ⊢ iprop(bar₀ c -∗ ow c (rem 0) -∗ (bar₁ c
        -∗ pslot (partner c 0 0) 0 0 0 -∗ pslot (partner c 0 0) 0 0 1 -∗ pslot (partner c 0 1) 0 1 0 -∗ pslot (partner c 0 1) 0 1 1
        -∗ pslot (partner c 1 0) 1 0 0 -∗ pslot (partner c 1 0) 1 0 1 -∗ pslot (partner c 1 1) 1 1 0 -∗ pslot (partner c 1 1) 1 1 1
        -∗ ow c (rem 0) -∗ wpD c (kk ⟨⟩) Q)
      -∗ wpD c (.op (.semWait barS (2#32 : BitVec 32).toInt) kk) Q) := by
  unfold ctx bar₀ bar₁ ow
  iintro ⟨#HL, #HI⟩ ⟨HA, HC⟩ ⟨%W, HO⟩ Hk
  iapply (Rounds.wp_wait_rest_token 𝒱₀ ER (exRd m) (c : Thread nD τ) none (κ := K (c, 0))
      (wpE_semWait_eq 𝒱₀ (c : Thread nD τ) none Set.univ) (Set.mem_univ _) 0 (O := owedX c (rem 0)) (W := W) (R := 0) (m := 0) (T := ∅)
      (by rw [expect_bar]; decide)) $$ [HC HO HA]
  · isplitr; · iapply (inv_bar m K c); iexact HI
    isplitl [HC]; · iexact HC
    isplitl [HO]; · iexact HO
    isplitr; · iapply (mayWait_owedX c (.reg barS) 0 1 (rem 0) (Nat.le_refl 1) (by decide)); iexact HL
    iexact HA
  iintro ⟨HO, HA, -, Hpay⟩
  ihave Hp := (Entails.of_eq (rest_bar m c)) $$ Hpay
  ihave Hp := (bar_got c) $$ Hp
  icases Hp with ⟨⟨P0, P1⟩, ⟨P2, P3⟩, ⟨P4, P5⟩, ⟨P6, P7⟩⟩
  iapply Hk $$ HA P0 P1 P2 P3 P4 P5 P6 P7
  iexists _; iexact HO

variable (s h : Fin 2) (k : Fin 4)

/-- A transfer starts, no slot handed along with it. -/
theorem mv_start (hg : give (F := F) c s h k = iprop(emp)) {n : Dev nD} (hn : n = partner c s h) (q : Fin 2) (hq : q = qOf k) (r : ℕ) (hr' : r = rOf k) {ss sr : DmaSem sig} (hss : ss = sendS s h q) (hsr : sr = recvS s h q) (i : ℕ) (hi : rem i = (s, h, k) :: rem (i + 1))
    {hsc : (vSq s h q).view.ref.isScScratch = false} {h1 : (sSq s h q).view.WordExact} {h2 : (vSq s h q).view.WordExact}
    {h3 : DmaTarget.Typed (nD := nD) (τ := τ) (p := .tc) .vmem (.dma sr) (.remote (Dev.tc n) (vSq s h q) (.dma ss) hsc)}
    {kk : PUnit → Prog (TpuEff nD τ sig (Elt F) Λ₀ .tc) α} {Q : α → sProp 𝕄} :
    ctx m K ⊢ iprop(tok c s h k -∗ pos c s h q r -∗ blk sM (slotR s h q) c (sndv m c s h k) -∗ pslot (partner c s h) s h k -∗ ow c (rem i)
      -∗ (fly c s h k -∗ ow c (rem (i + 1)) -∗ wpD c (kk ⟨⟩) Q)
      -∗ wpD c (.op (.enqueueDma (sSq s h q) (.remote (Dev.tc n) (vSq s h q) (.dma ss) hsc) (.dma sr) h1 h2 h3) kk) Q) := by
  subst hr'
  rw [hi]
  unfold ctx
  iintro ⟨#HL, #HI⟩ H1 H2 H3 H4 H5 Hk
  iapply (xf_start m K c s h k hn hq hss hsr (rem (i + 1))) $$ [H1 H2 H3 H4 H5]
  · isplitr; · iexact HI
    isplitl [H1]; · iexact H1
    isplitl [H2]; · iexact H2
    isplitl [H3]; · iexact H3
    isplitl [H4]; · iexact H4
    isplitr; · rw [hg]; iempintro
    iexact H5
  iintro ⟨A, B⟩
  iapply Hk $$ A B

/-- A transfer starts, and hands along the slot that chunk `j` was received in. -/
theorem mv_startg (j : Fin 4) (hg : give (F := F) c s h k = pslot c s h (j + 2)) (hj : qOf (j + 2) = qOf j) (hr : rOf (j + 2) = rOf j + 1)
    {n : Dev nD} (hn : n = partner c s h) (q : Fin 2) (hq : q = qOf k) (r : ℕ) (hr' : r = rOf k) {ss sr : DmaSem sig} (hss : ss = sendS s h q) (hsr : sr = recvS s h q) (i : ℕ) (hi : rem i = (s, h, k) :: rem (i + 1))
    {hsc : (vSq s h q).view.ref.isScScratch = false} {h1 : (sSq s h q).view.WordExact} {h2 : (vSq s h q).view.WordExact}
    {h3 : DmaTarget.Typed (nD := nD) (τ := τ) (p := .tc) .vmem (.dma sr) (.remote (Dev.tc n) (vSq s h q) (.dma ss) hsc)}
    {kk : PUnit → Prog (TpuEff nD τ sig (Elt F) Λ₀ .tc) α} {Q : α → sProp 𝕄} :
    ctx m K ⊢ iprop(tok c s h k -∗ pos c s h q r -∗ blk sM (slotR s h q) c (sndv m c s h k) -∗ pslot (partner c s h) s h k
      -∗ got m c s h j -∗ rch c s h j -∗ ow c (rem i)
      -∗ (fly c s h k -∗ ow c (rem (i + 1)) -∗ wpD c (kk ⟨⟩) Q)
      -∗ wpD c (.op (.enqueueDma (sSq s h q) (.remote (Dev.tc n) (vSq s h q) (.dma ss) hsc) (.dma sr) h1 h2 h3) kk) Q) := by
  subst hr'
  rw [hi]
  unfold ctx
  iintro ⟨#HL, #HI⟩ H1 H2 H3 H4 HG HR H5 Hk
  iapply (xf_start m K c s h k hn hq hss hsr (rem (i + 1))) $$ [H1 H2 H3 H4 HG HR H5]
  · isplitr; · iexact HI
    isplitl [H1]; · iexact H1
    isplitl [H2]; · iexact H2
    isplitl [H3]; · iexact H3
    isplitl [H4]; · iexact H4
    isplitr [H5]
    · rw [hg]
      unfold pslot got rch
      rw [hj, hr]
      isplitl [HG]; · iapply (blk_any vM (slotR s h (qOf j)) c _) $$ HG
      iexact HR
    iexact H5
  iintro ⟨A, B⟩
  iapply Hk $$ A B

/-- The send is over; its slot is free again. -/
theorem mv_sent (q : Fin 2) (hq : q = qOf k) {ss : DmaSem sig} (hss : ss = sendS s h q) (i : ℕ)
    {h1 : (vSq s h q).view.WordExact} {h2 : (sSq s h q).view.WordExact}
    {kk : PUnit → Prog (TpuEff nD τ sig (Elt F) Λ₀ .tc) α} {Q : α → sProp 𝕄} :
    ctx m K ⊢ iprop(fly c s h k -∗ ow c (rem i) -∗ (mid c s h k -∗ anyBlk sM (slotR s h q) c -∗ ow c (rem i) -∗ wpD c (kk ⟨⟩) Q)
      -∗ wpD c (.op (.waitDma2 ss (vSq s h q) (sSq s h q) h1 h2) kk) Q) := by
  unfold ctx
  iintro ⟨#HL, #HI⟩ H1 H2 Hk
  iapply (xf_sent m K c s h k hq hss (rem i)) $$ [H1 H2]
  · isplitr; · iexact HI
    isplitr; · iexact HL
    isplitl [H1]; · iexact H1
    iexact H2
  iintro ⟨A, B, C⟩
  iapply Hk $$ A B C

/-- The partner's chunk has arrived. -/
theorem mv_recv (q : Fin 2) (hq : q = qOf k) (r : ℕ) (hr : r = rOf k + 1) {G : sProp 𝕄} (hG : give (F := F) (partner c s h) s h k = G) {sr : DmaSem sig} (hsr : sr = recvS s h q) (i : ℕ) (hxs : ∀ x ∈ rem i, 2 + 2 * k.val + s.val < 2 + 2 * x.2.2.val + x.1.val)
    {h1 : (sSq s h q).view.WordExact} {h2 : (vSq s h q).view.WordExact}
    {kk : PUnit → Prog (TpuEff nD τ sig (Elt F) Λ₀ .tc) α} {Q : α → sProp 𝕄} :
    ctx m K ⊢ iprop(mid c s h k -∗ ow c (rem i)
      -∗ (got m c s h k -∗ rch c s h k -∗ G -∗ pos c s h q r -∗ ow c (rem i) -∗ wpD c (kk ⟨⟩) Q)
      -∗ wpD c (.op (.waitDma2 sr (sSq s h q) (vSq s h q) h1 h2) kk) Q) := by
  subst hq hr hG
  unfold ctx rch
  iintro ⟨#HL, #HI⟩ H1 H2 Hk
  iapply (xf_recv m K c s h k rfl hsr (rem i) hxs) $$ [H1 H2]
  · isplitr; · iexact HI
    isplitr; · iexact HL
    isplitl [H1]; · iexact H1
    iexact H2
  iintro ⟨A, B, C, D, E⟩
  iapply Hk $$ A B C D E

/-- A load of a received chunk. -/
theorem ld_got (q : Fin 2) (hq : q = qOf k) {hl : (vM : Memref sig .tc .vmem S2x2x2x1024x256 .bf16).view.LoadsAt (slotR s h q).toLoadRect}
    {kk : ((slotR s h q).shape.Idx → Elt F .bf16) → Prog (TpuEff nD τ sig (Elt F) Λ₀ .tc) α} {Q : α → sProp 𝕄} :
    (got m c s h k : sProp 𝕄) ⊢ iprop((got m c s h k -∗ wpD c (kk (sndv m (partner c s h) s h k)) Q)
      -∗ wpD c (.op (.load vM (slotR s h q).toLoadRect hl) kk) Q) := by
  subst hq
  exact ld_blk c

/-- A store over contents that are known. -/
theorem st_blk {cs : CoreSpace} {sh : Shape} {e : EltTy} {M : Memref sig .tc cs sh e} {r : Rect sh} {V : r.shape.Idx → Elt F e}
    {w : r.shape.Idx → Elt F e} {hx : (M.access r).Stores Finset.univ} {hm : (Finset.univ : Finset r.shape.Idx) = Finset.univ ∨ ∀ a, r.stride a = 1}
    {kk : PUnit → Prog (TpuEff nD τ sig (Elt F) Λ₀ .tc) α} {Q : α → sProp 𝕄} :
    (blk M r c V : sProp 𝕄) ⊢ iprop((blk M r c w -∗ wpD c (kk ⟨⟩) Q) -∗ wpD c (.op (.store M r w Finset.univ hx hm) kk) Q) :=
  (blk_any M r c V).trans (st_any c)

/-- The store of a chunk's columns leaves its two halves. -/
theorem mv_storecol {w : (colR k).shape.Idx → Elt F .f32} (hw : w = chunk m c k)
    {hx : ((oM : Memref sig .tc .vmem S2048x1024 .f32).access (colR k)).Stores Finset.univ} {hm : (Finset.univ : Finset (colR k).shape.Idx) = Finset.univ ∨ ∀ a, (colR k).stride a = 1}
    {kk : PUnit → Prog (TpuEff nD τ sig (Elt F) Λ₀ .tc) α} {Q : α → sProp 𝕄} :
    (anyBlk oM (colR k) c : sProp 𝕄) ⊢ iprop((blk oM (halfR 0 k) c (outv m 0 c 0 k) -∗ blk oM (halfR 1 k) c (outv m 0 c 1 k) -∗ wpD c (kk ⟨⟩) Q)
      -∗ wpD c (.op (.store oM (colR k) w Finset.univ hx hm) kk) Q) := by
  subst hw
  iintro H Hk
  iapply (st_any c (M := oM) (r := colR k) (w := chunk m c k)) $$ H
  iintro H
  ihave H' := (show (blk oM (colR k) c (chunk m c k) : sProp 𝕄) ⊢ iprop(blk oM (halfR 0 k) c (outv m 0 c 0 k) ∗ blk oM (halfR 1 k) c (outv m 0 c 1 k)) from col_split c k (chunk m c k)) $$ H
  icases H' with ⟨A, B⟩
  iapply Hk $$ A B

/-- The store of a half chunk after an exchange. -/
theorem mv_storeo (h : Fin 2) (k : Fin 4) (n : ℕ) {V : (halfR h k).shape.Idx → Elt F .f32} (w : (halfR h k).shape.Idx → Elt F .f32) (hw : w = outv m n c h k)
    {hx : ((oM : Memref sig .tc .vmem S2048x1024 .f32).access (halfR h k)).Stores Finset.univ} {hm : (Finset.univ : Finset (halfR h k).shape.Idx) = Finset.univ ∨ ∀ a, (halfR h k).stride a = 1}
    {kk : PUnit → Prog (TpuEff nD τ sig (Elt F) Λ₀ .tc) α} {Q : α → sProp 𝕄} :
    (blk oM (halfR h k) c V : sProp 𝕄) ⊢ iprop((blk oM (halfR h k) c (outv m n c h k) -∗ wpD c (kk ⟨⟩) Q)
      -∗ wpD c (.op (.store oM (halfR h k) w Finset.univ hx hm) kk) Q) := by
  subst hw
  exact st_blk c

/-- The store of what is sent. -/
theorem mv_storesend (s h : Fin 2) (k : Fin 4) (q : Fin 2) (hq : q = qOf k) (w : (slotR s h q).shape.Idx → Elt F .bf16) (hw : w = sndv m c s h k)
    {hx : ((sM : Memref sig .tc .vmem S2x2x2x1024x256 .bf16).access (slotR s h q)).Stores Finset.univ}
    {hm : (Finset.univ : Finset (slotR s h q).shape.Idx) = Finset.univ ∨ ∀ a, (slotR s h q).stride a = 1}
    {kk : PUnit → Prog (TpuEff nD τ sig (Elt F) Λ₀ .tc) α} {Q : α → sProp 𝕄} :
    (anyBlk sM (slotR s h q) c : sProp 𝕄) ⊢ iprop((blk sM (slotR s h q) c (sndv m c s h k) -∗ wpD c (kk ⟨⟩) Q)
      -∗ wpD c (.op (.store sM (slotR s h q) w Finset.univ hx hm) kk) Q) := by
  subst hq hw
  exact st_any c

end Moves

/-- The whole of a fetched block. -/
abbrev xR : Rect S2048x1024 := Rect.unit (s := S2048x1024) ![0, 0] S2048x1024.size inb_S2048x1024_S2048x1024_0_0
abbrev rR : Rect S1024x32 := Rect.unit (s := S1024x32) ![0, 0] S1024x32.size inb_S1024x32_S1024x32_0_0
abbrev iR : Rect S2048x2 := Rect.unit (s := S2048x2) ![0, 0] S2048x2.size inb_S2048x2_S2048x2_0_0

end Cert.KernelIdeal.Moe
-- ==== Proof.KernelIdeal.Parts1.lean ====
/-
# `Parts1`: the first half of the body

One theorem for each segment of the printed body: from what the segment touches to what it leaves, and on to the rest of
the program, which is given the segment's values.
-/
module

public import proofs.«01_k».proof.Proof.KernelIdeal.Moves

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (Fin 2) (Elt F) ℕ UU ℕ

variable (m : (ℓ : Loc nD τ sig) → Buf (Elt F) ℓ) (K : Dev nD × Fin 17 → ℕ) (c : Dev nD) {α : Type}

/-- Transfer 1 in the order sent, counted from one, goes to the partner of stage 0, half 0. -/
theorem dev3_eq (c : Dev nD) : (⟨k0_dev3 c, k0_dev3_lt c⟩ : Dev nD) = partner c 0 0 := by revert c; decide
/-- Transfer 2 in the order sent, counted from one, goes to the partner of stage 0, half 1. -/
theorem dev4_eq (c : Dev nD) : (⟨k0_dev4 c, k0_dev4_lt c⟩ : Dev nD) = partner c 0 1 := by revert c; decide
/-- Transfer 3 in the order sent, counted from one, goes to the partner of stage 1, half 0. -/
theorem dev5_eq (c : Dev nD) : (⟨k0_dev5 c, k0_dev5_lt c⟩ : Dev nD) = partner c 1 0 := by revert c; decide
/-- Transfer 4 in the order sent, counted from one, goes to the partner of stage 1, half 1. -/
theorem dev6_eq (c : Dev nD) : (⟨k0_dev6 c, k0_dev6_lt c⟩ : Dev nD) = partner c 1 1 := by revert c; decide
/-- Transfer 5 in the order sent, counted from one, goes to the partner of stage 0, half 0. -/
theorem dev7_eq (c : Dev nD) : (⟨k0_dev7 c, k0_dev7_lt c⟩ : Dev nD) = partner c 0 0 := by revert c; decide
/-- Transfer 6 in the order sent, counted from one, goes to the partner of stage 0, half 1. -/
theorem dev8_eq (c : Dev nD) : (⟨k0_dev8 c, k0_dev8_lt c⟩ : Dev nD) = partner c 0 1 := by revert c; decide
/-- Transfer 7 in the order sent, counted from one, goes to the partner of stage 1, half 0. -/
theorem dev9_eq (c : Dev nD) : (⟨k0_dev9 c, k0_dev9_lt c⟩ : Dev nD) = partner c 1 0 := by revert c; decide
/-- Transfer 8 in the order sent, counted from one, goes to the partner of stage 1, half 1. -/
theorem dev10_eq (c : Dev nD) : (⟨k0_dev10 c, k0_dev10_lt c⟩ : Dev nD) = partner c 1 1 := by revert c; decide
/-- Transfer 9 in the order sent, counted from one, goes to the partner of stage 0, half 0. -/
theorem dev11_eq (c : Dev nD) : (⟨k0_dev11 c, k0_dev11_lt c⟩ : Dev nD) = partner c 0 0 := by revert c; decide
/-- Transfer 10 in the order sent, counted from one, goes to the partner of stage 0, half 1. -/
theorem dev12_eq (c : Dev nD) : (⟨k0_dev12 c, k0_dev12_lt c⟩ : Dev nD) = partner c 0 1 := by revert c; decide
/-- Transfer 11 in the order sent, counted from one, goes to the partner of stage 1, half 0. -/
theorem dev13_eq (c : Dev nD) : (⟨k0_dev13 c, k0_dev13_lt c⟩ : Dev nD) = partner c 1 0 := by revert c; decide
/-- Transfer 12 in the order sent, counted from one, goes to the partner of stage 1, half 1. -/
theorem dev14_eq (c : Dev nD) : (⟨k0_dev14 c, k0_dev14_lt c⟩ : Dev nD) = partner c 1 1 := by revert c; decide
/-- Transfer 13 in the order sent, counted from one, goes to the partner of stage 0, half 0. -/
theorem dev15_eq (c : Dev nD) : (⟨k0_dev15 c, k0_dev15_lt c⟩ : Dev nD) = partner c 0 0 := by revert c; decide
/-- Transfer 14 in the order sent, counted from one, goes to the partner of stage 0, half 1. -/
theorem dev16_eq (c : Dev nD) : (⟨k0_dev16 c, k0_dev16_lt c⟩ : Dev nD) = partner c 0 1 := by revert c; decide
/-- Transfer 15 in the order sent, counted from one, goes to the partner of stage 1, half 0. -/
theorem dev17_eq (c : Dev nD) : (⟨k0_dev17 c, k0_dev17_lt c⟩ : Dev nD) = partner c 1 0 := by revert c; decide
/-- Transfer 16 in the order sent, counted from one, goes to the partner of stage 1, half 1. -/
theorem dev18_eq (c : Dev nD) : (⟨k0_dev18 c, k0_dev18_lt c⟩ : Dev nD) = partner c 1 1 := by revert c; decide
/-- Segment 1 of the body. -/
theorem part_1 {kk : (Σ' (d0 : Dev nD) (v2 : BitVec 32) (v10 : BitVec 32) (v11 : BitVec 32) (v24 : FVec F S2048x1024 .f32), FVec F S1024x32 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(kit c (b₁ c) -∗ ow₀ c -∗ kit c (!b₁ c) -∗ bar₀ c -∗ ewIdle m c 0 -∗ anyBlk eM (slotE 0) c -∗ blk xM xR c (xstg m c) -∗ blk rM rR c (rstg m c) -∗
      (ow c (rem 0) -∗ bar₁ c -∗ pslot (partner c 0 0) 0 0 0 -∗ pslot (partner c 0 0) 0 0 1 -∗ pslot (partner c 0 1) 0 1 0 -∗ pslot (partner c 0 1) 0 1 1 -∗ pslot (partner c 1 0) 1 0 0 -∗ pslot (partner c 1 0) 1 0 1 -∗ pslot (partner c 1 1) 1 1 0 -∗ pslot (partner c 1 1) 1 1 1 -∗ ewBusy m c 0 0 0 -∗ blk xM xR c (xstg m c) -∗ blk rM rR c (rstg m c) -∗ wpD c (kk ⟨c, val_v2 m c, val_v10 m c, val_v11 m c, val_v24 m c, val_v26 m c⟩) Q)
      -∗ wpD c (k0_part1 xM h0 rM h1 iM h2 wM h3 oM h4 eM h5 cc0_scratch1 sM h7 vM h8 cc0_scratch4 cc0_scratch5  >>= kk) Q) := by
  rw [k0_part1_eq_skeleton]; unfold k0_part1_skel
  simp only [semSignalWord, semWaitWord, Prog.lift, Prog.bind_op, Prog.bind_ret, Prog.pure_eq_ret, wp_deviceId]
  iintro #HC Hkit1 Ho Hkit2 Hbar Hei0 Hes0 Hx Hr Hk
  iapply (mv_sig₁ m K c) $$ HC Hkit1 Ho; iintro Ho
  iapply (mv_sig₂ m K c) $$ HC Hkit2 Ho; iintro Ho
  iapply (mv_bar m K c) $$ HC Hbar Ho; iintro Hbar Hps000 Hps001 Hps010 Hps011 Hps100 Hps101 Hps110 Hps111 Ho
  iapply (mv_ewstart m c 0 0 0 rfl) $$ Hei0 Hes0; iintro Hei0
  iapply (ld_blk c (M := xM) (r := xR) (V := xstg m c)) $$ Hx; iintro Hx
  iapply (ld_blk c (M := rM) (r := rR) (V := rstg m c)) $$ Hr; iintro Hr
  iapply Hk $$ Ho Hbar Hps000 Hps001 Hps010 Hps011 Hps100 Hps101 Hps110 Hps111 Hei0 Hx Hr

/-- Segment 2 of the body. -/
theorem part_2 {kk : (Σ' (v38 : IVec S2048x2 32) (v55 : FVec F S2048x1 .f32) (v56 : FVec F S2048x1 .f32), FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(blk iM iR c (istg m c) -∗ ewIdle m c 1 -∗ anyBlk eM (slotE 1) c -∗
      (blk iM iR c (istg m c) -∗ ewBusy m c 1 1 0 -∗ wpD c (kk ⟨val_v38 m c, val_v55 m c, val_v56 m c, val_v57 m c⟩) Q)
      -∗ wpD c (k0_part2 xM h0 rM h1 iM h2 wM h3 oM h4 eM h5 cc0_scratch1 sM h7 vM h8 cc0_scratch4 cc0_scratch5 (val_v24 m c) (val_v26 m c) >>= kk) Q) := by
  rw [k0_part2_eq_skeleton]; unfold k0_part2_skel
  simp only [semSignalWord, semWaitWord, Prog.lift, Prog.bind_op, Prog.bind_ret, Prog.pure_eq_ret, wp_deviceId]
  iintro #HC Hi Hei1 Hes1 Hk
  iapply (ld_blk c (M := iM) (r := iR) (V := istg m c)) $$ Hi; iintro Hi
  iapply (mv_ewstart m c 1 1 0 rfl) $$ Hei1 Hes1; iintro Hei1
  iapply Hk $$ Hi Hei1

/-- Segment 3 of the body. -/
theorem part_3 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 0) -∗ ewBusy m c 0 0 0 -∗
      (ow c (rem 0) -∗ ewBusy m c 0 2 0 -∗ wpD c (kk (val_v88 m c)) Q)
      -∗ wpD c (k0_part3 xM h0 rM h1 iM h2 wM h3 oM h4 eM h5 cc0_scratch1 sM h7 vM h8 cc0_scratch4 cc0_scratch5 (val_v2 m c) (val_v24 m c) (val_v38 m c) (val_v55 m c) (val_v56 m c) (val_v57 m c) >>= kk) Q) := by
  rw [k0_part3_eq_skeleton]; unfold k0_part3_skel
  simp only [semSignalWord, semWaitWord, Prog.lift, Prog.bind_op, Prog.bind_ret, Prog.pure_eq_ret, wp_deviceId]
  iintro #HC Ho Hei0 Hk
  iapply (mv_ewwait m K c 0 0 0 rfl 0) $$ HC Hei0 Ho; iintro Hei0 Hes0 Ho
  iapply (ld_blk c (M := eM) (r := slotE 0) (V := wblk m c 0 0)) $$ Hes0; iintro Hes0
  ihave Hes0 := (blk_any eM (slotE 0) c (wblk m c 0 0)) $$ Hes0
  iapply (mv_ewstart m c 0 2 0 rfl) $$ Hei0 Hes0; iintro Hei0
  iapply Hk $$ Ho Hei0

/-- Segment 4 of the body. -/
theorem part_4 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 0) -∗ ewBusy m c 1 1 0 -∗ ewBusy m c 0 2 0 -∗
      (ow c (rem 0) -∗ ewBusy m c 1 3 0 -∗ ewIdle m c 0 -∗ blk eM (slotE 0) c (wblk m c 2 0) -∗ wpD c (kk (val_v119 m c)) Q)
      -∗ wpD c (k0_part4 xM h0 rM h1 iM h2 wM h3 oM h4 eM h5 cc0_scratch1 sM h7 vM h8 cc0_scratch4 cc0_scratch5 (val_v2 m c) (val_v24 m c) (val_v38 m c) (val_v55 m c) (val_v56 m c) (val_v88 m c) >>= kk) Q) := by
  rw [k0_part4_eq_skeleton]; unfold k0_part4_skel
  simp only [semSignalWord, semWaitWord, Prog.lift, Prog.bind_op, Prog.bind_ret, Prog.pure_eq_ret, wp_deviceId]
  iintro #HC Ho Hei1 Hei0 Hk
  iapply (mv_ewwait m K c 1 1 0 rfl 0) $$ HC Hei1 Ho; iintro Hei1 Hes1 Ho
  iapply (ld_blk c (M := eM) (r := slotE 1) (V := wblk m c 1 0)) $$ Hes1; iintro Hes1
  ihave Hes1 := (blk_any eM (slotE 1) c (wblk m c 1 0)) $$ Hes1
  iapply (mv_ewstart m c 1 3 0 rfl) $$ Hei1 Hes1; iintro Hei1
  iapply (mv_ewwait m K c 0 2 0 rfl 0) $$ HC Hei0 Ho; iintro Hei0 Hes0 Ho
  iapply Hk $$ Ho Hei1 Hei0 Hes0

/-- Segment 5 of the body. -/
theorem part_5 {kk : (Σ' (v150 : FVec F S2048x256 .f32) (v164 : FVec F S1024x256 .f32), FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(blk eM (slotE 0) c (wblk m c 2 0) -∗ ewIdle m c 0 -∗ ow c (rem 0) -∗ ewBusy m c 1 3 0 -∗
      (ewBusy m c 0 4 0 -∗ ow c (rem 0) -∗ ewIdle m c 1 -∗ anyBlk eM (slotE 1) c -∗ wpD c (kk ⟨val_v150 m c, val_v164 m c, val_cst_111 m c⟩) Q)
      -∗ wpD c (k0_part5 xM h0 rM h1 iM h2 wM h3 oM h4 eM h5 cc0_scratch1 sM h7 vM h8 cc0_scratch4 cc0_scratch5 (val_v2 m c) (val_v24 m c) (val_v38 m c) (val_v55 m c) (val_v56 m c) (val_v119 m c) >>= kk) Q) := by
  rw [k0_part5_eq_skeleton]; unfold k0_part5_skel
  simp only [semSignalWord, semWaitWord, Prog.lift, Prog.bind_op, Prog.bind_ret, Prog.pure_eq_ret, wp_deviceId]
  iintro #HC Hes0 Hei0 Ho Hei1 Hk
  iapply (ld_blk c (M := eM) (r := slotE 0) (V := wblk m c 2 0)) $$ Hes0; iintro Hes0
  ihave Hes0 := (blk_any eM (slotE 0) c (wblk m c 2 0)) $$ Hes0
  iapply (mv_ewstart m c 0 4 0 rfl) $$ Hei0 Hes0; iintro Hei0
  iapply (mv_ewwait m K c 1 3 0 rfl 0) $$ HC Hei1 Ho; iintro Hei1 Hes1 Ho
  iapply (ld_blk c (M := eM) (r := slotE 1) (V := wblk m c 3 0)) $$ Hes1; iintro Hes1
  ihave Hes1 := (blk_any eM (slotE 1) c (wblk m c 3 0)) $$ Hes1
  iapply Hk $$ Hei0 Ho Hei1 Hes1

/-- Segment 6 of the body. -/
theorem part_6 {kk : (Σ' (v181 : FVec F S2048x256 .f32) (v196 : FVec F S2048x256 .f32), BitVec 32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 1 -∗ anyBlk eM (slotE 1) c -∗ ow c (rem 0) -∗ ewBusy m c 0 4 0 -∗
      (ewBusy m c 1 5 0 -∗ ow c (rem 0) -∗ ewIdle m c 0 -∗ anyBlk eM (slotE 0) c -∗ wpD c (kk ⟨val_v181 m c, val_v196 m c, val_v198 m c⟩) Q)
      -∗ wpD c (k0_part6 xM h0 rM h1 iM h2 wM h3 oM h4 eM h5 cc0_scratch1 sM h7 vM h8 cc0_scratch4 cc0_scratch5 (val_v2 m c) (val_v24 m c) (val_v38 m c) (val_v55 m c) (val_v56 m c) (val_v150 m c) (val_v164 m c) (val_cst_111 m c) >>= kk) Q) := by
  rw [k0_part6_eq_skeleton]; unfold k0_part6_skel
  simp only [semSignalWord, semWaitWord, Prog.lift, Prog.bind_op, Prog.bind_ret, Prog.pure_eq_ret, wp_deviceId]
  iintro #HC Hei1 Hes1 Ho Hei0 Hk
  iapply (mv_ewstart m c 1 5 0 rfl) $$ Hei1 Hes1; iintro Hei1
  iapply (mv_ewwait m K c 0 4 0 rfl 0) $$ HC Hei0 Ho; iintro Hei0 Hes0 Ho
  iapply (ld_blk c (M := eM) (r := slotE 0) (V := wblk m c 4 0)) $$ Hes0; iintro Hes0
  ihave Hes0 := (blk_any eM (slotE 0) c (wblk m c 4 0)) $$ Hes0
  iapply Hk $$ Hei1 Ho Hei0 Hes0

/-- Segment 7 of the body. -/
theorem part_7 {kk : (Σ' (v212 : FVec F S2048x256 .f32) (v227 : FVec F S2048x256 .f32) (v229 : BitVec 32) (v232 : IVec S2048x1 1), FVec F S2048x1 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 0 -∗ anyBlk eM (slotE 0) c -∗ ow c (rem 0) -∗ ewBusy m c 1 5 0 -∗
      (ewBusy m c 0 6 0 -∗ ow c (rem 0) -∗ ewIdle m c 1 -∗ anyBlk eM (slotE 1) c -∗ wpD c (kk ⟨val_v212 m c, val_v227 m c, val_v229 m c, val_v232 m c, val_v233 m c⟩) Q)
      -∗ wpD c (k0_part7 xM h0 rM h1 iM h2 wM h3 oM h4 eM h5 cc0_scratch1 sM h7 vM h8 cc0_scratch4 cc0_scratch5 (val_v2 m c) (val_v24 m c) (val_v38 m c) (val_v55 m c) (val_v56 m c) (val_v181 m c) (val_v196 m c) (val_v198 m c) >>= kk) Q) := by
  rw [k0_part7_eq_skeleton]; unfold k0_part7_skel
  simp only [semSignalWord, semWaitWord, Prog.lift, Prog.bind_op, Prog.bind_ret, Prog.pure_eq_ret, wp_deviceId]
  iintro #HC Hei0 Hes0 Ho Hei1 Hk
  iapply (mv_ewstart m c 0 6 0 rfl) $$ Hei0 Hes0; iintro Hei0
  iapply (mv_ewwait m K c 1 5 0 rfl 0) $$ HC Hei1 Ho; iintro Hei1 Hes1 Ho
  iapply (ld_blk c (M := eM) (r := slotE 1) (V := wblk m c 5 0)) $$ Hes1; iintro Hes1
  ihave Hes1 := (blk_any eM (slotE 1) c (wblk m c 5 0)) $$ Hes1
  iapply Hk $$ Hei0 Ho Hei1 Hes1

/-- Segment 8 of the body. -/
theorem part_8 {kk : (Σ' (v243 : FVec F S2048x256 .f32) (v258 : FVec F S2048x256 .f32) (v265 : FVec F S2048x1 .f32) (v268 : IVec S2048x1 1), F .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 1 -∗ anyBlk eM (slotE 1) c -∗ ow c (rem 0) -∗ ewBusy m c 0 6 0 -∗
      (ewBusy m c 1 7 0 -∗ ow c (rem 0) -∗ ewIdle m c 0 -∗ anyBlk eM (slotE 0) c -∗ wpD c (kk ⟨val_v243 m c, val_v258 m c, val_v265 m c, val_v268 m c, val_cst_178 m c⟩) Q)
      -∗ wpD c (k0_part8 xM h0 rM h1 iM h2 wM h3 oM h4 eM h5 cc0_scratch1 sM h7 vM h8 cc0_scratch4 cc0_scratch5 (val_v2 m c) (val_v24 m c) (val_v38 m c) (val_v55 m c) (val_v56 m c) (val_v212 m c) (val_v227 m c) (val_v229 m c) (val_v232 m c) (val_v233 m c) >>= kk) Q) := by
  rw [k0_part8_eq_skeleton]; unfold k0_part8_skel
  simp only [semSignalWord, semWaitWord, Prog.lift, Prog.bind_op, Prog.bind_ret, Prog.pure_eq_ret, wp_deviceId]
  iintro #HC Hei1 Hes1 Ho Hei0 Hk
  iapply (mv_ewstart m c 1 7 0 rfl) $$ Hei1 Hes1; iintro Hei1
  iapply (mv_ewwait m K c 0 6 0 rfl 0) $$ HC Hei0 Ho; iintro Hei0 Hes0 Ho
  iapply (ld_blk c (M := eM) (r := slotE 0) (V := wblk m c 6 0)) $$ Hes0; iintro Hes0
  ihave Hes0 := (blk_any eM (slotE 0) c (wblk m c 6 0)) $$ Hes0
  iapply Hk $$ Hei1 Ho Hei0 Hes0

/-- Segment 9 of the body. -/
theorem part_9 {kk : (Σ' (v274 : FVec F S2048x256 .f32), FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 0 -∗ anyBlk eM (slotE 0) c -∗ ow c (rem 0) -∗ ewBusy m c 1 7 0 -∗
      (ewBusy m c 0 0 1 -∗ ow c (rem 0) -∗ ewIdle m c 1 -∗ anyBlk eM (slotE 1) c -∗ wpD c (kk ⟨val_v274 m c, val_v304 m c⟩) Q)
      -∗ wpD c (k0_part9 xM h0 rM h1 iM h2 wM h3 oM h4 eM h5 cc0_scratch1 sM h7 vM h8 cc0_scratch4 cc0_scratch5 (val_v2 m c) (val_v24 m c) (val_v38 m c) (val_v55 m c) (val_v56 m c) (val_v243 m c) (val_v258 m c) (val_v265 m c) (val_v268 m c) (val_cst_178 m c) >>= kk) Q) := by
  rw [k0_part9_eq_skeleton]; unfold k0_part9_skel
  simp only [semSignalWord, semWaitWord, Prog.lift, Prog.bind_op, Prog.bind_ret, Prog.pure_eq_ret, wp_deviceId]
  iintro #HC Hei0 Hes0 Ho Hei1 Hk
  iapply (mv_ewstart m c 0 0 1 rfl) $$ Hei0 Hes0; iintro Hei0
  iapply (mv_ewwait m K c 1 7 0 rfl 0) $$ HC Hei1 Ho; iintro Hei1 Hes1 Ho
  iapply (ld_blk c (M := eM) (r := slotE 1) (V := wblk m c 7 0)) $$ Hes1; iintro Hes1
  ihave Hes1 := (blk_any eM (slotE 1) c (wblk m c 7 0)) $$ Hes1
  iapply Hk $$ Hei0 Ho Hei1 Hes1

/-- Segment 10 of the body. -/
theorem part_10 {kk : (FVec F S1024x256 .bf16) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(anyBlk oM (colR 0) c -∗ anyBlk sM (slotR 0 0 0) c -∗ ow c (rem 0) -∗ tok c 0 0 0 -∗ pos c 0 0 0 0 -∗ pslot (partner c 0 0) 0 0 0 -∗ anyBlk sM (slotR 0 1 0) c -∗
      (blk oM (halfR 0 0) c (outv m 0 c 0 0) -∗ blk oM (halfR 1 0) c (outv m 0 c 1 0) -∗ ow c (rem 1) -∗ fly c 0 0 0 -∗ anyBlk sM (slotR 0 1 0) c -∗ wpD c (kk (val_v325 m c)) Q)
      -∗ wpD c (k0_part10 xM h0 rM h1 iM h2 wM h3 oM h4 eM h5 cc0_scratch1 sM h7 vM h8 cc0_scratch4 cc0_scratch5 c (val_v10 m c) (val_v274 m c) (val_v304 m c) >>= kk) Q) := by
  rw [k0_part10_eq_skeleton]; unfold k0_part10_skel
  simp only [semSignalWord, semWaitWord, Prog.lift, Prog.bind_op, Prog.bind_ret, Prog.pure_eq_ret, wp_deviceId]
  iintro #HC Hoc0 Hss000 Ho Htk000 Hpo000 Hps000 Hss010 Hk
  iapply (ld_any c (M := oM) (r := colR 0)) $$ Hoc0; iintro %v306 Hoc0
  iapply (mv_storecol m c 0 (w := k0_pay28 (val_v274 m c) (val_v304 m c)) rfl) $$ Hoc0; iintro Hoh00 Hoh10
  iapply (ld_blk c (M := oM) (r := halfR 0 0) (V := outv m 0 c 0 0)) $$ Hoh00; iintro Hoh00
  iapply (ld_any c (M := sM) (r := slotR 0 0 0)) $$ Hss000; iintro %v310 Hss000
  iapply (mv_storesend m c 0 0 0 0 rfl (k0_pay29 (outv m 0 c 0 0)) rfl) $$ Hss000; iintro Hss000
  iapply (mv_start m K c 0 0 0 rfl (dev3_eq c) 0 rfl 0 rfl rfl rfl 0 rfl) $$ HC Htk000 Hpo000 Hss000 Hps000 Ho; iintro Hxf000 Ho
  iapply (ld_blk c (M := oM) (r := halfR 1 0) (V := outv m 0 c 1 0)) $$ Hoh10; iintro Hoh10
  iapply (ld_any c (M := sM) (r := slotR 0 1 0)) $$ Hss010; iintro %v326 Hss010
  iapply Hk $$ Hoh00 Hoh10 Ho Hxf000 Hss010

/-- Segment 11 of the body. -/
theorem part_11 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(anyBlk sM (slotR 0 1 0) c -∗ ow c (rem 1) -∗ tok c 0 1 0 -∗ pos c 0 1 0 0 -∗ pslot (partner c 0 1) 0 1 0 -∗ ewIdle m c 1 -∗ anyBlk eM (slotE 1) c -∗
      (ow c (rem 2) -∗ fly c 0 1 0 -∗ ewBusy m c 1 1 1 -∗ wpD c (kk (val_v339 m c)) Q)
      -∗ wpD c (k0_part11 xM h0 rM h1 iM h2 wM h3 oM h4 eM h5 cc0_scratch1 sM h7 vM h8 cc0_scratch4 cc0_scratch5 c (val_v11 m c) (val_v325 m c) >>= kk) Q) := by
  rw [k0_part11_eq_skeleton]; unfold k0_part11_skel
  simp only [semSignalWord, semWaitWord, Prog.lift, Prog.bind_op, Prog.bind_ret, Prog.pure_eq_ret, wp_deviceId]
  iintro #HC Hss010 Ho Htk010 Hpo010 Hps010 Hei1 Hes1 Hk
  iapply (mv_storesend m c 0 1 0 0 rfl (k0_pay31 (val_v325 m c)) rfl) $$ Hss010; iintro Hss010
  iapply (mv_start m K c 0 1 0 rfl (dev4_eq c) 0 rfl 0 rfl rfl rfl 1 rfl) $$ HC Htk010 Hpo010 Hss010 Hps010 Ho; iintro Hxf010 Ho
  iapply (mv_ewstart m c 1 1 1 rfl) $$ Hei1 Hes1; iintro Hei1
  iapply Hk $$ Ho Hxf010 Hei1

/-- Segment 12 of the body. -/
theorem part_12 {kk : (Σ' (v370 : FVec F S2048x256 .f32), Vec F S1x1024x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 2) -∗ ewBusy m c 0 0 1 -∗ ewBusy m c 1 1 1 -∗
      (ow c (rem 2) -∗ ewBusy m c 0 2 1 -∗ ewIdle m c 1 -∗ anyBlk eM (slotE 1) c -∗ wpD c (kk ⟨val_v370 m c, val_v383 m c⟩) Q)
      -∗ wpD c (k0_part12 xM h0 rM h1 iM h2 wM h3 oM h4 eM h5 cc0_scratch1 sM h7 vM h8 cc0_scratch4 cc0_scratch5 (val_v2 m c) (val_v24 m c) (val_v38 m c) (val_v55 m c) (val_v56 m c) (val_v339 m c) >>= kk) Q) := by
  rw [k0_part12_eq_skeleton]; unfold k0_part12_skel
  simp only [semSignalWord, semWaitWord, Prog.lift, Prog.bind_op, Prog.bind_ret, Prog.pure_eq_ret, wp_deviceId]
  iintro #HC Ho Hei0 Hei1 Hk
  iapply (mv_ewwait m K c 0 0 1 rfl 2) $$ HC Hei0 Ho; iintro Hei0 Hes0 Ho
  iapply (ld_blk c (M := eM) (r := slotE 0) (V := wblk m c 0 1)) $$ Hes0; iintro Hes0
  ihave Hes0 := (blk_any eM (slotE 0) c (wblk m c 0 1)) $$ Hes0
  iapply (mv_ewstart m c 0 2 1 rfl) $$ Hei0 Hes0; iintro Hei0
  iapply (mv_ewwait m K c 1 1 1 rfl 2) $$ HC Hei1 Ho; iintro Hei1 Hes1 Ho
  iapply (ld_blk c (M := eM) (r := slotE 1) (V := wblk m c 1 1)) $$ Hes1; iintro Hes1
  ihave Hes1 := (blk_any eM (slotE 1) c (wblk m c 1 1)) $$ Hes1
  iapply Hk $$ Ho Hei0 Hei1 Hes1

/-- Segment 13 of the body. -/
theorem part_13 {kk : (Σ' (v401 : FVec F S2048x256 .f32) (v416 : FVec F S2048x256 .f32), BitVec 32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 1 -∗ anyBlk eM (slotE 1) c -∗ ow c (rem 2) -∗ ewBusy m c 0 2 1 -∗
      (ewBusy m c 1 3 1 -∗ ow c (rem 2) -∗ ewIdle m c 0 -∗ anyBlk eM (slotE 0) c -∗ wpD c (kk ⟨val_v401 m c, val_v416 m c, val_v417 m c⟩) Q)
      -∗ wpD c (k0_part13 xM h0 rM h1 iM h2 wM h3 oM h4 eM h5 cc0_scratch1 sM h7 vM h8 cc0_scratch4 cc0_scratch5 (val_v2 m c) (val_v24 m c) (val_v38 m c) (val_v55 m c) (val_v56 m c) (val_v370 m c) (val_v383 m c) >>= kk) Q) := by
  rw [k0_part13_eq_skeleton]; unfold k0_part13_skel
  simp only [semSignalWord, semWaitWord, Prog.lift, Prog.bind_op, Prog.bind_ret, Prog.pure_eq_ret, wp_deviceId]
  iintro #HC Hei1 Hes1 Ho Hei0 Hk
  iapply (mv_ewstart m c 1 3 1 rfl) $$ Hei1 Hes1; iintro Hei1
  iapply (mv_ewwait m K c 0 2 1 rfl 2) $$ HC Hei0 Ho; iintro Hei0 Hes0 Ho
  iapply (ld_blk c (M := eM) (r := slotE 0) (V := wblk m c 2 1)) $$ Hes0; iintro Hes0
  ihave Hes0 := (blk_any eM (slotE 0) c (wblk m c 2 1)) $$ Hes0
  iapply Hk $$ Hei1 Ho Hei0 Hes0

/-- Segment 14 of the body. -/
theorem part_14 {kk : (Σ' (v432 : FVec F S2048x256 .f32) (v447 : FVec F S2048x256 .f32) (v449 : BitVec 32), IVec S2048x1 1) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 0 -∗ anyBlk eM (slotE 0) c -∗ ow c (rem 2) -∗ ewBusy m c 1 3 1 -∗
      (ewBusy m c 0 4 1 -∗ ow c (rem 2) -∗ ewIdle m c 1 -∗ anyBlk eM (slotE 1) c -∗ wpD c (kk ⟨val_v432 m c, val_v447 m c, val_v449 m c, val_v452 m c⟩) Q)
      -∗ wpD c (k0_part14 xM h0 rM h1 iM h2 wM h3 oM h4 eM h5 cc0_scratch1 sM h7 vM h8 cc0_scratch4 cc0_scratch5 (val_v2 m c) (val_v24 m c) (val_v38 m c) (val_v55 m c) (val_v56 m c) (val_v401 m c) (val_v416 m c) (val_v417 m c) >>= kk) Q) := by
  rw [k0_part14_eq_skeleton]; unfold k0_part14_skel
  simp only [semSignalWord, semWaitWord, Prog.lift, Prog.bind_op, Prog.bind_ret, Prog.pure_eq_ret, wp_deviceId]
  iintro #HC Hei0 Hes0 Ho Hei1 Hk
  iapply (mv_ewstart m c 0 4 1 rfl) $$ Hei0 Hes0; iintro Hei0
  iapply (mv_ewwait m K c 1 3 1 rfl 2) $$ HC Hei1 Ho; iintro Hei1 Hes1 Ho
  iapply (ld_blk c (M := eM) (r := slotE 1) (V := wblk m c 3 1)) $$ Hes1; iintro Hes1
  ihave Hes1 := (blk_any eM (slotE 1) c (wblk m c 3 1)) $$ Hes1
  iapply Hk $$ Hei0 Ho Hei1 Hes1

/-- Segment 15 of the body. -/
theorem part_15 {kk : (Σ' (v463 : FVec F S2048x256 .f32) (v478 : FVec F S2048x256 .f32) (v485 : FVec F S2048x1 .f32) (v486 : IVec S2048x1 32), IVec S2048x1 32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 1 -∗ anyBlk eM (slotE 1) c -∗ ow c (rem 2) -∗ ewBusy m c 0 4 1 -∗
      (ewBusy m c 1 5 1 -∗ ow c (rem 2) -∗ ewIdle m c 0 -∗ anyBlk eM (slotE 0) c -∗ wpD c (kk ⟨val_v463 m c, val_v478 m c, val_v485 m c, val_v486 m c, val_v487 m c⟩) Q)
      -∗ wpD c (k0_part15 xM h0 rM h1 iM h2 wM h3 oM h4 eM h5 cc0_scratch1 sM h7 vM h8 cc0_scratch4 cc0_scratch5 (val_v2 m c) (val_v24 m c) (val_v38 m c) (val_v55 m c) (val_v56 m c) (val_v432 m c) (val_v447 m c) (val_v449 m c) (val_v452 m c) >>= kk) Q) := by
  rw [k0_part15_eq_skeleton]; unfold k0_part15_skel
  simp only [semSignalWord, semWaitWord, Prog.lift, Prog.bind_op, Prog.bind_ret, Prog.pure_eq_ret, wp_deviceId]
  iintro #HC Hei1 Hes1 Ho Hei0 Hk
  iapply (mv_ewstart m c 1 5 1 rfl) $$ Hei1 Hes1; iintro Hei1
  iapply (mv_ewwait m K c 0 4 1 rfl 2) $$ HC Hei0 Ho; iintro Hei0 Hes0 Ho
  iapply (ld_blk c (M := eM) (r := slotE 0) (V := wblk m c 4 1)) $$ Hes0; iintro Hes0
  ihave Hes0 := (blk_any eM (slotE 0) c (wblk m c 4 1)) $$ Hes0
  iapply Hk $$ Hei1 Ho Hei0 Hes0

/-- Segment 16 of the body. -/
theorem part_16 {kk : (Σ' (v494 : FVec F S2048x256 .f32) (v509 : FVec F S2048x256 .f32), FVec F S2048x1 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 0 -∗ anyBlk eM (slotE 0) c -∗ ow c (rem 2) -∗ ewBusy m c 1 5 1 -∗
      (ewBusy m c 0 6 1 -∗ ow c (rem 2) -∗ ewIdle m c 1 -∗ anyBlk eM (slotE 1) c -∗ wpD c (kk ⟨val_v494 m c, val_v509 m c, val_v522 m c⟩) Q)
      -∗ wpD c (k0_part16 xM h0 rM h1 iM h2 wM h3 oM h4 eM h5 cc0_scratch1 sM h7 vM h8 cc0_scratch4 cc0_scratch5 (val_v2 m c) (val_v24 m c) (val_v38 m c) (val_v55 m c) (val_v56 m c) (val_v463 m c) (val_v478 m c) (val_v485 m c) (val_v486 m c) (val_v487 m c) >>= kk) Q) := by
  rw [k0_part16_eq_skeleton]; unfold k0_part16_skel
  simp only [semSignalWord, semWaitWord, Prog.lift, Prog.bind_op, Prog.bind_ret, Prog.pure_eq_ret, wp_deviceId]
  iintro #HC Hei0 Hes0 Ho Hei1 Hk
  iapply (mv_ewstart m c 0 6 1 rfl) $$ Hei0 Hes0; iintro Hei0
  iapply (mv_ewwait m K c 1 5 1 rfl 2) $$ HC Hei1 Ho; iintro Hei1 Hes1 Ho
  iapply (ld_blk c (M := eM) (r := slotE 1) (V := wblk m c 5 1)) $$ Hes1; iintro Hes1
  ihave Hes1 := (blk_any eM (slotE 1) c (wblk m c 5 1)) $$ Hes1
  iapply Hk $$ Hei0 Ho Hei1 Hes1

/-- Segment 17 of the body. -/
theorem part_17 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 1 -∗ anyBlk eM (slotE 1) c -∗ ow c (rem 2) -∗ ewBusy m c 0 6 1 -∗
      (ewBusy m c 1 7 1 -∗ ow c (rem 2) -∗ ewIdle m c 0 -∗ anyBlk eM (slotE 0) c -∗ wpD c (kk (val_v556 m c)) Q)
      -∗ wpD c (k0_part17 xM h0 rM h1 iM h2 wM h3 oM h4 eM h5 cc0_scratch1 sM h7 vM h8 cc0_scratch4 cc0_scratch5 (val_v2 m c) (val_v24 m c) (val_v38 m c) (val_v55 m c) (val_v56 m c) (val_v494 m c) (val_v509 m c) (val_v522 m c) >>= kk) Q) := by
  rw [k0_part17_eq_skeleton]; unfold k0_part17_skel
  simp only [semSignalWord, semWaitWord, Prog.lift, Prog.bind_op, Prog.bind_ret, Prog.pure_eq_ret, wp_deviceId]
  iintro #HC Hei1 Hes1 Ho Hei0 Hk
  iapply (mv_ewstart m c 1 7 1 rfl) $$ Hei1 Hes1; iintro Hei1
  iapply (mv_ewwait m K c 0 6 1 rfl 2) $$ HC Hei0 Ho; iintro Hei0 Hes0 Ho
  iapply (ld_blk c (M := eM) (r := slotE 0) (V := wblk m c 6 1)) $$ Hes0; iintro Hes0
  ihave Hes0 := (blk_any eM (slotE 0) c (wblk m c 6 1)) $$ Hes0
  iapply Hk $$ Hei1 Ho Hei0 Hes0

/-- Segment 18 of the body. -/
theorem part_18 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 0 -∗ anyBlk eM (slotE 0) c -∗ ow c (rem 2) -∗ ewBusy m c 1 7 1 -∗ anyBlk oM (colR 1) c -∗
      (ewBusy m c 0 0 2 -∗ ow c (rem 2) -∗ ewIdle m c 1 -∗ anyBlk eM (slotE 1) c -∗ blk oM (halfR 0 1) c (outv m 0 c 0 1) -∗ blk oM (halfR 1 1) c (outv m 0 c 1 1) -∗ wpD c (kk ⟨⟩) Q)
      -∗ wpD c (k0_part18 xM h0 rM h1 iM h2 wM h3 oM h4 eM h5 cc0_scratch1 sM h7 vM h8 cc0_scratch4 cc0_scratch5 (val_v2 m c) (val_v24 m c) (val_v38 m c) (val_v55 m c) (val_v56 m c) (val_v556 m c) >>= kk) Q) := by
  rw [k0_part18_eq_skeleton]; unfold k0_part18_skel
  simp only [semSignalWord, semWaitWord, Prog.lift, Prog.bind_op, Prog.bind_ret, Prog.pure_eq_ret, wp_deviceId]
  iintro #HC Hei0 Hes0 Ho Hei1 Hoc1 Hk
  iapply (mv_ewstart m c 0 0 2 rfl) $$ Hei0 Hes0; iintro Hei0
  iapply (mv_ewwait m K c 1 7 1 rfl 2) $$ HC Hei1 Ho; iintro Hei1 Hes1 Ho
  iapply (ld_blk c (M := eM) (r := slotE 1) (V := wblk m c 7 1)) $$ Hes1; iintro Hes1
  ihave Hes1 := (blk_any eM (slotE 1) c (wblk m c 7 1)) $$ Hes1
  iapply (ld_any c (M := oM) (r := colR 1)) $$ Hoc1; iintro %v588 Hoc1
  iapply (mv_storecol m c 1 (w := k0_pay48 (val_v2 m c) (val_v24 m c) (val_v38 m c) (val_v55 m c) (val_v56 m c) (val_v556 m c) (wblk m c 7 1)) rfl) $$ Hoc1; iintro Hoh01 Hoh11
  iapply Hk $$ Hei0 Ho Hei1 Hes1 Hoh01 Hoh11

/-- Segment 19 of the body. -/
theorem part_19 {kk : (Σ' (v604 : FVec F S1024x256 .f32), FVec F S1024x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(fly c 0 0 0 -∗ ow c (rem 2) -∗ blk oM (halfR 0 0) c (outv m 0 c 0 0) -∗
      (anyBlk sM (slotR 0 0 0) c -∗ ow c (rem 2) -∗ got m c 0 0 0 -∗ pos c 0 0 0 1 -∗ rch c 0 0 0 -∗ blk oM (halfR 0 0) c (outv m 0 c 0 0) -∗ wpD c (kk ⟨val_v604 m c, val_v607 m c⟩) Q)
      -∗ wpD c (k0_part19 xM h0 rM h1 iM h2 wM h3 oM h4 eM h5 cc0_scratch1 sM h7 vM h8 cc0_scratch4 cc0_scratch5 (val_v10 m c) >>= kk) Q) := by
  rw [k0_part19_eq_skeleton]; unfold k0_part19_skel
  simp only [semSignalWord, semWaitWord, Prog.lift, Prog.bind_op, Prog.bind_ret, Prog.pure_eq_ret, wp_deviceId]
  iintro #HC Hxf000 Ho Hoh00 Hk
  iapply (mv_sent m K c 0 0 0 0 rfl rfl 2) $$ HC Hxf000 Ho; iintro Hxf000 Hss000 Ho
  iapply (mv_recv m K c 0 0 0 0 rfl 1 rfl (G := iprop(emp)) rfl rfl 2 (by decide)) $$ HC Hxf000 Ho; iintro Hgo000 Hrc000 - Hpo000 Ho
  iapply (ld_blk c (M := oM) (r := halfR 0 0) (V := outv m 0 c 0 0)) $$ Hoh00; iintro Hoh00
  iapply (ld_got m c 0 0 0 0 rfl) $$ Hgo000; iintro Hgo000
  iapply Hk $$ Hss000 Ho Hgo000 Hpo000 Hrc000 Hoh00

/-- Segment 20 of the body. -/
theorem part_20 {kk : (FVec F S1024x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(blk oM (halfR 0 0) c (outv m 0 c 0 0) -∗ fly c 0 1 0 -∗ ow c (rem 2) -∗ blk oM (halfR 1 0) c (outv m 0 c 1 0) -∗
      (blk oM (halfR 0 0) c (outv m 1 c 0 0) -∗ anyBlk sM (slotR 0 1 0) c -∗ ow c (rem 2) -∗ got m c 0 1 0 -∗ pos c 0 1 0 1 -∗ rch c 0 1 0 -∗ blk oM (halfR 1 0) c (outv m 0 c 1 0) -∗ wpD c (kk (val_v625 m c)) Q)
      -∗ wpD c (k0_part20 xM h0 rM h1 iM h2 wM h3 oM h4 eM h5 cc0_scratch1 sM h7 vM h8 cc0_scratch4 cc0_scratch5 (val_v11 m c) (val_v604 m c) (val_v607 m c) >>= kk) Q) := by
  rw [k0_part20_eq_skeleton]; unfold k0_part20_skel
  simp only [semSignalWord, semWaitWord, Prog.lift, Prog.bind_op, Prog.bind_ret, Prog.pure_eq_ret, wp_deviceId]
  iintro #HC Hoh00 Hxf010 Ho Hoh10 Hk
  iapply (ld_blk c (M := oM) (r := halfR 0 0) (V := outv m 0 c 0 0)) $$ Hoh00; iintro Hoh00
  iapply (mv_storeo m c 0 0 1 (k0_pay51 (val_v604 m c) (val_v607 m c)) rfl) $$ Hoh00; iintro Hoh00
  iapply (mv_sent m K c 0 1 0 0 rfl rfl 2) $$ HC Hxf010 Ho; iintro Hxf010 Hss010 Ho
  iapply (mv_recv m K c 0 1 0 0 rfl 1 rfl (G := iprop(emp)) rfl rfl 2 (by decide)) $$ HC Hxf010 Ho; iintro Hgo010 Hrc010 - Hpo010 Ho
  iapply (ld_blk c (M := oM) (r := halfR 1 0) (V := outv m 0 c 1 0)) $$ Hoh10; iintro Hoh10
  iapply Hk $$ Hoh00 Hss010 Ho Hgo010 Hpo010 Hrc010 Hoh10

/-- Segment 21 of the body. -/
theorem part_21 {kk : (FVec F S1024x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(got m c 0 1 0 -∗ blk oM (halfR 1 0) c (outv m 0 c 1 0) -∗ blk oM (halfR 0 0) c (outv m 1 c 0 0) -∗ anyBlk sM (slotR 1 0 0) c -∗ ow c (rem 2) -∗ tok c 1 0 0 -∗ pos c 1 0 0 0 -∗ pslot (partner c 1 0) 1 0 0 -∗
      (got m c 0 1 0 -∗ blk oM (halfR 1 0) c (outv m 1 c 1 0) -∗ blk oM (halfR 0 0) c (outv m 1 c 0 0) -∗ ow c (rem 3) -∗ fly c 1 0 0 -∗ wpD c (kk (val_v648 m c)) Q)
      -∗ wpD c (k0_part21 xM h0 rM h1 iM h2 wM h3 oM h4 eM h5 cc0_scratch1 sM h7 vM h8 cc0_scratch4 cc0_scratch5 c (val_v11 m c) (val_v625 m c) >>= kk) Q) := by
  rw [k0_part21_eq_skeleton]; unfold k0_part21_skel
  simp only [semSignalWord, semWaitWord, Prog.lift, Prog.bind_op, Prog.bind_ret, Prog.pure_eq_ret, wp_deviceId]
  iintro #HC Hgo010 Hoh10 Hoh00 Hss100 Ho Htk100 Hpo100 Hps100 Hk
  iapply (ld_got m c 0 1 0 0 rfl) $$ Hgo010; iintro Hgo010
  iapply (ld_blk c (M := oM) (r := halfR 1 0) (V := outv m 0 c 1 0)) $$ Hoh10; iintro Hoh10
  iapply (mv_storeo m c 1 0 1 (k0_pay53 (val_v625 m c) (sndv m (partner c 0 1) 0 1 0)) rfl) $$ Hoh10; iintro Hoh10
  iapply (ld_blk c (M := oM) (r := halfR 0 0) (V := outv m 1 c 0 0)) $$ Hoh00; iintro Hoh00
  iapply (ld_any c (M := sM) (r := slotR 1 0 0)) $$ Hss100; iintro %v634 Hss100
  iapply (mv_storesend m c 1 0 0 0 rfl (k0_pay54 (outv m 1 c 0 0)) rfl) $$ Hss100; iintro Hss100
  iapply (mv_start m K c 1 0 0 rfl (dev5_eq c) 0 rfl 0 rfl rfl rfl 2 rfl) $$ HC Htk100 Hpo100 Hss100 Hps100 Ho; iintro Hxf100 Ho
  iapply (ld_blk c (M := oM) (r := halfR 1 0) (V := outv m 1 c 1 0)) $$ Hoh10; iintro Hoh10
  iapply Hk $$ Hgo010 Hoh10 Hoh00 Ho Hxf100

/-- Segment 22 of the body. -/
theorem part_22 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(anyBlk sM (slotR 1 1 0) c -∗ ow c (rem 3) -∗ tok c 1 1 0 -∗ pos c 1 1 0 0 -∗ pslot (partner c 1 1) 1 1 0 -∗ blk oM (halfR 0 1) c (outv m 0 c 0 1) -∗ anyBlk sM (slotR 0 0 1) c -∗
      (ow c (rem 4) -∗ fly c 1 1 0 -∗ blk oM (halfR 0 1) c (outv m 0 c 0 1) -∗ blk sM (slotR 0 0 1) c (sndv m c 0 0 1) -∗ wpD c (kk ⟨⟩) Q)
      -∗ wpD c (k0_part22 xM h0 rM h1 iM h2 wM h3 oM h4 eM h5 cc0_scratch1 sM h7 vM h8 cc0_scratch4 cc0_scratch5 c (val_v10 m c) (val_v648 m c) >>= kk) Q) := by
  rw [k0_part22_eq_skeleton]; unfold k0_part22_skel
  simp only [semSignalWord, semWaitWord, Prog.lift, Prog.bind_op, Prog.bind_ret, Prog.pure_eq_ret, wp_deviceId]
  iintro #HC Hss110 Ho Htk110 Hpo110 Hps110 Hoh01 Hss001 Hk
  iapply (ld_any c (M := sM) (r := slotR 1 1 0)) $$ Hss110; iintro %v650 Hss110
  iapply (mv_storesend m c 1 1 0 0 rfl (k0_pay56 (val_v648 m c)) rfl) $$ Hss110; iintro Hss110
  iapply (mv_start m K c 1 1 0 rfl (dev6_eq c) 0 rfl 0 rfl rfl rfl 3 rfl) $$ HC Htk110 Hpo110 Hss110 Hps110 Ho; iintro Hxf110 Ho
  iapply (ld_blk c (M := oM) (r := halfR 0 1) (V := outv m 0 c 0 1)) $$ Hoh01; iintro Hoh01
  iapply (ld_any c (M := sM) (r := slotR 0 0 1)) $$ Hss001; iintro %v666 Hss001
  iapply (mv_storesend m c 0 0 1 1 rfl (k0_pay57 (outv m 0 c 0 1)) rfl) $$ Hss001; iintro Hss001
  iapply Hk $$ Ho Hxf110 Hoh01 Hss001

/-- Segment 23 of the body. -/
theorem part_23 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 4) -∗ tok c 0 0 1 -∗ pos c 0 0 1 0 -∗ blk sM (slotR 0 0 1) c (sndv m c 0 0 1) -∗ pslot (partner c 0 0) 0 0 1 -∗ got m c 0 0 0 -∗ rch c 0 0 0 -∗ blk oM (halfR 1 1) c (outv m 0 c 1 1) -∗ anyBlk sM (slotR 0 1 1) c -∗
      (ow c (rem 5) -∗ fly c 0 0 1 -∗ blk oM (halfR 1 1) c (outv m 0 c 1 1) -∗ blk sM (slotR 0 1 1) c (sndv m c 0 1 1) -∗ wpD c (kk ⟨⟩) Q)
      -∗ wpD c (k0_part23 xM h0 rM h1 iM h2 wM h3 oM h4 eM h5 cc0_scratch1 sM h7 vM h8 cc0_scratch4 cc0_scratch5 c (val_v10 m c) (val_v11 m c) >>= kk) Q) := by
  rw [k0_part23_eq_skeleton]; unfold k0_part23_skel
  simp only [semSignalWord, semWaitWord, Prog.lift, Prog.bind_op, Prog.bind_ret, Prog.pure_eq_ret, wp_deviceId]
  iintro #HC Ho Htk001 Hpo001 Hss001 Hps001 Hgo000 Hrc000 Hoh11 Hss011 Hk
  iapply (mv_startg m K c 0 0 1 0 rfl rfl rfl (dev7_eq c) 1 rfl 0 rfl rfl rfl 4 rfl) $$ HC Htk001 Hpo001 Hss001 Hps001 Hgo000 Hrc000 Ho; iintro Hxf001 Ho
  iapply (ld_blk c (M := oM) (r := halfR 1 1) (V := outv m 0 c 1 1)) $$ Hoh11; iintro Hoh11
  iapply (ld_any c (M := sM) (r := slotR 0 1 1)) $$ Hss011; iintro %v682 Hss011
  iapply (mv_storesend m c 0 1 1 1 rfl (k0_pay58 (outv m 0 c 1 1)) rfl) $$ Hss011; iintro Hss011
  iapply Hk $$ Ho Hxf001 Hoh11 Hss011

/-- Segment 24 of the body. -/
theorem part_24 {kk : (Σ' (v695 : FVec F S2048x256 .f32) (v710 : FVec F S2048x256 .f32), FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 5) -∗ tok c 0 1 1 -∗ pos c 0 1 1 0 -∗ blk sM (slotR 0 1 1) c (sndv m c 0 1 1) -∗ pslot (partner c 0 1) 0 1 1 -∗ got m c 0 1 0 -∗ rch c 0 1 0 -∗ ewIdle m c 1 -∗ anyBlk eM (slotE 1) c -∗ ewBusy m c 0 0 2 -∗
      (ow c (rem 6) -∗ fly c 0 1 1 -∗ ewBusy m c 1 1 2 -∗ ewIdle m c 0 -∗ anyBlk eM (slotE 0) c -∗ wpD c (kk ⟨val_v695 m c, val_v710 m c, val_v724 m c⟩) Q)
      -∗ wpD c (k0_part24 xM h0 rM h1 iM h2 wM h3 oM h4 eM h5 cc0_scratch1 sM h7 vM h8 cc0_scratch4 cc0_scratch5 c (val_v2 m c) (val_v24 m c) (val_v38 m c) (val_v55 m c) (val_v56 m c) >>= kk) Q) := by
  rw [k0_part24_eq_skeleton]; unfold k0_part24_skel
  simp only [semSignalWord, semWaitWord, Prog.lift, Prog.bind_op, Prog.bind_ret, Prog.pure_eq_ret, wp_deviceId]
  iintro #HC Ho Htk011 Hpo011 Hss011 Hps011 Hgo010 Hrc010 Hei1 Hes1 Hei0 Hk
  iapply (mv_startg m K c 0 1 1 0 rfl rfl rfl (dev8_eq c) 1 rfl 0 rfl rfl rfl 5 rfl) $$ HC Htk011 Hpo011 Hss011 Hps011 Hgo010 Hrc010 Ho; iintro Hxf011 Ho
  iapply (mv_ewstart m c 1 1 2 rfl) $$ Hei1 Hes1; iintro Hei1
  iapply (mv_ewwait m K c 0 0 2 rfl 6) $$ HC Hei0 Ho; iintro Hei0 Hes0 Ho
  iapply (ld_blk c (M := eM) (r := slotE 0) (V := wblk m c 0 2)) $$ Hes0; iintro Hes0
  ihave Hes0 := (blk_any eM (slotE 0) c (wblk m c 0 2)) $$ Hes0
  iapply Hk $$ Ho Hxf011 Hei1 Hei0 Hes0

/-- Segment 25 of the body. -/
theorem part_25 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 0 -∗ anyBlk eM (slotE 0) c -∗ ow c (rem 6) -∗ ewBusy m c 1 1 2 -∗
      (ewBusy m c 0 2 2 -∗ ow c (rem 6) -∗ ewIdle m c 1 -∗ anyBlk eM (slotE 1) c -∗ wpD c (kk (val_v757 m c)) Q)
      -∗ wpD c (k0_part25 xM h0 rM h1 iM h2 wM h3 oM h4 eM h5 cc0_scratch1 sM h7 vM h8 cc0_scratch4 cc0_scratch5 (val_v2 m c) (val_v24 m c) (val_v38 m c) (val_v55 m c) (val_v56 m c) (val_v695 m c) (val_v710 m c) (val_v724 m c) >>= kk) Q) := by
  rw [k0_part25_eq_skeleton]; unfold k0_part25_skel
  simp only [semSignalWord, semWaitWord, Prog.lift, Prog.bind_op, Prog.bind_ret, Prog.pure_eq_ret, wp_deviceId]
  iintro #HC Hei0 Hes0 Ho Hei1 Hk
  iapply (mv_ewstart m c 0 2 2 rfl) $$ Hei0 Hes0; iintro Hei0
  iapply (mv_ewwait m K c 1 1 2 rfl 6) $$ HC Hei1 Ho; iintro Hei1 Hes1 Ho
  iapply (ld_blk c (M := eM) (r := slotE 1) (V := wblk m c 1 2)) $$ Hes1; iintro Hes1
  ihave Hes1 := (blk_any eM (slotE 1) c (wblk m c 1 2)) $$ Hes1
  iapply Hk $$ Hei0 Ho Hei1 Hes1

/-- Segment 26 of the body. -/
theorem part_26 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 1 -∗ anyBlk eM (slotE 1) c -∗ ow c (rem 6) -∗ ewBusy m c 0 2 2 -∗
      (ewBusy m c 1 3 2 -∗ ow c (rem 6) -∗ ewIdle m c 0 -∗ anyBlk eM (slotE 0) c -∗ wpD c (kk (val_v788 m c)) Q)
      -∗ wpD c (k0_part26 xM h0 rM h1 iM h2 wM h3 oM h4 eM h5 cc0_scratch1 sM h7 vM h8 cc0_scratch4 cc0_scratch5 (val_v2 m c) (val_v24 m c) (val_v38 m c) (val_v55 m c) (val_v56 m c) (val_v757 m c) >>= kk) Q) := by
  rw [k0_part26_eq_skeleton]; unfold k0_part26_skel
  simp only [semSignalWord, semWaitWord, Prog.lift, Prog.bind_op, Prog.bind_ret, Prog.pure_eq_ret, wp_deviceId]
  iintro #HC Hei1 Hes1 Ho Hei0 Hk
  iapply (mv_ewstart m c 1 3 2 rfl) $$ Hei1 Hes1; iintro Hei1
  iapply (mv_ewwait m K c 0 2 2 rfl 6) $$ HC Hei0 Ho; iintro Hei0 Hes0 Ho
  iapply (ld_blk c (M := eM) (r := slotE 0) (V := wblk m c 2 2)) $$ Hes0; iintro Hes0
  ihave Hes0 := (blk_any eM (slotE 0) c (wblk m c 2 2)) $$ Hes0
  iapply Hk $$ Hei1 Ho Hei0 Hes0

/-- Segment 27 of the body. -/
theorem part_27 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 0 -∗ anyBlk eM (slotE 0) c -∗ ow c (rem 6) -∗ ewBusy m c 1 3 2 -∗
      (ewBusy m c 0 4 2 -∗ ow c (rem 6) -∗ ewIdle m c 1 -∗ anyBlk eM (slotE 1) c -∗ wpD c (kk (val_v819 m c)) Q)
      -∗ wpD c (k0_part27 xM h0 rM h1 iM h2 wM h3 oM h4 eM h5 cc0_scratch1 sM h7 vM h8 cc0_scratch4 cc0_scratch5 (val_v2 m c) (val_v24 m c) (val_v38 m c) (val_v55 m c) (val_v56 m c) (val_v788 m c) >>= kk) Q) := by
  rw [k0_part27_eq_skeleton]; unfold k0_part27_skel
  simp only [semSignalWord, semWaitWord, Prog.lift, Prog.bind_op, Prog.bind_ret, Prog.pure_eq_ret, wp_deviceId]
  iintro #HC Hei0 Hes0 Ho Hei1 Hk
  iapply (mv_ewstart m c 0 4 2 rfl) $$ Hei0 Hes0; iintro Hei0
  iapply (mv_ewwait m K c 1 3 2 rfl 6) $$ HC Hei1 Ho; iintro Hei1 Hes1 Ho
  iapply (ld_blk c (M := eM) (r := slotE 1) (V := wblk m c 3 2)) $$ Hes1; iintro Hes1
  ihave Hes1 := (blk_any eM (slotE 1) c (wblk m c 3 2)) $$ Hes1
  iapply Hk $$ Hei0 Ho Hei1 Hes1

/-- Segment 28 of the body. -/
theorem part_28 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 1 -∗ anyBlk eM (slotE 1) c -∗ ow c (rem 6) -∗ ewBusy m c 0 4 2 -∗
      (ewBusy m c 1 5 2 -∗ ow c (rem 6) -∗ ewBusy m c 0 6 2 -∗ wpD c (kk (val_v850 m c)) Q)
      -∗ wpD c (k0_part28 xM h0 rM h1 iM h2 wM h3 oM h4 eM h5 cc0_scratch1 sM h7 vM h8 cc0_scratch4 cc0_scratch5 (val_v2 m c) (val_v24 m c) (val_v38 m c) (val_v55 m c) (val_v56 m c) (val_v819 m c) >>= kk) Q) := by
  rw [k0_part28_eq_skeleton]; unfold k0_part28_skel
  simp only [semSignalWord, semWaitWord, Prog.lift, Prog.bind_op, Prog.bind_ret, Prog.pure_eq_ret, wp_deviceId]
  iintro #HC Hei1 Hes1 Ho Hei0 Hk
  iapply (mv_ewstart m c 1 5 2 rfl) $$ Hei1 Hes1; iintro Hei1
  iapply (mv_ewwait m K c 0 4 2 rfl 6) $$ HC Hei0 Ho; iintro Hei0 Hes0 Ho
  iapply (ld_blk c (M := eM) (r := slotE 0) (V := wblk m c 4 2)) $$ Hes0; iintro Hes0
  ihave Hes0 := (blk_any eM (slotE 0) c (wblk m c 4 2)) $$ Hes0
  iapply (mv_ewstart m c 0 6 2 rfl) $$ Hei0 Hes0; iintro Hei0
  iapply Hk $$ Hei1 Ho Hei0

/-- Segment 29 of the body. -/
theorem part_29 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 6) -∗ ewBusy m c 1 5 2 -∗
      (ow c (rem 6) -∗ ewBusy m c 1 7 2 -∗ wpD c (kk (val_v881 m c)) Q)
      -∗ wpD c (k0_part29 xM h0 rM h1 iM h2 wM h3 oM h4 eM h5 cc0_scratch1 sM h7 vM h8 cc0_scratch4 cc0_scratch5 (val_v2 m c) (val_v24 m c) (val_v38 m c) (val_v55 m c) (val_v56 m c) (val_v850 m c) >>= kk) Q) := by
  rw [k0_part29_eq_skeleton]; unfold k0_part29_skel
  simp only [semSignalWord, semWaitWord, Prog.lift, Prog.bind_op, Prog.bind_ret, Prog.pure_eq_ret, wp_deviceId]
  iintro #HC Ho Hei1 Hk
  iapply (mv_ewwait m K c 1 5 2 rfl 6) $$ HC Hei1 Ho; iintro Hei1 Hes1 Ho
  iapply (ld_blk c (M := eM) (r := slotE 1) (V := wblk m c 5 2)) $$ Hes1; iintro Hes1
  ihave Hes1 := (blk_any eM (slotE 1) c (wblk m c 5 2)) $$ Hes1
  iapply (mv_ewstart m c 1 7 2 rfl) $$ Hei1 Hes1; iintro Hei1
  iapply Hk $$ Ho Hei1

/-- Segment 30 of the body. -/
theorem part_30 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 6) -∗ ewBusy m c 0 6 2 -∗ ewBusy m c 1 7 2 -∗
      (ow c (rem 6) -∗ ewBusy m c 0 0 3 -∗ ewIdle m c 1 -∗ blk eM (slotE 1) c (wblk m c 7 2) -∗ wpD c (kk (val_v912 m c)) Q)
      -∗ wpD c (k0_part30 xM h0 rM h1 iM h2 wM h3 oM h4 eM h5 cc0_scratch1 sM h7 vM h8 cc0_scratch4 cc0_scratch5 (val_v2 m c) (val_v24 m c) (val_v38 m c) (val_v55 m c) (val_v56 m c) (val_v881 m c) >>= kk) Q) := by
  rw [k0_part30_eq_skeleton]; unfold k0_part30_skel
  simp only [semSignalWord, semWaitWord, Prog.lift, Prog.bind_op, Prog.bind_ret, Prog.pure_eq_ret, wp_deviceId]
  iintro #HC Ho Hei0 Hei1 Hk
  iapply (mv_ewwait m K c 0 6 2 rfl 6) $$ HC Hei0 Ho; iintro Hei0 Hes0 Ho
  iapply (ld_blk c (M := eM) (r := slotE 0) (V := wblk m c 6 2)) $$ Hes0; iintro Hes0
  ihave Hes0 := (blk_any eM (slotE 0) c (wblk m c 6 2)) $$ Hes0
  iapply (mv_ewstart m c 0 0 3 rfl) $$ Hei0 Hes0; iintro Hei0
  iapply (mv_ewwait m K c 1 7 2 rfl 6) $$ HC Hei1 Ho; iintro Hei1 Hes1 Ho
  iapply Hk $$ Ho Hei0 Hei1 Hes1

end Cert.KernelIdeal.Moe
-- ==== Proof.KernelIdeal.Parts2.lean ====
/-
# `Parts2`: the second half of the body

One theorem for each segment of the printed body: from what the segment touches to what it leaves, and on to the rest of
the program, which is given the segment's values.
-/
module

public import proofs.«01_k».proof.Proof.KernelIdeal.Parts1

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (Fin 2) (Elt F) ℕ UU ℕ

variable (m : (ℓ : Loc nD τ sig) → Buf (Elt F) ℓ) (K : Dev nD × Fin 17 → ℕ) (c : Dev nD) {α : Type}

/-- Segment 31 of the body. -/
theorem part_31 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(blk eM (slotE 1) c (wblk m c 7 2) -∗ anyBlk oM (colR 2) c -∗ fly c 1 0 0 -∗ ow c (rem 6) -∗
      (anyBlk eM (slotE 1) c -∗ blk oM (halfR 0 2) c (outv m 0 c 0 2) -∗ blk oM (halfR 1 2) c (outv m 0 c 1 2) -∗ mid c 1 0 0 -∗ anyBlk sM (slotR 1 0 0) c -∗ ow c (rem 6) -∗ wpD c (kk ⟨⟩) Q)
      -∗ wpD c (k0_part31 xM h0 rM h1 iM h2 wM h3 oM h4 eM h5 cc0_scratch1 sM h7 vM h8 cc0_scratch4 cc0_scratch5 (val_v2 m c) (val_v24 m c) (val_v38 m c) (val_v55 m c) (val_v56 m c) (val_v912 m c) >>= kk) Q) := by
  rw [k0_part31_eq_skeleton]; unfold k0_part31_skel
  simp only [semSignalWord, semWaitWord, Prog.lift, Prog.bind_op, Prog.bind_ret, Prog.pure_eq_ret, wp_deviceId]
  iintro #HC Hes1 Hoc2 Hxf100 Ho Hk
  iapply (ld_blk c (M := eM) (r := slotE 1) (V := wblk m c 7 2)) $$ Hes1; iintro Hes1
  ihave Hes1 := (blk_any eM (slotE 1) c (wblk m c 7 2)) $$ Hes1
  iapply (ld_any c (M := oM) (r := colR 2)) $$ Hoc2; iintro %v944 Hoc2
  iapply (mv_storecol m c 2 (w := k0_pay68 (val_v2 m c) (val_v24 m c) (val_v38 m c) (val_v55 m c) (val_v56 m c) (val_v912 m c) (wblk m c 7 2)) rfl) $$ Hoc2; iintro Hoh02 Hoh12
  iapply (mv_sent m K c 1 0 0 0 rfl rfl 6) $$ HC Hxf100 Ho; iintro Hxf100 Hss100 Ho
  iapply Hk $$ Hes1 Hoh02 Hoh12 Hxf100 Hss100 Ho

/-- Segment 32 of the body. -/
theorem part_32 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(mid c 1 0 0 -∗ ow c (rem 6) -∗ blk oM (halfR 0 0) c (outv m 1 c 0 0) -∗
      (got m c 1 0 0 -∗ pos c 1 0 0 1 -∗ ow c (rem 6) -∗ rch c 1 0 0 -∗ blk oM (halfR 0 0) c (outv m 2 c 0 0) -∗ wpD c (kk ⟨⟩) Q)
      -∗ wpD c (k0_part32 xM h0 rM h1 iM h2 wM h3 oM h4 eM h5 cc0_scratch1 sM h7 vM h8 cc0_scratch4 cc0_scratch5 (val_v11 m c) >>= kk) Q) := by
  rw [k0_part32_eq_skeleton]; unfold k0_part32_skel
  simp only [semSignalWord, semWaitWord, Prog.lift, Prog.bind_op, Prog.bind_ret, Prog.pure_eq_ret, wp_deviceId]
  iintro #HC Hxf100 Ho Hoh00 Hk
  iapply (mv_recv m K c 1 0 0 0 rfl 1 rfl (G := iprop(emp)) rfl rfl 6 (by decide)) $$ HC Hxf100 Ho; iintro Hgo100 Hrc100 - Hpo100 Ho
  iapply (ld_blk c (M := oM) (r := halfR 0 0) (V := outv m 1 c 0 0)) $$ Hoh00; iintro Hoh00
  iapply (ld_got m c 1 0 0 0 rfl) $$ Hgo100; iintro Hgo100
  iapply (ld_blk c (M := oM) (r := halfR 0 0) (V := outv m 1 c 0 0)) $$ Hoh00; iintro Hoh00
  iapply (mv_storeo m c 0 0 2 (k0_pay69 (outv m 1 c 0 0) (sndv m (partner c 1 0) 1 0 0)) rfl) $$ Hoh00; iintro Hoh00
  iapply Hk $$ Hgo100 Hpo100 Ho Hrc100 Hoh00

/-- Segment 33 of the body. -/
theorem part_33 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(fly c 1 1 0 -∗ ow c (rem 6) -∗ blk oM (halfR 1 0) c (outv m 1 c 1 0) -∗
      (anyBlk sM (slotR 1 1 0) c -∗ ow c (rem 6) -∗ got m c 1 1 0 -∗ pos c 1 1 0 1 -∗ rch c 1 1 0 -∗ blk oM (halfR 1 0) c (outv m 2 c 1 0) -∗ wpD c (kk ⟨⟩) Q)
      -∗ wpD c (k0_part33 xM h0 rM h1 iM h2 wM h3 oM h4 eM h5 cc0_scratch1 sM h7 vM h8 cc0_scratch4 cc0_scratch5 (val_v10 m c) >>= kk) Q) := by
  rw [k0_part33_eq_skeleton]; unfold k0_part33_skel
  simp only [semSignalWord, semWaitWord, Prog.lift, Prog.bind_op, Prog.bind_ret, Prog.pure_eq_ret, wp_deviceId]
  iintro #HC Hxf110 Ho Hoh10 Hk
  iapply (mv_sent m K c 1 1 0 0 rfl rfl 6) $$ HC Hxf110 Ho; iintro Hxf110 Hss110 Ho
  iapply (mv_recv m K c 1 1 0 0 rfl 1 rfl (G := iprop(emp)) rfl rfl 6 (by decide)) $$ HC Hxf110 Ho; iintro Hgo110 Hrc110 - Hpo110 Ho
  iapply (ld_blk c (M := oM) (r := halfR 1 0) (V := outv m 1 c 1 0)) $$ Hoh10; iintro Hoh10
  iapply (ld_got m c 1 1 0 0 rfl) $$ Hgo110; iintro Hgo110
  iapply (ld_blk c (M := oM) (r := halfR 1 0) (V := outv m 1 c 1 0)) $$ Hoh10; iintro Hoh10
  iapply (mv_storeo m c 1 0 2 (k0_pay70 (outv m 1 c 1 0) (sndv m (partner c 1 1) 1 1 0)) rfl) $$ Hoh10; iintro Hoh10
  iapply Hk $$ Hss110 Ho Hgo110 Hpo110 Hrc110 Hoh10

/-- Segment 34 of the body. -/
theorem part_34 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(fly c 0 0 1 -∗ ow c (rem 6) -∗ blk oM (halfR 0 1) c (outv m 0 c 0 1) -∗
      (anyBlk sM (slotR 0 0 1) c -∗ ow c (rem 6) -∗ got m c 0 0 1 -∗ pos c 0 0 1 1 -∗ rch c 0 0 1 -∗ pslot (partner c 0 0) 0 0 2 -∗ blk oM (halfR 0 1) c (outv m 1 c 0 1) -∗ wpD c (kk ⟨⟩) Q)
      -∗ wpD c (k0_part34 xM h0 rM h1 iM h2 wM h3 oM h4 eM h5 cc0_scratch1 sM h7 vM h8 cc0_scratch4 cc0_scratch5 (val_v10 m c) >>= kk) Q) := by
  rw [k0_part34_eq_skeleton]; unfold k0_part34_skel
  simp only [semSignalWord, semWaitWord, Prog.lift, Prog.bind_op, Prog.bind_ret, Prog.pure_eq_ret, wp_deviceId]
  iintro #HC Hxf001 Ho Hoh01 Hk
  iapply (mv_sent m K c 0 0 1 1 rfl rfl 6) $$ HC Hxf001 Ho; iintro Hxf001 Hss001 Ho
  iapply (mv_recv m K c 0 0 1 1 rfl 1 rfl (G := pslot (partner c 0 0) 0 0 2) rfl rfl 6 (by decide)) $$ HC Hxf001 Ho; iintro Hgo001 Hrc001 Hps002 Hpo001 Ho
  iapply (ld_blk c (M := oM) (r := halfR 0 1) (V := outv m 0 c 0 1)) $$ Hoh01; iintro Hoh01
  iapply (ld_got m c 0 0 1 1 rfl) $$ Hgo001; iintro Hgo001
  iapply (ld_blk c (M := oM) (r := halfR 0 1) (V := outv m 0 c 0 1)) $$ Hoh01; iintro Hoh01
  iapply (mv_storeo m c 0 1 1 (k0_pay71 (outv m 0 c 0 1) (sndv m (partner c 0 0) 0 0 1)) rfl) $$ Hoh01; iintro Hoh01
  iapply Hk $$ Hss001 Ho Hgo001 Hpo001 Hrc001 Hps002 Hoh01

/-- Segment 35 of the body. -/
theorem part_35 {kk : (FVec F S1024x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(fly c 0 1 1 -∗ ow c (rem 6) -∗ blk oM (halfR 1 1) c (outv m 0 c 1 1) -∗
      (anyBlk sM (slotR 0 1 1) c -∗ ow c (rem 6) -∗ got m c 0 1 1 -∗ pos c 0 1 1 1 -∗ rch c 0 1 1 -∗ pslot (partner c 0 1) 0 1 2 -∗ blk oM (halfR 1 1) c (outv m 0 c 1 1) -∗ wpD c (kk (val_v1027 m c)) Q)
      -∗ wpD c (k0_part35 xM h0 rM h1 iM h2 wM h3 oM h4 eM h5 cc0_scratch1 sM h7 vM h8 cc0_scratch4 cc0_scratch5 (val_v11 m c) >>= kk) Q) := by
  rw [k0_part35_eq_skeleton]; unfold k0_part35_skel
  simp only [semSignalWord, semWaitWord, Prog.lift, Prog.bind_op, Prog.bind_ret, Prog.pure_eq_ret, wp_deviceId]
  iintro #HC Hxf011 Ho Hoh11 Hk
  iapply (mv_sent m K c 0 1 1 1 rfl rfl 6) $$ HC Hxf011 Ho; iintro Hxf011 Hss011 Ho
  iapply (mv_recv m K c 0 1 1 1 rfl 1 rfl (G := pslot (partner c 0 1) 0 1 2) rfl rfl 6 (by decide)) $$ HC Hxf011 Ho; iintro Hgo011 Hrc011 Hps012 Hpo011 Ho
  iapply (ld_blk c (M := oM) (r := halfR 1 1) (V := outv m 0 c 1 1)) $$ Hoh11; iintro Hoh11
  iapply (ld_got m c 0 1 1 1 rfl) $$ Hgo011; iintro Hgo011
  iapply Hk $$ Hss011 Ho Hgo011 Hpo011 Hrc011 Hps012 Hoh11

/-- Segment 36 of the body. -/
theorem part_36 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(blk oM (halfR 1 1) c (outv m 0 c 1 1) -∗ blk oM (halfR 0 1) c (outv m 1 c 0 1) -∗ anyBlk sM (slotR 1 0 1) c -∗ ow c (rem 6) -∗ tok c 1 0 1 -∗ pos c 1 0 1 0 -∗ pslot (partner c 1 0) 1 0 1 -∗ got m c 1 0 0 -∗ rch c 1 0 0 -∗ anyBlk sM (slotR 1 1 1) c -∗
      (blk oM (halfR 1 1) c (outv m 1 c 1 1) -∗ blk oM (halfR 0 1) c (outv m 1 c 0 1) -∗ ow c (rem 7) -∗ fly c 1 0 1 -∗ blk sM (slotR 1 1 1) c (sndv m c 1 1 1) -∗ wpD c (kk ⟨⟩) Q)
      -∗ wpD c (k0_part36 xM h0 rM h1 iM h2 wM h3 oM h4 eM h5 cc0_scratch1 sM h7 vM h8 cc0_scratch4 cc0_scratch5 c (val_v11 m c) (val_v1027 m c) >>= kk) Q) := by
  rw [k0_part36_eq_skeleton]; unfold k0_part36_skel
  simp only [semSignalWord, semWaitWord, Prog.lift, Prog.bind_op, Prog.bind_ret, Prog.pure_eq_ret, wp_deviceId]
  iintro #HC Hoh11 Hoh01 Hss101 Ho Htk101 Hpo101 Hps101 Hgo100 Hrc100 Hss111 Hk
  iapply (ld_blk c (M := oM) (r := halfR 1 1) (V := outv m 0 c 1 1)) $$ Hoh11; iintro Hoh11
  iapply (mv_storeo m c 1 1 1 ((val_v1027 m c)) rfl) $$ Hoh11; iintro Hoh11
  iapply (ld_blk c (M := oM) (r := halfR 0 1) (V := outv m 1 c 0 1)) $$ Hoh01; iintro Hoh01
  iapply (ld_any c (M := sM) (r := slotR 1 0 1)) $$ Hss101; iintro %v1032 Hss101
  iapply (mv_storesend m c 1 0 1 1 rfl (k0_pay73 (outv m 1 c 0 1)) rfl) $$ Hss101; iintro Hss101
  iapply (mv_startg m K c 1 0 1 0 rfl rfl rfl (dev9_eq c) 1 rfl 0 rfl rfl rfl 6 rfl) $$ HC Htk101 Hpo101 Hss101 Hps101 Hgo100 Hrc100 Ho; iintro Hxf101 Ho
  iapply (ld_blk c (M := oM) (r := halfR 1 1) (V := outv m 1 c 1 1)) $$ Hoh11; iintro Hoh11
  iapply (ld_any c (M := sM) (r := slotR 1 1 1)) $$ Hss111; iintro %v1048 Hss111
  iapply (mv_storesend m c 1 1 1 1 rfl (k0_pay74 (outv m 1 c 1 1)) rfl) $$ Hss111; iintro Hss111
  iapply Hk $$ Hoh11 Hoh01 Ho Hxf101 Hss111

/-- Segment 37 of the body. -/
theorem part_37 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 7) -∗ tok c 1 1 1 -∗ pos c 1 1 1 0 -∗ blk sM (slotR 1 1 1) c (sndv m c 1 1 1) -∗ pslot (partner c 1 1) 1 1 1 -∗ got m c 1 1 0 -∗ rch c 1 1 0 -∗ blk oM (halfR 0 2) c (outv m 0 c 0 2) -∗ anyBlk sM (slotR 0 0 0) c -∗
      (ow c (rem 8) -∗ fly c 1 1 1 -∗ blk oM (halfR 0 2) c (outv m 0 c 0 2) -∗ blk sM (slotR 0 0 0) c (sndv m c 0 0 2) -∗ wpD c (kk ⟨⟩) Q)
      -∗ wpD c (k0_part37 xM h0 rM h1 iM h2 wM h3 oM h4 eM h5 cc0_scratch1 sM h7 vM h8 cc0_scratch4 cc0_scratch5 c (val_v10 m c) >>= kk) Q) := by
  rw [k0_part37_eq_skeleton]; unfold k0_part37_skel
  simp only [semSignalWord, semWaitWord, Prog.lift, Prog.bind_op, Prog.bind_ret, Prog.pure_eq_ret, wp_deviceId]
  iintro #HC Ho Htk111 Hpo111 Hss111 Hps111 Hgo110 Hrc110 Hoh02 Hss000 Hk
  iapply (mv_startg m K c 1 1 1 0 rfl rfl rfl (dev10_eq c) 1 rfl 0 rfl rfl rfl 7 rfl) $$ HC Htk111 Hpo111 Hss111 Hps111 Hgo110 Hrc110 Ho; iintro Hxf111 Ho
  iapply (ld_blk c (M := oM) (r := halfR 0 2) (V := outv m 0 c 0 2)) $$ Hoh02; iintro Hoh02
  iapply (ld_any c (M := sM) (r := slotR 0 0 0)) $$ Hss000; iintro %v1064 Hss000
  iapply (mv_storesend m c 0 0 2 0 rfl (k0_pay75 (outv m 0 c 0 2)) rfl) $$ Hss000; iintro Hss000
  iapply Hk $$ Ho Hxf111 Hoh02 Hss000

/-- Segment 38 of the body. -/
theorem part_38 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 8) -∗ tok c 0 0 2 -∗ pos c 0 0 0 1 -∗ blk sM (slotR 0 0 0) c (sndv m c 0 0 2) -∗ pslot (partner c 0 0) 0 0 2 -∗ got m c 0 0 1 -∗ rch c 0 0 1 -∗ blk oM (halfR 1 2) c (outv m 0 c 1 2) -∗ anyBlk sM (slotR 0 1 0) c -∗ tok c 0 1 2 -∗ pos c 0 1 0 1 -∗ pslot (partner c 0 1) 0 1 2 -∗ got m c 0 1 1 -∗ rch c 0 1 1 -∗
      (ow c (rem 10) -∗ fly c 0 0 2 -∗ blk oM (halfR 1 2) c (outv m 0 c 1 2) -∗ fly c 0 1 2 -∗ wpD c (kk (val_v1093 m c)) Q)
      -∗ wpD c (k0_part38 xM h0 rM h1 iM h2 wM h3 oM h4 eM h5 cc0_scratch1 sM h7 vM h8 cc0_scratch4 cc0_scratch5 c (val_v11 m c) >>= kk) Q) := by
  rw [k0_part38_eq_skeleton]; unfold k0_part38_skel
  simp only [semSignalWord, semWaitWord, Prog.lift, Prog.bind_op, Prog.bind_ret, Prog.pure_eq_ret, wp_deviceId]
  iintro #HC Ho Htk002 Hpo000 Hss000 Hps002 Hgo001 Hrc001 Hoh12 Hss010 Htk012 Hpo010 Hps012 Hgo011 Hrc011 Hk
  iapply (mv_startg m K c 0 0 2 1 rfl rfl rfl (dev11_eq c) 0 rfl 1 rfl rfl rfl 8 rfl) $$ HC Htk002 Hpo000 Hss000 Hps002 Hgo001 Hrc001 Ho; iintro Hxf002 Ho
  iapply (ld_blk c (M := oM) (r := halfR 1 2) (V := outv m 0 c 1 2)) $$ Hoh12; iintro Hoh12
  iapply (ld_any c (M := sM) (r := slotR 0 1 0)) $$ Hss010; iintro %v1080 Hss010
  iapply (mv_storesend m c 0 1 2 0 rfl (k0_pay76 (outv m 0 c 1 2)) rfl) $$ Hss010; iintro Hss010
  iapply (mv_startg m K c 0 1 2 1 rfl rfl rfl (dev12_eq c) 0 rfl 1 rfl rfl rfl 9 rfl) $$ HC Htk012 Hpo010 Hss010 Hps012 Hgo011 Hrc011 Ho; iintro Hxf012 Ho
  iapply Hk $$ Ho Hxf002 Hoh12 Hxf012

/-- Segment 39 of the body. -/
theorem part_39 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 1 -∗ anyBlk eM (slotE 1) c -∗ ow c (rem 10) -∗ ewBusy m c 0 0 3 -∗
      (ewBusy m c 1 1 3 -∗ ow c (rem 10) -∗ ewIdle m c 0 -∗ anyBlk eM (slotE 0) c -∗ wpD c (kk (val_v1124 m c)) Q)
      -∗ wpD c (k0_part39 xM h0 rM h1 iM h2 wM h3 oM h4 eM h5 cc0_scratch1 sM h7 vM h8 cc0_scratch4 cc0_scratch5 (val_v2 m c) (val_v24 m c) (val_v38 m c) (val_v55 m c) (val_v56 m c) (val_v1093 m c) >>= kk) Q) := by
  rw [k0_part39_eq_skeleton]; unfold k0_part39_skel
  simp only [semSignalWord, semWaitWord, Prog.lift, Prog.bind_op, Prog.bind_ret, Prog.pure_eq_ret, wp_deviceId]
  iintro #HC Hei1 Hes1 Ho Hei0 Hk
  iapply (mv_ewstart m c 1 1 3 rfl) $$ Hei1 Hes1; iintro Hei1
  iapply (mv_ewwait m K c 0 0 3 rfl 10) $$ HC Hei0 Ho; iintro Hei0 Hes0 Ho
  iapply (ld_blk c (M := eM) (r := slotE 0) (V := wblk m c 0 3)) $$ Hes0; iintro Hes0
  ihave Hes0 := (blk_any eM (slotE 0) c (wblk m c 0 3)) $$ Hes0
  iapply Hk $$ Hei1 Ho Hei0 Hes0

/-- Segment 40 of the body. -/
theorem part_40 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 0 -∗ anyBlk eM (slotE 0) c -∗ ow c (rem 10) -∗ ewBusy m c 1 1 3 -∗
      (ewBusy m c 0 2 3 -∗ ow c (rem 10) -∗ ewIdle m c 1 -∗ anyBlk eM (slotE 1) c -∗ wpD c (kk (val_v1155 m c)) Q)
      -∗ wpD c (k0_part40 xM h0 rM h1 iM h2 wM h3 oM h4 eM h5 cc0_scratch1 sM h7 vM h8 cc0_scratch4 cc0_scratch5 (val_v2 m c) (val_v24 m c) (val_v38 m c) (val_v55 m c) (val_v56 m c) (val_v1124 m c) >>= kk) Q) := by
  rw [k0_part40_eq_skeleton]; unfold k0_part40_skel
  simp only [semSignalWord, semWaitWord, Prog.lift, Prog.bind_op, Prog.bind_ret, Prog.pure_eq_ret, wp_deviceId]
  iintro #HC Hei0 Hes0 Ho Hei1 Hk
  iapply (mv_ewstart m c 0 2 3 rfl) $$ Hei0 Hes0; iintro Hei0
  iapply (mv_ewwait m K c 1 1 3 rfl 10) $$ HC Hei1 Ho; iintro Hei1 Hes1 Ho
  iapply (ld_blk c (M := eM) (r := slotE 1) (V := wblk m c 1 3)) $$ Hes1; iintro Hes1
  ihave Hes1 := (blk_any eM (slotE 1) c (wblk m c 1 3)) $$ Hes1
  iapply Hk $$ Hei0 Ho Hei1 Hes1

/-- Segment 41 of the body. -/
theorem part_41 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ewIdle m c 1 -∗ anyBlk eM (slotE 1) c -∗ ow c (rem 10) -∗ ewBusy m c 0 2 3 -∗
      (ewBusy m c 1 3 3 -∗ ow c (rem 10) -∗ ewBusy m c 0 4 3 -∗ wpD c (kk (val_v1186 m c)) Q)
      -∗ wpD c (k0_part41 xM h0 rM h1 iM h2 wM h3 oM h4 eM h5 cc0_scratch1 sM h7 vM h8 cc0_scratch4 cc0_scratch5 (val_v2 m c) (val_v24 m c) (val_v38 m c) (val_v55 m c) (val_v56 m c) (val_v1155 m c) >>= kk) Q) := by
  rw [k0_part41_eq_skeleton]; unfold k0_part41_skel
  simp only [semSignalWord, semWaitWord, Prog.lift, Prog.bind_op, Prog.bind_ret, Prog.pure_eq_ret, wp_deviceId]
  iintro #HC Hei1 Hes1 Ho Hei0 Hk
  iapply (mv_ewstart m c 1 3 3 rfl) $$ Hei1 Hes1; iintro Hei1
  iapply (mv_ewwait m K c 0 2 3 rfl 10) $$ HC Hei0 Ho; iintro Hei0 Hes0 Ho
  iapply (ld_blk c (M := eM) (r := slotE 0) (V := wblk m c 2 3)) $$ Hes0; iintro Hes0
  ihave Hes0 := (blk_any eM (slotE 0) c (wblk m c 2 3)) $$ Hes0
  iapply (mv_ewstart m c 0 4 3 rfl) $$ Hei0 Hes0; iintro Hei0
  iapply Hk $$ Hei1 Ho Hei0

/-- Segment 42 of the body. -/
theorem part_42 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 10) -∗ ewBusy m c 1 3 3 -∗
      (ow c (rem 10) -∗ ewBusy m c 1 5 3 -∗ wpD c (kk (val_v1217 m c)) Q)
      -∗ wpD c (k0_part42 xM h0 rM h1 iM h2 wM h3 oM h4 eM h5 cc0_scratch1 sM h7 vM h8 cc0_scratch4 cc0_scratch5 (val_v2 m c) (val_v24 m c) (val_v38 m c) (val_v55 m c) (val_v56 m c) (val_v1186 m c) >>= kk) Q) := by
  rw [k0_part42_eq_skeleton]; unfold k0_part42_skel
  simp only [semSignalWord, semWaitWord, Prog.lift, Prog.bind_op, Prog.bind_ret, Prog.pure_eq_ret, wp_deviceId]
  iintro #HC Ho Hei1 Hk
  iapply (mv_ewwait m K c 1 3 3 rfl 10) $$ HC Hei1 Ho; iintro Hei1 Hes1 Ho
  iapply (ld_blk c (M := eM) (r := slotE 1) (V := wblk m c 3 3)) $$ Hes1; iintro Hes1
  ihave Hes1 := (blk_any eM (slotE 1) c (wblk m c 3 3)) $$ Hes1
  iapply (mv_ewstart m c 1 5 3 rfl) $$ Hei1 Hes1; iintro Hei1
  iapply Hk $$ Ho Hei1

/-- Segment 43 of the body. -/
theorem part_43 {kk : (FVec F S2048x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 10) -∗ ewBusy m c 0 4 3 -∗ ewBusy m c 1 5 3 -∗
      (ow c (rem 10) -∗ ewBusy m c 0 6 3 -∗ ewIdle m c 1 -∗ blk eM (slotE 1) c (wblk m c 5 3) -∗ wpD c (kk (val_v1248 m c)) Q)
      -∗ wpD c (k0_part43 xM h0 rM h1 iM h2 wM h3 oM h4 eM h5 cc0_scratch1 sM h7 vM h8 cc0_scratch4 cc0_scratch5 (val_v2 m c) (val_v24 m c) (val_v38 m c) (val_v55 m c) (val_v56 m c) (val_v1217 m c) >>= kk) Q) := by
  rw [k0_part43_eq_skeleton]; unfold k0_part43_skel
  simp only [semSignalWord, semWaitWord, Prog.lift, Prog.bind_op, Prog.bind_ret, Prog.pure_eq_ret, wp_deviceId]
  iintro #HC Ho Hei0 Hei1 Hk
  iapply (mv_ewwait m K c 0 4 3 rfl 10) $$ HC Hei0 Ho; iintro Hei0 Hes0 Ho
  iapply (ld_blk c (M := eM) (r := slotE 0) (V := wblk m c 4 3)) $$ Hes0; iintro Hes0
  ihave Hes0 := (blk_any eM (slotE 0) c (wblk m c 4 3)) $$ Hes0
  iapply (mv_ewstart m c 0 6 3 rfl) $$ Hei0 Hes0; iintro Hei0
  iapply (mv_ewwait m K c 1 5 3 rfl 10) $$ HC Hei1 Ho; iintro Hei1 Hes1 Ho
  iapply Hk $$ Ho Hei0 Hei1 Hes1

/-- Segment 44 of the body. -/
theorem part_44 {kk : (Σ' (v1279 : FVec F S2048x256 .f32), FVec F S1024x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(blk eM (slotE 1) c (wblk m c 5 3) -∗ ewIdle m c 1 -∗ ow c (rem 10) -∗ ewBusy m c 0 6 3 -∗
      (ewBusy m c 1 7 3 -∗ ow c (rem 10) -∗ ewIdle m c 0 -∗ anyBlk eM (slotE 0) c -∗ wpD c (kk ⟨val_v1279 m c, val_v1293 m c⟩) Q)
      -∗ wpD c (k0_part44 xM h0 rM h1 iM h2 wM h3 oM h4 eM h5 cc0_scratch1 sM h7 vM h8 cc0_scratch4 cc0_scratch5 (val_v2 m c) (val_v24 m c) (val_v38 m c) (val_v55 m c) (val_v56 m c) (val_v1248 m c) >>= kk) Q) := by
  rw [k0_part44_eq_skeleton]; unfold k0_part44_skel
  simp only [semSignalWord, semWaitWord, Prog.lift, Prog.bind_op, Prog.bind_ret, Prog.pure_eq_ret, wp_deviceId]
  iintro #HC Hes1 Hei1 Ho Hei0 Hk
  iapply (ld_blk c (M := eM) (r := slotE 1) (V := wblk m c 5 3)) $$ Hes1; iintro Hes1
  ihave Hes1 := (blk_any eM (slotE 1) c (wblk m c 5 3)) $$ Hes1
  iapply (mv_ewstart m c 1 7 3 rfl) $$ Hei1 Hes1; iintro Hei1
  iapply (mv_ewwait m K c 0 6 3 rfl 10) $$ HC Hei0 Ho; iintro Hei0 Hes0 Ho
  iapply (ld_blk c (M := eM) (r := slotE 0) (V := wblk m c 6 3)) $$ Hes0; iintro Hes0
  ihave Hes0 := (blk_any eM (slotE 0) c (wblk m c 6 3)) $$ Hes0
  iapply Hk $$ Hei1 Ho Hei0 Hes0

/-- Segment 45 of the body. -/
theorem part_45 {kk : (Σ' (v1310 : FVec F S2048x256 .f32) (v1319 : FVec F S2048x256 .f32), FVec F S2048x1 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 10) -∗ ewBusy m c 1 7 3 -∗
      (ow c (rem 10) -∗ ewIdle m c 1 -∗ anyBlk eM (slotE 1) c -∗ wpD c (kk ⟨val_v1310 m c, val_v1319 m c, val_v1332 m c⟩) Q)
      -∗ wpD c (k0_part45 xM h0 rM h1 iM h2 wM h3 oM h4 eM h5 cc0_scratch1 sM h7 vM h8 cc0_scratch4 cc0_scratch5 (val_v2 m c) (val_v24 m c) (val_v38 m c) (val_v55 m c) (val_v56 m c) (val_v1279 m c) (val_v1293 m c) >>= kk) Q) := by
  rw [k0_part45_eq_skeleton]; unfold k0_part45_skel
  simp only [semSignalWord, semWaitWord, Prog.lift, Prog.bind_op, Prog.bind_ret, Prog.pure_eq_ret, wp_deviceId]
  iintro #HC Ho Hei1 Hk
  iapply (mv_ewwait m K c 1 7 3 rfl 10) $$ HC Hei1 Ho; iintro Hei1 Hes1 Ho
  iapply (ld_blk c (M := eM) (r := slotE 1) (V := wblk m c 7 3)) $$ Hes1; iintro Hes1
  ihave Hes1 := (blk_any eM (slotE 1) c (wblk m c 7 3)) $$ Hes1
  iapply Hk $$ Ho Hei1 Hes1

/-- Segment 46 of the body. -/
theorem part_46 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(anyBlk oM (colR 3) c -∗ fly c 1 0 1 -∗ ow c (rem 10) -∗
      (blk oM (halfR 0 3) c (outv m 0 c 0 3) -∗ blk oM (halfR 1 3) c (outv m 0 c 1 3) -∗ anyBlk sM (slotR 1 0 1) c -∗ ow c (rem 10) -∗ got m c 1 0 1 -∗ pos c 1 0 1 1 -∗ rch c 1 0 1 -∗ pslot (partner c 1 0) 1 0 2 -∗ wpD c (kk ⟨⟩) Q)
      -∗ wpD c (k0_part46 xM h0 rM h1 iM h2 wM h3 oM h4 eM h5 cc0_scratch1 sM h7 vM h8 cc0_scratch4 cc0_scratch5 (val_v11 m c) (val_v1310 m c) (val_v1319 m c) (val_v1332 m c) >>= kk) Q) := by
  rw [k0_part46_eq_skeleton]; unfold k0_part46_skel
  simp only [semSignalWord, semWaitWord, Prog.lift, Prog.bind_op, Prog.bind_ret, Prog.pure_eq_ret, wp_deviceId]
  iintro #HC Hoc3 Hxf101 Ho Hk
  iapply (ld_any c (M := oM) (r := colR 3)) $$ Hoc3; iintro %v1336 Hoc3
  iapply (mv_storecol m c 3 (w := k0_pay88 (val_v1310 m c) (val_v1319 m c) (val_v1332 m c)) rfl) $$ Hoc3; iintro Hoh03 Hoh13
  iapply (mv_sent m K c 1 0 1 1 rfl rfl 10) $$ HC Hxf101 Ho; iintro Hxf101 Hss101 Ho
  iapply (mv_recv m K c 1 0 1 1 rfl 1 rfl (G := pslot (partner c 1 0) 1 0 2) rfl rfl 10 (by decide)) $$ HC Hxf101 Ho; iintro Hgo101 Hrc101 Hps102 Hpo101 Ho
  iapply Hk $$ Hoh03 Hoh13 Hss101 Ho Hgo101 Hpo101 Hrc101 Hps102

/-- Segment 47 of the body. -/
theorem part_47 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(blk oM (halfR 0 1) c (outv m 1 c 0 1) -∗ got m c 1 0 1 -∗ fly c 1 1 1 -∗ ow c (rem 10) -∗
      (blk oM (halfR 0 1) c (outv m 2 c 0 1) -∗ got m c 1 0 1 -∗ mid c 1 1 1 -∗ anyBlk sM (slotR 1 1 1) c -∗ ow c (rem 10) -∗ wpD c (kk ⟨⟩) Q)
      -∗ wpD c (k0_part47 xM h0 rM h1 iM h2 wM h3 oM h4 eM h5 cc0_scratch1 sM h7 vM h8 cc0_scratch4 cc0_scratch5 (val_v10 m c) >>= kk) Q) := by
  rw [k0_part47_eq_skeleton]; unfold k0_part47_skel
  simp only [semSignalWord, semWaitWord, Prog.lift, Prog.bind_op, Prog.bind_ret, Prog.pure_eq_ret, wp_deviceId]
  iintro #HC Hoh01 Hgo101 Hxf111 Ho Hk
  iapply (ld_blk c (M := oM) (r := halfR 0 1) (V := outv m 1 c 0 1)) $$ Hoh01; iintro Hoh01
  iapply (ld_got m c 1 0 1 1 rfl) $$ Hgo101; iintro Hgo101
  iapply (ld_blk c (M := oM) (r := halfR 0 1) (V := outv m 1 c 0 1)) $$ Hoh01; iintro Hoh01
  iapply (mv_storeo m c 0 1 2 (k0_pay89 (outv m 1 c 0 1) (sndv m (partner c 1 0) 1 0 1)) rfl) $$ Hoh01; iintro Hoh01
  iapply (mv_sent m K c 1 1 1 1 rfl rfl 10) $$ HC Hxf111 Ho; iintro Hxf111 Hss111 Ho
  iapply Hk $$ Hoh01 Hgo101 Hxf111 Hss111 Ho

/-- Segment 48 of the body. -/
theorem part_48 {kk : (BitVec 32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(mid c 1 1 1 -∗ ow c (rem 10) -∗ blk oM (halfR 1 1) c (outv m 1 c 1 1) -∗ fly c 0 0 2 -∗
      (got m c 1 1 1 -∗ pos c 1 1 1 1 -∗ ow c (rem 10) -∗ rch c 1 1 1 -∗ pslot (partner c 1 1) 1 1 2 -∗ blk oM (halfR 1 1) c (outv m 2 c 1 1) -∗ mid c 0 0 2 -∗ anyBlk sM (slotR 0 0 0) c -∗ wpD c (kk (val_c1_i32_1357 m c)) Q)
      -∗ wpD c (k0_part48 xM h0 rM h1 iM h2 wM h3 oM h4 eM h5 cc0_scratch1 sM h7 vM h8 cc0_scratch4 cc0_scratch5  >>= kk) Q) := by
  rw [k0_part48_eq_skeleton]; unfold k0_part48_skel
  simp only [semSignalWord, semWaitWord, Prog.lift, Prog.bind_op, Prog.bind_ret, Prog.pure_eq_ret, wp_deviceId]
  iintro #HC Hxf111 Ho Hoh11 Hxf002 Hk
  iapply (mv_recv m K c 1 1 1 1 rfl 1 rfl (G := pslot (partner c 1 1) 1 1 2) rfl rfl 10 (by decide)) $$ HC Hxf111 Ho; iintro Hgo111 Hrc111 Hps112 Hpo111 Ho
  iapply (ld_blk c (M := oM) (r := halfR 1 1) (V := outv m 1 c 1 1)) $$ Hoh11; iintro Hoh11
  iapply (ld_got m c 1 1 1 1 rfl) $$ Hgo111; iintro Hgo111
  iapply (ld_blk c (M := oM) (r := halfR 1 1) (V := outv m 1 c 1 1)) $$ Hoh11; iintro Hoh11
  iapply (mv_storeo m c 1 1 2 (k0_pay90 (outv m 1 c 1 1) (sndv m (partner c 1 1) 1 1 1)) rfl) $$ Hoh11; iintro Hoh11
  iapply (mv_sent m K c 0 0 2 0 rfl rfl 10) $$ HC Hxf002 Ho; iintro Hxf002 Hss000 Ho
  iapply Hk $$ Hgo111 Hpo111 Ho Hrc111 Hps112 Hoh11 Hxf002 Hss000

/-- Segment 49 of the body. -/
theorem part_49 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(mid c 0 0 2 -∗ ow c (rem 10) -∗ blk oM (halfR 0 2) c (outv m 0 c 0 2) -∗ fly c 0 1 2 -∗
      (got m c 0 0 2 -∗ pos c 0 0 0 2 -∗ ow c (rem 10) -∗ pslot (partner c 0 0) 0 0 3 -∗ blk oM (halfR 0 2) c (outv m 1 c 0 2) -∗ mid c 0 1 2 -∗ anyBlk sM (slotR 0 1 0) c -∗ wpD c (kk ⟨⟩) Q)
      -∗ wpD c (k0_part49 xM h0 rM h1 iM h2 wM h3 oM h4 eM h5 cc0_scratch1 sM h7 vM h8 cc0_scratch4 cc0_scratch5 (val_v10 m c) (val_c1_i32_1357 m c) >>= kk) Q) := by
  rw [k0_part49_eq_skeleton]; unfold k0_part49_skel
  simp only [semSignalWord, semWaitWord, Prog.lift, Prog.bind_op, Prog.bind_ret, Prog.pure_eq_ret, wp_deviceId]
  iintro #HC Hxf002 Ho Hoh02 Hxf012 Hk
  iapply (mv_recv m K c 0 0 2 0 rfl 2 rfl (G := pslot (partner c 0 0) 0 0 3) rfl rfl 10 (by decide)) $$ HC Hxf002 Ho; iintro Hgo002 - Hps003 Hpo000 Ho
  iapply (ld_blk c (M := oM) (r := halfR 0 2) (V := outv m 0 c 0 2)) $$ Hoh02; iintro Hoh02
  iapply (ld_got m c 0 0 2 0 rfl) $$ Hgo002; iintro Hgo002
  iapply (ld_blk c (M := oM) (r := halfR 0 2) (V := outv m 0 c 0 2)) $$ Hoh02; iintro Hoh02
  iapply (mv_storeo m c 0 2 1 (k0_pay91 (outv m 0 c 0 2) (sndv m (partner c 0 0) 0 0 2)) rfl) $$ Hoh02; iintro Hoh02
  iapply (mv_sent m K c 0 1 2 0 rfl rfl 10) $$ HC Hxf012 Ho; iintro Hxf012 Hss010 Ho
  iapply Hk $$ Hgo002 Hpo000 Ho Hps003 Hoh02 Hxf012 Hss010

/-- Segment 50 of the body. -/
theorem part_50 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(mid c 0 1 2 -∗ ow c (rem 10) -∗ blk oM (halfR 1 2) c (outv m 0 c 1 2) -∗ blk oM (halfR 0 2) c (outv m 1 c 0 2) -∗ anyBlk sM (slotR 1 0 0) c -∗
      (got m c 0 1 2 -∗ pos c 0 1 0 2 -∗ ow c (rem 10) -∗ pslot (partner c 0 1) 0 1 3 -∗ blk oM (halfR 1 2) c (outv m 1 c 1 2) -∗ blk oM (halfR 0 2) c (outv m 1 c 0 2) -∗ blk sM (slotR 1 0 0) c (sndv m c 1 0 2) -∗ wpD c (kk ⟨⟩) Q)
      -∗ wpD c (k0_part50 xM h0 rM h1 iM h2 wM h3 oM h4 eM h5 cc0_scratch1 sM h7 vM h8 cc0_scratch4 cc0_scratch5 (val_v11 m c) >>= kk) Q) := by
  rw [k0_part50_eq_skeleton]; unfold k0_part50_skel
  simp only [semSignalWord, semWaitWord, Prog.lift, Prog.bind_op, Prog.bind_ret, Prog.pure_eq_ret, wp_deviceId]
  iintro #HC Hxf012 Ho Hoh12 Hoh02 Hss100 Hk
  iapply (mv_recv m K c 0 1 2 0 rfl 2 rfl (G := pslot (partner c 0 1) 0 1 3) rfl rfl 10 (by decide)) $$ HC Hxf012 Ho; iintro Hgo012 - Hps013 Hpo010 Ho
  iapply (ld_blk c (M := oM) (r := halfR 1 2) (V := outv m 0 c 1 2)) $$ Hoh12; iintro Hoh12
  iapply (ld_got m c 0 1 2 0 rfl) $$ Hgo012; iintro Hgo012
  iapply (ld_blk c (M := oM) (r := halfR 1 2) (V := outv m 0 c 1 2)) $$ Hoh12; iintro Hoh12
  iapply (mv_storeo m c 1 2 1 (k0_pay92 (outv m 0 c 1 2) (sndv m (partner c 0 1) 0 1 2)) rfl) $$ Hoh12; iintro Hoh12
  iapply (ld_blk c (M := oM) (r := halfR 0 2) (V := outv m 1 c 0 2)) $$ Hoh02; iintro Hoh02
  iapply (ld_any c (M := sM) (r := slotR 1 0 0)) $$ Hss100; iintro %v1424 Hss100
  iapply (mv_storesend m c 1 0 2 0 rfl (k0_pay93 (outv m 1 c 0 2)) rfl) $$ Hss100; iintro Hss100
  iapply Hk $$ Hgo012 Hpo010 Ho Hps013 Hoh12 Hoh02 Hss100

/-- Segment 51 of the body. -/
theorem part_51 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 10) -∗ tok c 1 0 2 -∗ pos c 1 0 0 1 -∗ blk sM (slotR 1 0 0) c (sndv m c 1 0 2) -∗ pslot (partner c 1 0) 1 0 2 -∗ got m c 1 0 1 -∗ rch c 1 0 1 -∗ blk oM (halfR 1 2) c (outv m 1 c 1 2) -∗ anyBlk sM (slotR 1 1 0) c -∗
      (ow c (rem 11) -∗ fly c 1 0 2 -∗ blk oM (halfR 1 2) c (outv m 1 c 1 2) -∗ blk sM (slotR 1 1 0) c (sndv m c 1 1 2) -∗ wpD c (kk ⟨⟩) Q)
      -∗ wpD c (k0_part51 xM h0 rM h1 iM h2 wM h3 oM h4 eM h5 cc0_scratch1 sM h7 vM h8 cc0_scratch4 cc0_scratch5 c (val_v10 m c) (val_v11 m c) >>= kk) Q) := by
  rw [k0_part51_eq_skeleton]; unfold k0_part51_skel
  simp only [semSignalWord, semWaitWord, Prog.lift, Prog.bind_op, Prog.bind_ret, Prog.pure_eq_ret, wp_deviceId]
  iintro #HC Ho Htk102 Hpo100 Hss100 Hps102 Hgo101 Hrc101 Hoh12 Hss110 Hk
  iapply (mv_startg m K c 1 0 2 1 rfl rfl rfl (dev13_eq c) 0 rfl 1 rfl rfl rfl 10 rfl) $$ HC Htk102 Hpo100 Hss100 Hps102 Hgo101 Hrc101 Ho; iintro Hxf102 Ho
  iapply (ld_blk c (M := oM) (r := halfR 1 2) (V := outv m 1 c 1 2)) $$ Hoh12; iintro Hoh12
  iapply (ld_any c (M := sM) (r := slotR 1 1 0)) $$ Hss110; iintro %v1440 Hss110
  iapply (mv_storesend m c 1 1 2 0 rfl (k0_pay94 (outv m 1 c 1 2)) rfl) $$ Hss110; iintro Hss110
  iapply Hk $$ Ho Hxf102 Hoh12 Hss110

/-- Segment 52 of the body. -/
theorem part_52 {kk : (FVec F S1024x256 .bf16) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 11) -∗ tok c 1 1 2 -∗ pos c 1 1 0 1 -∗ blk sM (slotR 1 1 0) c (sndv m c 1 1 2) -∗ pslot (partner c 1 1) 1 1 2 -∗ got m c 1 1 1 -∗ rch c 1 1 1 -∗ blk oM (halfR 0 3) c (outv m 0 c 0 3) -∗ anyBlk sM (slotR 0 0 1) c -∗ tok c 0 0 3 -∗ pos c 0 0 1 1 -∗ pslot (partner c 0 0) 0 0 3 -∗ blk oM (halfR 1 3) c (outv m 0 c 1 3) -∗ anyBlk sM (slotR 0 1 1) c -∗
      (ow c (rem 13) -∗ fly c 1 1 2 -∗ blk oM (halfR 0 3) c (outv m 0 c 0 3) -∗ fly c 0 0 3 -∗ blk oM (halfR 1 3) c (outv m 0 c 1 3) -∗ anyBlk sM (slotR 0 1 1) c -∗ wpD c (kk (val_v1471 m c)) Q)
      -∗ wpD c (k0_part52 xM h0 rM h1 iM h2 wM h3 oM h4 eM h5 cc0_scratch1 sM h7 vM h8 cc0_scratch4 cc0_scratch5 c (val_v10 m c) >>= kk) Q) := by
  rw [k0_part52_eq_skeleton]; unfold k0_part52_skel
  simp only [semSignalWord, semWaitWord, Prog.lift, Prog.bind_op, Prog.bind_ret, Prog.pure_eq_ret, wp_deviceId]
  iintro #HC Ho Htk112 Hpo110 Hss110 Hps112 Hgo111 Hrc111 Hoh03 Hss001 Htk003 Hpo001 Hps003 Hoh13 Hss011 Hk
  iapply (mv_startg m K c 1 1 2 1 rfl rfl rfl (dev14_eq c) 0 rfl 1 rfl rfl rfl 11 rfl) $$ HC Htk112 Hpo110 Hss110 Hps112 Hgo111 Hrc111 Ho; iintro Hxf112 Ho
  iapply (ld_blk c (M := oM) (r := halfR 0 3) (V := outv m 0 c 0 3)) $$ Hoh03; iintro Hoh03
  iapply (ld_any c (M := sM) (r := slotR 0 0 1)) $$ Hss001; iintro %v1456 Hss001
  iapply (mv_storesend m c 0 0 3 1 rfl (k0_pay95 (outv m 0 c 0 3)) rfl) $$ Hss001; iintro Hss001
  iapply (mv_start m K c 0 0 3 rfl (dev15_eq c) 1 rfl 1 rfl rfl rfl 12 rfl) $$ HC Htk003 Hpo001 Hss001 Hps003 Ho; iintro Hxf003 Ho
  iapply (ld_blk c (M := oM) (r := halfR 1 3) (V := outv m 0 c 1 3)) $$ Hoh13; iintro Hoh13
  iapply (ld_any c (M := sM) (r := slotR 0 1 1)) $$ Hss011; iintro %v1472 Hss011
  iapply Hk $$ Ho Hxf112 Hoh03 Hxf003 Hoh13 Hss011

/-- Segment 53 of the body. -/
theorem part_53 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(anyBlk sM (slotR 0 1 1) c -∗ ow c (rem 13) -∗ tok c 0 1 3 -∗ pos c 0 1 1 1 -∗ pslot (partner c 0 1) 0 1 3 -∗ fly c 1 0 2 -∗
      (ow c (rem 14) -∗ fly c 0 1 3 -∗ mid c 1 0 2 -∗ anyBlk sM (slotR 1 0 0) c -∗ wpD c (kk ⟨⟩) Q)
      -∗ wpD c (k0_part53 xM h0 rM h1 iM h2 wM h3 oM h4 eM h5 cc0_scratch1 sM h7 vM h8 cc0_scratch4 cc0_scratch5 c (val_v11 m c) (val_v1471 m c) >>= kk) Q) := by
  rw [k0_part53_eq_skeleton]; unfold k0_part53_skel
  simp only [semSignalWord, semWaitWord, Prog.lift, Prog.bind_op, Prog.bind_ret, Prog.pure_eq_ret, wp_deviceId]
  iintro #HC Hss011 Ho Htk013 Hpo011 Hps013 Hxf102 Hk
  iapply (mv_storesend m c 0 1 3 1 rfl (k0_pay97 (val_v1471 m c)) rfl) $$ Hss011; iintro Hss011
  iapply (mv_start m K c 0 1 3 rfl (dev16_eq c) 1 rfl 1 rfl rfl rfl 13 rfl) $$ HC Htk013 Hpo011 Hss011 Hps013 Ho; iintro Hxf013 Ho
  iapply (mv_sent m K c 1 0 2 0 rfl rfl 14) $$ HC Hxf102 Ho; iintro Hxf102 Hss100 Ho
  iapply Hk $$ Ho Hxf013 Hxf102 Hss100

/-- Segment 54 of the body. -/
theorem part_54 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(mid c 1 0 2 -∗ ow c (rem 14) -∗ blk oM (halfR 0 2) c (outv m 1 c 0 2) -∗
      (got m c 1 0 2 -∗ pos c 1 0 0 2 -∗ ow c (rem 14) -∗ pslot (partner c 1 0) 1 0 3 -∗ blk oM (halfR 0 2) c (outv m 2 c 0 2) -∗ wpD c (kk ⟨⟩) Q)
      -∗ wpD c (k0_part54 xM h0 rM h1 iM h2 wM h3 oM h4 eM h5 cc0_scratch1 sM h7 vM h8 cc0_scratch4 cc0_scratch5 (val_v11 m c) >>= kk) Q) := by
  rw [k0_part54_eq_skeleton]; unfold k0_part54_skel
  simp only [semSignalWord, semWaitWord, Prog.lift, Prog.bind_op, Prog.bind_ret, Prog.pure_eq_ret, wp_deviceId]
  iintro #HC Hxf102 Ho Hoh02 Hk
  iapply (mv_recv m K c 1 0 2 0 rfl 2 rfl (G := pslot (partner c 1 0) 1 0 3) rfl rfl 14 (by decide)) $$ HC Hxf102 Ho; iintro Hgo102 - Hps103 Hpo100 Ho
  iapply (ld_blk c (M := oM) (r := halfR 0 2) (V := outv m 1 c 0 2)) $$ Hoh02; iintro Hoh02
  iapply (ld_got m c 1 0 2 0 rfl) $$ Hgo102; iintro Hgo102
  iapply (ld_blk c (M := oM) (r := halfR 0 2) (V := outv m 1 c 0 2)) $$ Hoh02; iintro Hoh02
  iapply (mv_storeo m c 0 2 2 (k0_pay98 (outv m 1 c 0 2) (sndv m (partner c 1 0) 1 0 2)) rfl) $$ Hoh02; iintro Hoh02
  iapply Hk $$ Hgo102 Hpo100 Ho Hps103 Hoh02

/-- Segment 55 of the body. -/
theorem part_55 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(fly c 1 1 2 -∗ ow c (rem 14) -∗ blk oM (halfR 1 2) c (outv m 1 c 1 2) -∗
      (anyBlk sM (slotR 1 1 0) c -∗ ow c (rem 14) -∗ got m c 1 1 2 -∗ pos c 1 1 0 2 -∗ pslot (partner c 1 1) 1 1 3 -∗ blk oM (halfR 1 2) c (outv m 2 c 1 2) -∗ wpD c (kk ⟨⟩) Q)
      -∗ wpD c (k0_part55 xM h0 rM h1 iM h2 wM h3 oM h4 eM h5 cc0_scratch1 sM h7 vM h8 cc0_scratch4 cc0_scratch5 (val_v10 m c) >>= kk) Q) := by
  rw [k0_part55_eq_skeleton]; unfold k0_part55_skel
  simp only [semSignalWord, semWaitWord, Prog.lift, Prog.bind_op, Prog.bind_ret, Prog.pure_eq_ret, wp_deviceId]
  iintro #HC Hxf112 Ho Hoh12 Hk
  iapply (mv_sent m K c 1 1 2 0 rfl rfl 14) $$ HC Hxf112 Ho; iintro Hxf112 Hss110 Ho
  iapply (mv_recv m K c 1 1 2 0 rfl 2 rfl (G := pslot (partner c 1 1) 1 1 3) rfl rfl 14 (by decide)) $$ HC Hxf112 Ho; iintro Hgo112 - Hps113 Hpo110 Ho
  iapply (ld_blk c (M := oM) (r := halfR 1 2) (V := outv m 1 c 1 2)) $$ Hoh12; iintro Hoh12
  iapply (ld_got m c 1 1 2 0 rfl) $$ Hgo112; iintro Hgo112
  iapply (ld_blk c (M := oM) (r := halfR 1 2) (V := outv m 1 c 1 2)) $$ Hoh12; iintro Hoh12
  iapply (mv_storeo m c 1 2 2 (k0_pay99 (outv m 1 c 1 2) (sndv m (partner c 1 1) 1 1 2)) rfl) $$ Hoh12; iintro Hoh12
  iapply Hk $$ Hss110 Ho Hgo112 Hpo110 Hps113 Hoh12

/-- Segment 56 of the body. -/
theorem part_56 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(fly c 0 0 3 -∗ ow c (rem 14) -∗ blk oM (halfR 0 3) c (outv m 0 c 0 3) -∗
      (anyBlk sM (slotR 0 0 1) c -∗ ow c (rem 14) -∗ got m c 0 0 3 -∗ pos c 0 0 1 2 -∗ blk oM (halfR 0 3) c (outv m 1 c 0 3) -∗ wpD c (kk ⟨⟩) Q)
      -∗ wpD c (k0_part56 xM h0 rM h1 iM h2 wM h3 oM h4 eM h5 cc0_scratch1 sM h7 vM h8 cc0_scratch4 cc0_scratch5 (val_v10 m c) >>= kk) Q) := by
  rw [k0_part56_eq_skeleton]; unfold k0_part56_skel
  simp only [semSignalWord, semWaitWord, Prog.lift, Prog.bind_op, Prog.bind_ret, Prog.pure_eq_ret, wp_deviceId]
  iintro #HC Hxf003 Ho Hoh03 Hk
  iapply (mv_sent m K c 0 0 3 1 rfl rfl 14) $$ HC Hxf003 Ho; iintro Hxf003 Hss001 Ho
  iapply (mv_recv m K c 0 0 3 1 rfl 2 rfl (G := iprop(emp)) rfl rfl 14 (by decide)) $$ HC Hxf003 Ho; iintro Hgo003 - - Hpo001 Ho
  iapply (ld_blk c (M := oM) (r := halfR 0 3) (V := outv m 0 c 0 3)) $$ Hoh03; iintro Hoh03
  iapply (ld_got m c 0 0 3 1 rfl) $$ Hgo003; iintro Hgo003
  iapply (ld_blk c (M := oM) (r := halfR 0 3) (V := outv m 0 c 0 3)) $$ Hoh03; iintro Hoh03
  iapply (mv_storeo m c 0 3 1 (k0_pay100 (outv m 0 c 0 3) (sndv m (partner c 0 0) 0 0 3)) rfl) $$ Hoh03; iintro Hoh03
  iapply Hk $$ Hss001 Ho Hgo003 Hpo001 Hoh03

/-- Segment 57 of the body. -/
theorem part_57 {kk : (FVec F S1024x256 .f32) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(fly c 0 1 3 -∗ ow c (rem 14) -∗ blk oM (halfR 1 3) c (outv m 0 c 1 3) -∗
      (anyBlk sM (slotR 0 1 1) c -∗ ow c (rem 14) -∗ got m c 0 1 3 -∗ pos c 0 1 1 2 -∗ blk oM (halfR 1 3) c (outv m 0 c 1 3) -∗ wpD c (kk (val_v1567 m c)) Q)
      -∗ wpD c (k0_part57 xM h0 rM h1 iM h2 wM h3 oM h4 eM h5 cc0_scratch1 sM h7 vM h8 cc0_scratch4 cc0_scratch5 (val_v11 m c) >>= kk) Q) := by
  rw [k0_part57_eq_skeleton]; unfold k0_part57_skel
  simp only [semSignalWord, semWaitWord, Prog.lift, Prog.bind_op, Prog.bind_ret, Prog.pure_eq_ret, wp_deviceId]
  iintro #HC Hxf013 Ho Hoh13 Hk
  iapply (mv_sent m K c 0 1 3 1 rfl rfl 14) $$ HC Hxf013 Ho; iintro Hxf013 Hss011 Ho
  iapply (mv_recv m K c 0 1 3 1 rfl 2 rfl (G := iprop(emp)) rfl rfl 14 (by decide)) $$ HC Hxf013 Ho; iintro Hgo013 - - Hpo011 Ho
  iapply (ld_blk c (M := oM) (r := halfR 1 3) (V := outv m 0 c 1 3)) $$ Hoh13; iintro Hoh13
  iapply (ld_got m c 0 1 3 1 rfl) $$ Hgo013; iintro Hgo013
  iapply Hk $$ Hss011 Ho Hgo013 Hpo011 Hoh13

/-- Segment 58 of the body. -/
theorem part_58 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(blk oM (halfR 1 3) c (outv m 0 c 1 3) -∗ blk oM (halfR 0 3) c (outv m 1 c 0 3) -∗ anyBlk sM (slotR 1 0 1) c -∗ ow c (rem 14) -∗ tok c 1 0 3 -∗ pos c 1 0 1 1 -∗ pslot (partner c 1 0) 1 0 3 -∗ anyBlk sM (slotR 1 1 1) c -∗
      (blk oM (halfR 1 3) c (outv m 1 c 1 3) -∗ blk oM (halfR 0 3) c (outv m 1 c 0 3) -∗ ow c (rem 15) -∗ fly c 1 0 3 -∗ blk sM (slotR 1 1 1) c (sndv m c 1 1 3) -∗ wpD c (kk ⟨⟩) Q)
      -∗ wpD c (k0_part58 xM h0 rM h1 iM h2 wM h3 oM h4 eM h5 cc0_scratch1 sM h7 vM h8 cc0_scratch4 cc0_scratch5 c (val_v11 m c) (val_v1567 m c) >>= kk) Q) := by
  rw [k0_part58_eq_skeleton]; unfold k0_part58_skel
  simp only [semSignalWord, semWaitWord, Prog.lift, Prog.bind_op, Prog.bind_ret, Prog.pure_eq_ret, wp_deviceId]
  iintro #HC Hoh13 Hoh03 Hss101 Ho Htk103 Hpo101 Hps103 Hss111 Hk
  iapply (ld_blk c (M := oM) (r := halfR 1 3) (V := outv m 0 c 1 3)) $$ Hoh13; iintro Hoh13
  iapply (mv_storeo m c 1 3 1 ((val_v1567 m c)) rfl) $$ Hoh13; iintro Hoh13
  iapply (ld_blk c (M := oM) (r := halfR 0 3) (V := outv m 1 c 0 3)) $$ Hoh03; iintro Hoh03
  iapply (ld_any c (M := sM) (r := slotR 1 0 1)) $$ Hss101; iintro %v1572 Hss101
  iapply (mv_storesend m c 1 0 3 1 rfl (k0_pay102 (outv m 1 c 0 3)) rfl) $$ Hss101; iintro Hss101
  iapply (mv_start m K c 1 0 3 rfl (dev17_eq c) 1 rfl 1 rfl rfl rfl 14 rfl) $$ HC Htk103 Hpo101 Hss101 Hps103 Ho; iintro Hxf103 Ho
  iapply (ld_blk c (M := oM) (r := halfR 1 3) (V := outv m 1 c 1 3)) $$ Hoh13; iintro Hoh13
  iapply (ld_any c (M := sM) (r := slotR 1 1 1)) $$ Hss111; iintro %v1588 Hss111
  iapply (mv_storesend m c 1 1 3 1 rfl (k0_pay103 (outv m 1 c 1 3)) rfl) $$ Hss111; iintro Hss111
  iapply Hk $$ Hoh13 Hoh03 Ho Hxf103 Hss111

/-- Segment 59 of the body. -/
theorem part_59 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(ow c (rem 15) -∗ tok c 1 1 3 -∗ pos c 1 1 1 1 -∗ blk sM (slotR 1 1 1) c (sndv m c 1 1 3) -∗ pslot (partner c 1 1) 1 1 3 -∗ fly c 1 0 3 -∗
      (ow c (rem 16) -∗ fly c 1 1 3 -∗ mid c 1 0 3 -∗ anyBlk sM (slotR 1 0 1) c -∗ wpD c (kk ⟨⟩) Q)
      -∗ wpD c (k0_part59 xM h0 rM h1 iM h2 wM h3 oM h4 eM h5 cc0_scratch1 sM h7 vM h8 cc0_scratch4 cc0_scratch5 c (val_v10 m c) >>= kk) Q) := by
  rw [k0_part59_eq_skeleton]; unfold k0_part59_skel
  simp only [semSignalWord, semWaitWord, Prog.lift, Prog.bind_op, Prog.bind_ret, Prog.pure_eq_ret, wp_deviceId]
  iintro #HC Ho Htk113 Hpo111 Hss111 Hps113 Hxf103 Hk
  iapply (mv_start m K c 1 1 3 rfl (dev18_eq c) 1 rfl 1 rfl rfl rfl 15 rfl) $$ HC Htk113 Hpo111 Hss111 Hps113 Ho; iintro Hxf113 Ho
  iapply (mv_sent m K c 1 0 3 1 rfl rfl 16) $$ HC Hxf103 Ho; iintro Hxf103 Hss101 Ho
  iapply Hk $$ Ho Hxf113 Hxf103 Hss101

/-- Segment 60 of the body. -/
theorem part_60 {kk : (PUnit) → Prog (TpuEff nD τ sig (Elt F) Λ₀ .tc) α} {Q : α → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(mid c 1 0 3 -∗ ow c (rem 16) -∗ blk oM (halfR 0 3) c (outv m 1 c 0 3) -∗
      (got m c 1 0 3 -∗ pos c 1 0 1 2 -∗ ow c (rem 16) -∗ blk oM (halfR 0 3) c (outv m 2 c 0 3) -∗ wpD c (kk ⟨⟩) Q)
      -∗ wpD c (k0_part60 xM h0 rM h1 iM h2 wM h3 oM h4 eM h5 cc0_scratch1 sM h7 vM h8 cc0_scratch4 cc0_scratch5 (val_v11 m c) >>= kk) Q) := by
  rw [k0_part60_eq_skeleton]; unfold k0_part60_skel
  simp only [semSignalWord, semWaitWord, Prog.lift, Prog.bind_op, Prog.bind_ret, Prog.pure_eq_ret, wp_deviceId]
  iintro #HC Hxf103 Ho Hoh03 Hk
  iapply (mv_recv m K c 1 0 3 1 rfl 2 rfl (G := iprop(emp)) rfl rfl 16 (by decide)) $$ HC Hxf103 Ho; iintro Hgo103 - - Hpo101 Ho
  iapply (ld_blk c (M := oM) (r := halfR 0 3) (V := outv m 1 c 0 3)) $$ Hoh03; iintro Hoh03
  iapply (ld_got m c 1 0 3 1 rfl) $$ Hgo103; iintro Hgo103
  iapply (ld_blk c (M := oM) (r := halfR 0 3) (V := outv m 1 c 0 3)) $$ Hoh03; iintro Hoh03
  iapply (mv_storeo m c 0 3 2 (k0_pay104 (outv m 1 c 0 3) (sndv m (partner c 1 0) 1 0 3)) rfl) $$ Hoh03; iintro Hoh03
  iapply Hk $$ Hgo103 Hpo101 Ho Hoh03

end Cert.KernelIdeal.Moe
-- ==== Proof.KernelIdeal.Walk.lean ====
/-
# `Walk`: the body from its first effect to its last

The segments of `Parts1` and `Parts2` one after the other, and the last exchange.
-/
module

public import proofs.«01_k».proof.Proof.KernelIdeal.Parts2

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (Fin 2) (Elt F) ℕ UU ℕ

variable (m : (ℓ : Loc nD τ sig) → Buf (Elt F) ℓ) (K : Dev nD × Fin 17 → ℕ) (c : Dev nD) {α : Type}

set_option maxHeartbeats 4000000 in
set_option maxRecDepth 65536 in
/-- The body: from everything a device holds at its start to everything it holds at its end. -/
theorem walk {Q : PUnit → sProp 𝕄}
    {h0 : (xM : Memref sig .tc .vmem S2048x1024 .f32).IsWhole} {h1 : (rM : Memref sig .tc .vmem S1024x32 .f32).IsWhole} {h2 : (iM : Memref sig .tc .vmem S2048x2 .i32).IsWhole}
    {h3 : (wM : Memref sig .tc .hbm S8x1024x1024 .f32).IsWhole} {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    ctx m K ⊢ iprop(
      bar₀ c -∗ kit c (b₁ c) -∗ kit c (!b₁ c) -∗ ow₀ c -∗ blk xM xR c (xstg m c) -∗ blk rM rR c (rstg m c) -∗ blk iM iR c (istg m c) -∗
      ewIdle m c 0 -∗ anyBlk eM (slotE 0) c -∗ ewIdle m c 1 -∗ anyBlk eM (slotE 1) c -∗ anyBlk oM (colR 0) c -∗ anyBlk oM (colR 1) c -∗
      anyBlk oM (colR 2) c -∗ anyBlk oM (colR 3) c -∗ anyBlk sM (slotR 0 0 0) c -∗ pos c 0 0 0 0 -∗ anyBlk sM (slotR 0 0 1) c -∗ pos c 0 0 1 0 -∗
      tok c 0 0 0 -∗ tok c 0 0 1 -∗ tok c 0 0 2 -∗ tok c 0 0 3 -∗ anyBlk sM (slotR 0 1 0) c -∗ pos c 0 1 0 0 -∗ anyBlk sM (slotR 0 1 1) c -∗
      pos c 0 1 1 0 -∗ tok c 0 1 0 -∗ tok c 0 1 1 -∗ tok c 0 1 2 -∗ tok c 0 1 3 -∗ anyBlk sM (slotR 1 0 0) c -∗ pos c 1 0 0 0 -∗
      anyBlk sM (slotR 1 0 1) c -∗ pos c 1 0 1 0 -∗ tok c 1 0 0 -∗ tok c 1 0 1 -∗ tok c 1 0 2 -∗ tok c 1 0 3 -∗ anyBlk sM (slotR 1 1 0) c -∗
      pos c 1 1 0 0 -∗ anyBlk sM (slotR 1 1 1) c -∗ pos c 1 1 1 0 -∗ tok c 1 1 0 -∗ tok c 1 1 1 -∗ tok c 1 1 2 -∗ tok c 1 1 3 -∗
     (
      bar₁ c -∗ ow c (rem 16) -∗ blk xM xR c (xstg m c) -∗ blk rM rR c (rstg m c) -∗ blk iM iR c (istg m c) -∗ ewIdle m c 0 -∗ ewIdle m c 1 -∗
      blk oM (halfR 0 0) c (outv m 2 c 0 0) -∗ blk oM (halfR 1 0) c (outv m 2 c 1 0) -∗ blk oM (halfR 0 1) c (outv m 2 c 0 1) -∗
      blk oM (halfR 1 1) c (outv m 2 c 1 1) -∗ blk oM (halfR 0 2) c (outv m 2 c 0 2) -∗ blk oM (halfR 1 2) c (outv m 2 c 1 2) -∗
      anyBlk eM (slotE 0) c -∗ anyBlk eM (slotE 1) c -∗ blk oM (halfR 0 3) c (outv m 2 c 0 3) -∗ blk oM (halfR 1 3) c (outv m 2 c 1 3) -∗
      anyBlk sM (slotR 0 0 0) c -∗ got m c 0 0 2 -∗ pos c 0 0 0 2 -∗ anyBlk sM (slotR 0 1 0) c -∗ got m c 0 1 2 -∗ pos c 0 1 0 2 -∗
      anyBlk sM (slotR 1 0 0) c -∗ got m c 1 0 2 -∗ pos c 1 0 0 2 -∗ anyBlk sM (slotR 1 1 0) c -∗ got m c 1 1 2 -∗ pos c 1 1 0 2 -∗
      anyBlk sM (slotR 0 0 1) c -∗ got m c 0 0 3 -∗ pos c 0 0 1 2 -∗ anyBlk sM (slotR 0 1 1) c -∗ got m c 0 1 3 -∗ pos c 0 1 1 2 -∗
      anyBlk sM (slotR 1 0 1) c -∗ got m c 1 0 3 -∗ pos c 1 0 1 2 -∗ anyBlk sM (slotR 1 1 1) c -∗ got m c 1 1 3 -∗ pos c 1 1 1 2 -∗ Q ⟨⟩)
      -∗ wpD c (cc0_body xM h0 rM h1 iM h2 wM h3 oM h4 eM h5 cc0_scratch1 sM h7 vM h8 cc0_scratch4 cc0_scratch5) Q) := by
  rw [cc0_body_eq_skeleton]; unfold cc0_body_skel
  rw [k0_part61_eq_skeleton]; unfold k0_part61_skel
  simp only [Prog.lift, Prog.bind_op, Prog.bind_ret, Prog.pure_eq_ret, Prog.bind_assoc]
  iintro #HC Hbar Hkit1 Hkit2 Ho Hx Hr Hi Hei0 Hes0 Hei1 Hes1 Hoc0 Hoc1 Hoc2 Hoc3 Hss000 Hpo000 Hss001 Hpo001 Htk000 Htk001 Htk002 Htk003 Hss010 Hpo010 Hss011 Hpo011 Htk010 Htk011 Htk012 Htk013 Hss100 Hpo100 Hss101 Hpo101 Htk100 Htk101 Htk102 Htk103 Hss110 Hpo110 Hss111 Hpo111 Htk110 Htk111 Htk112 Htk113 Hk
  iapply (part_1 m K c) $$ HC Hkit1 Ho Hkit2 Hbar Hei0 Hes0 Hx Hr
  iintro Ho Hbar Hps000 Hps001 Hps010 Hps011 Hps100 Hps101 Hps110 Hps111 Hei0 Hx Hr
  simp only [Prog.bind_assoc]
  iapply (part_2 m K c) $$ HC Hi Hei1 Hes1
  iintro Hi Hei1
  simp only [Prog.bind_assoc]
  iapply (part_3 m K c) $$ HC Ho Hei0
  iintro Ho Hei0
  iapply (part_4 m K c) $$ HC Ho Hei1 Hei0
  iintro Ho Hei1 Hei0 Hes0
  iapply (part_5 m K c) $$ HC Hes0 Hei0 Ho Hei1
  iintro Hei0 Ho Hei1 Hes1
  simp only [Prog.bind_assoc]
  iapply (part_6 m K c) $$ HC Hei1 Hes1 Ho Hei0
  iintro Hei1 Ho Hei0 Hes0
  simp only [Prog.bind_assoc]
  iapply (part_7 m K c) $$ HC Hei0 Hes0 Ho Hei1
  iintro Hei0 Ho Hei1 Hes1
  simp only [Prog.bind_assoc]
  iapply (part_8 m K c) $$ HC Hei1 Hes1 Ho Hei0
  iintro Hei1 Ho Hei0 Hes0
  simp only [Prog.bind_assoc]
  iapply (part_9 m K c) $$ HC Hei0 Hes0 Ho Hei1
  iintro Hei0 Ho Hei1 Hes1
  simp only [Prog.bind_assoc]
  iapply (part_10 m K c) $$ HC Hoc0 Hss000 Ho Htk000 Hpo000 Hps000 Hss010
  iintro Hoh00 Hoh10 Ho Hxf000 Hss010
  iapply (part_11 m K c) $$ HC Hss010 Ho Htk010 Hpo010 Hps010 Hei1 Hes1
  iintro Ho Hxf010 Hei1
  iapply (part_12 m K c) $$ HC Ho Hei0 Hei1
  iintro Ho Hei0 Hei1 Hes1
  simp only [Prog.bind_assoc]
  iapply (part_13 m K c) $$ HC Hei1 Hes1 Ho Hei0
  iintro Hei1 Ho Hei0 Hes0
  simp only [Prog.bind_assoc]
  iapply (part_14 m K c) $$ HC Hei0 Hes0 Ho Hei1
  iintro Hei0 Ho Hei1 Hes1
  simp only [Prog.bind_assoc]
  iapply (part_15 m K c) $$ HC Hei1 Hes1 Ho Hei0
  iintro Hei1 Ho Hei0 Hes0
  simp only [Prog.bind_assoc]
  iapply (part_16 m K c) $$ HC Hei0 Hes0 Ho Hei1
  iintro Hei0 Ho Hei1 Hes1
  simp only [Prog.bind_assoc]
  iapply (part_17 m K c) $$ HC Hei1 Hes1 Ho Hei0
  iintro Hei1 Ho Hei0 Hes0
  iapply (part_18 m K c) $$ HC Hei0 Hes0 Ho Hei1 Hoc1
  iintro Hei0 Ho Hei1 Hes1 Hoh01 Hoh11
  iapply (part_19 m K c) $$ HC Hxf000 Ho Hoh00
  iintro Hss000 Ho Hgo000 Hpo000 Hrc000 Hoh00
  simp only [Prog.bind_assoc]
  iapply (part_20 m K c) $$ HC Hoh00 Hxf010 Ho Hoh10
  iintro Hoh00 Hss010 Ho Hgo010 Hpo010 Hrc010 Hoh10
  iapply (part_21 m K c) $$ HC Hgo010 Hoh10 Hoh00 Hss100 Ho Htk100 Hpo100 Hps100
  iintro Hgo010 Hoh10 Hoh00 Ho Hxf100
  iapply (part_22 m K c) $$ HC Hss110 Ho Htk110 Hpo110 Hps110 Hoh01 Hss001
  iintro Ho Hxf110 Hoh01 Hss001
  iapply (part_23 m K c) $$ HC Ho Htk001 Hpo001 Hss001 Hps001 Hgo000 Hrc000 Hoh11 Hss011
  iintro Ho Hxf001 Hoh11 Hss011
  iapply (part_24 m K c) $$ HC Ho Htk011 Hpo011 Hss011 Hps011 Hgo010 Hrc010 Hei1 Hes1 Hei0
  iintro Ho Hxf011 Hei1 Hei0 Hes0
  simp only [Prog.bind_assoc]
  iapply (part_25 m K c) $$ HC Hei0 Hes0 Ho Hei1
  iintro Hei0 Ho Hei1 Hes1
  iapply (part_26 m K c) $$ HC Hei1 Hes1 Ho Hei0
  iintro Hei1 Ho Hei0 Hes0
  iapply (part_27 m K c) $$ HC Hei0 Hes0 Ho Hei1
  iintro Hei0 Ho Hei1 Hes1
  iapply (part_28 m K c) $$ HC Hei1 Hes1 Ho Hei0
  iintro Hei1 Ho Hei0
  iapply (part_29 m K c) $$ HC Ho Hei1
  iintro Ho Hei1
  iapply (part_30 m K c) $$ HC Ho Hei0 Hei1
  iintro Ho Hei0 Hei1 Hes1
  iapply (part_31 m K c) $$ HC Hes1 Hoc2 Hxf100 Ho
  iintro Hes1 Hoh02 Hoh12 Hxf100 Hss100 Ho
  iapply (part_32 m K c) $$ HC Hxf100 Ho Hoh00
  iintro Hgo100 Hpo100 Ho Hrc100 Hoh00
  iapply (part_33 m K c) $$ HC Hxf110 Ho Hoh10
  iintro Hss110 Ho Hgo110 Hpo110 Hrc110 Hoh10
  iapply (part_34 m K c) $$ HC Hxf001 Ho Hoh01
  iintro Hss001 Ho Hgo001 Hpo001 Hrc001 Hps002 Hoh01
  iapply (part_35 m K c) $$ HC Hxf011 Ho Hoh11
  iintro Hss011 Ho Hgo011 Hpo011 Hrc011 Hps012 Hoh11
  iapply (part_36 m K c) $$ HC Hoh11 Hoh01 Hss101 Ho Htk101 Hpo101 Hps101 Hgo100 Hrc100 Hss111
  iintro Hoh11 Hoh01 Ho Hxf101 Hss111
  iapply (part_37 m K c) $$ HC Ho Htk111 Hpo111 Hss111 Hps111 Hgo110 Hrc110 Hoh02 Hss000
  iintro Ho Hxf111 Hoh02 Hss000
  iapply (part_38 m K c) $$ HC Ho Htk002 Hpo000 Hss000 Hps002 Hgo001 Hrc001 Hoh12 Hss010 Htk012 Hpo010 Hps012 Hgo011 Hrc011
  iintro Ho Hxf002 Hoh12 Hxf012
  iapply (part_39 m K c) $$ HC Hei1 Hes1 Ho Hei0
  iintro Hei1 Ho Hei0 Hes0
  iapply (part_40 m K c) $$ HC Hei0 Hes0 Ho Hei1
  iintro Hei0 Ho Hei1 Hes1
  iapply (part_41 m K c) $$ HC Hei1 Hes1 Ho Hei0
  iintro Hei1 Ho Hei0
  iapply (part_42 m K c) $$ HC Ho Hei1
  iintro Ho Hei1
  iapply (part_43 m K c) $$ HC Ho Hei0 Hei1
  iintro Ho Hei0 Hei1 Hes1
  iapply (part_44 m K c) $$ HC Hes1 Hei1 Ho Hei0
  iintro Hei1 Ho Hei0 Hes0
  simp only [Prog.bind_assoc]
  iapply (part_45 m K c) $$ HC Ho Hei1
  iintro Ho Hei1 Hes1
  simp only [Prog.bind_assoc]
  iapply (part_46 m K c) $$ HC Hoc3 Hxf101 Ho
  iintro Hoh03 Hoh13 Hss101 Ho Hgo101 Hpo101 Hrc101 Hps102
  iapply (part_47 m K c) $$ HC Hoh01 Hgo101 Hxf111 Ho
  iintro Hoh01 Hgo101 Hxf111 Hss111 Ho
  iapply (part_48 m K c) $$ HC Hxf111 Ho Hoh11 Hxf002
  iintro Hgo111 Hpo111 Ho Hrc111 Hps112 Hoh11 Hxf002 Hss000
  iapply (part_49 m K c) $$ HC Hxf002 Ho Hoh02 Hxf012
  iintro Hgo002 Hpo000 Ho Hps003 Hoh02 Hxf012 Hss010
  iapply (part_50 m K c) $$ HC Hxf012 Ho Hoh12 Hoh02 Hss100
  iintro Hgo012 Hpo010 Ho Hps013 Hoh12 Hoh02 Hss100
  iapply (part_51 m K c) $$ HC Ho Htk102 Hpo100 Hss100 Hps102 Hgo101 Hrc101 Hoh12 Hss110
  iintro Ho Hxf102 Hoh12 Hss110
  iapply (part_52 m K c) $$ HC Ho Htk112 Hpo110 Hss110 Hps112 Hgo111 Hrc111 Hoh03 Hss001 Htk003 Hpo001 Hps003 Hoh13 Hss011
  iintro Ho Hxf112 Hoh03 Hxf003 Hoh13 Hss011
  iapply (part_53 m K c) $$ HC Hss011 Ho Htk013 Hpo011 Hps013 Hxf102
  iintro Ho Hxf013 Hxf102 Hss100
  iapply (part_54 m K c) $$ HC Hxf102 Ho Hoh02
  iintro Hgo102 Hpo100 Ho Hps103 Hoh02
  iapply (part_55 m K c) $$ HC Hxf112 Ho Hoh12
  iintro Hss110 Ho Hgo112 Hpo110 Hps113 Hoh12
  iapply (part_56 m K c) $$ HC Hxf003 Ho Hoh03
  iintro Hss001 Ho Hgo003 Hpo001 Hoh03
  iapply (part_57 m K c) $$ HC Hxf013 Ho Hoh13
  iintro Hss011 Ho Hgo013 Hpo011 Hoh13
  iapply (part_58 m K c) $$ HC Hoh13 Hoh03 Hss101 Ho Htk103 Hpo101 Hps103 Hss111
  iintro Hoh13 Hoh03 Ho Hxf103 Hss111
  iapply (part_59 m K c) $$ HC Ho Htk113 Hpo111 Hss111 Hps113 Hxf103
  iintro Ho Hxf113 Hxf103 Hss101
  iapply (part_60 m K c) $$ HC Hxf103 Ho Hoh03
  iintro Hgo103 Hpo101 Ho Hoh03
  iapply (mv_sent m K c 1 1 3 1 rfl rfl 16) $$ HC Hxf113 Ho; iintro Hxf113 Hss111 Ho
  iapply (mv_recv m K c 1 1 3 1 rfl 2 rfl (G := iprop(emp)) rfl rfl 16 (by decide)) $$ HC Hxf113 Ho; iintro Hgo113 - - Hpo111 Ho
  iapply (ld_blk c (M := oM) (r := halfR 1 3) (V := outv m 1 c 1 3)) $$ Hoh13; iintro Hoh13
  iapply (ld_got m c 1 1 3 1 rfl) $$ Hgo113; iintro Hgo113
  iapply (ld_blk c (M := oM) (r := halfR 1 3) (V := outv m 1 c 1 3)) $$ Hoh13; iintro Hoh13
  iapply (mv_storeo m c 1 3 2 (k0_pay1 (outv m 1 c 1 3) (sndv m (partner c 1 1) 1 1 3)) rfl) $$ Hoh13; iintro Hoh13
  unfold wpD; rw [wp_ret]; imodintro
  iapply Hk $$ Hbar Ho Hx Hr Hi Hei0 Hei1 Hoh00 Hoh10 Hoh01 Hoh11 Hoh02 Hoh12 Hes0 Hes1 Hoh03 Hoh13 Hss000 Hgo002 Hpo000 Hss010 Hgo012 Hpo010 Hss100 Hgo102 Hpo100 Hss110 Hgo112 Hpo110 Hss001 Hgo003 Hpo001 Hss011 Hgo013 Hpo011 Hss101 Hgo103 Hpo101 Hss111 Hgo113 Hpo111

end Cert.KernelIdeal.Moe
-- ==== Proof.KernelIdeal.Deal.lean ====
/-
# `Deal`: what the launch mints, and how it is dealt to the devices

The exchange's cells, the tokens of their duties, and the credit of what the devices owe each other. Every device ends up
with the positions of its own cells and with the tokens of the duties it pays itself: its neighbours' barrier duties, its
own sends, its partners' receives.
-/
module

public import proofs.«01_k».proof.Proof.KernelIdeal.Walk
public import Idealize.ShloMosaic.Lib.Pipeline.Launch
public import Idealize.ShloMosaic.Lib.Quiescent

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (Fin 2) (Elt F) ℕ UU ℕ

variable (m : (ℓ : Loc nD τ sig) → Buf (Elt F) ℓ)

/-! ## Families -/

/-- A slot: stage, half, parity. -/
abbrev Slot : Type := Fin 2 × Fin 2 × Fin 2

/-- A family over the slots, member by member. -/
theorem bigSep_slot (Φ : Slot → sProp 𝕄) : bigSep Finset.univ Φ
    = iprop(Φ (0,0,0) ∗ Φ (0,0,1) ∗ Φ (0,1,0) ∗ Φ (0,1,1) ∗ Φ (1,0,0) ∗ Φ (1,0,1) ∗ Φ (1,1,0) ∗ Φ (1,1,1)) :=
  bigSep_univ_eq_bigSepL [(0,0,0), (0,0,1), (0,1,0), (0,1,1), (1,0,0), (1,0,1), (1,1,0), (1,1,1)] (by decide) (by decide) Φ
/-- A family over the transfers, member by member. -/
theorem bigSep_xfer (Φ : Xfer → sProp 𝕄) : bigSep Finset.univ Φ
    = iprop(Φ (0,0,0) ∗ Φ (0,0,1) ∗ Φ (0,0,2) ∗ Φ (0,0,3) ∗ Φ (0,1,0) ∗ Φ (0,1,1) ∗ Φ (0,1,2) ∗ Φ (0,1,3)
      ∗ Φ (1,0,0) ∗ Φ (1,0,1) ∗ Φ (1,0,2) ∗ Φ (1,0,3) ∗ Φ (1,1,0) ∗ Φ (1,1,1) ∗ Φ (1,1,2) ∗ Φ (1,1,3)) :=
  bigSep_univ_eq_bigSepL [(0,0,0), (0,0,1), (0,0,2), (0,0,3), (0,1,0), (0,1,1), (0,1,2), (0,1,3),
    (1,0,0), (1,0,1), (1,0,2), (1,0,3), (1,1,0), (1,1,1), (1,1,2), (1,1,3)] (by decide) (by decide) Φ
/-- A family over two, member by member. -/
theorem bigSep_two (Φ : Fin 2 → sProp 𝕄) : bigSep Finset.univ Φ = iprop(Φ 0 ∗ Φ 1) := bigSep_univ_eq_bigSepL [0, 1] (by decide) (by decide) Φ
/-- A family over four, member by member. -/
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ
/-- A family over the halves of the column blocks, member by member. -/
theorem bigSep_half (Φ : Fin 2 × Fin 4 → sProp 𝕄) : bigSep Finset.univ Φ
    = iprop(Φ (0,0) ∗ Φ (0,1) ∗ Φ (0,2) ∗ Φ (0,3) ∗ Φ (1,0) ∗ Φ (1,1) ∗ Φ (1,2) ∗ Φ (1,3)) :=
  bigSep_univ_eq_bigSepL [(0,0), (0,1), (0,2), (0,3), (1,0), (1,1), (1,2), (1,3)] (by decide) (by decide) Φ
/-- A family over the two sides, member by member. -/
theorem bigSep_ff (Φ : Bool → sProp 𝕄) : bigSep Finset.univ Φ = iprop(Φ true ∗ Φ false) := bigSep_univ_eq_bigSepL [true, false] (by decide) (by decide) Φ

/-- A device's cells one by one: the barrier's, the sends', the receives'. -/
def cellIx : Unit ⊕ (Slot ⊕ Slot) → Fin 17
  | .inl _ => 0
  | .inr (.inl t) => sIx t.1 t.2.1 t.2.2
  | .inr (.inr t) => rIx t.1 t.2.1 t.2.2
/-- The numbering of a device's cells by kind leaves none out and repeats none. -/
theorem cellIx_bij : Function.Bijective cellIx := by decide
/-- What is held of each cell, by kind. -/
theorem bigSep_cells (Φ : Fin 17 → sProp 𝕄) : bigSep Finset.univ Φ
    = iprop(Φ 0 ∗ (bigSep Finset.univ fun t : Slot => Φ (sIx t.1 t.2.1 t.2.2)) ∗ bigSep Finset.univ fun t : Slot => Φ (rIx t.1 t.2.1 t.2.2)) := by
  rw [bigSep_univ_equiv (Equiv.ofBijective cellIx cellIx_bij) Φ, bigSep_univ_sum, bigSep_univ_sum, bigSep_univ_of_subsingleton ()]
  rfl

/-- A transfer is a slot and the round of its cells. -/
def xferIx (x : Xfer) : Slot × Fin 2 := ((x.1, x.2.1, qOf x.2.2), iOf x.2.2)
/-- A transfer is a slot and a round: each pair is one transfer. -/
theorem xferIx_bij : Function.Bijective xferIx := by decide

/-! ## Cells and tokens -/

/-- Different cells of a device are different semaphores. -/
theorem csem_inj : Function.Injective csem := by decide
/-- Different cells are different semaphores, over all devices. -/
theorem kcell_injective : Function.Injective (kcell : Dev nD × Fin 17 → GSem nD τ sig) := by
  rintro ⟨c, k⟩ ⟨c', k'⟩ h
  have h1 : c = c' := congrArg (fun g : GSem nD τ sig => g.1.1) h
  have h2 : k = k' := csem_inj (congrArg Prod.snd h)
  rw [h1, h2]
def exCells : Finset (GSem nD τ sig) := Finset.univ.map ⟨kcell, kcell_injective⟩

/-- A device's duties: its barrier's two, each transfer's send and receive. -/
abbrev Duty : Type := Bool ⊕ (Xfer ⊕ Xfer)
def dutyAt : Duty → SemLoc sig × ℕ × Bool
  | .inl b => (.reg barS, 0, b)
  | .inr (.inl x) => (.dma (sendS x.1 x.2.1 (qOf x.2.2)), rOf x.2.2, false)
  | .inr (.inr x) => (.dma (recvS x.1 x.2.1 (qOf x.2.2)), rOf x.2.2, false)
set_option maxRecDepth 20000 in
set_option maxHeartbeats 4000000 in
/-- Different duties of a device differ in cell, round or side. -/
theorem dutyAt_inj : Function.Injective dutyAt := by decide
def tokOf (cj : Dev nD × Duty) : GSem nD τ sig × ℕ × Bool := (((cj.1 : Thread nD τ), (dutyAt cj.2).1), (dutyAt cj.2).2.1, (dutyAt cj.2).2.2)
/-- Different duties have different tokens, over all devices. -/
theorem tokOf_injective : Function.Injective tokOf := by
  rintro ⟨c, j⟩ ⟨c', j'⟩ h
  have h1 : c = c' := congrArg (fun x : GSem nD τ sig × ℕ × Bool => x.1.1.1) h
  have h2 : j = j' := dutyAt_inj (congrArg (fun x : GSem nD τ sig × ℕ × Bool => (x.1.2, x.2)) h)
  rw [h1, h2]
def exToks : Finset (GSem nD τ sig × ℕ × Bool) := Finset.univ.map ⟨tokOf, tokOf_injective⟩

/-- The element the launch owns. -/
def u₀ : UU :=
  (initOf (Pipeline.cells cfgs cellOf_inj) (Pipeline.launchToks cfgs cellOf_inj), (initOf exCells exToks, 1))

/-- The tokens of the duties on device `c`'s own cells. -/
def toks (c : Dev nD) : sProp 𝕄 :=
  iprop((bigSep Finset.univ fun b : Bool => dutyTok ER (barCell c) 0 b)
    ∗ (bigSep Finset.univ fun x : Xfer => dutyTok ER (sendCell c x.1 x.2.1 (qOf x.2.2)) (rOf x.2.2) false)
    ∗ (bigSep Finset.univ fun x : Xfer => dutyTok ER (recvCell c x.1 x.2.1 (qOf x.2.2)) (rOf x.2.2) false))
/-- The tokens of the duties device `c` pays. -/
def payToks (c : Dev nD) : sProp 𝕄 :=
  iprop((bigSep Finset.univ fun b : Bool => dutyTok ER (barCell (nbr c b)) 0 b)
    ∗ (bigSep Finset.univ fun x : Xfer => dutyTok ER (sendCell c x.1 x.2.1 (qOf x.2.2)) (rOf x.2.2) false)
    ∗ (bigSep Finset.univ fun x : Xfer => dutyTok ER (recvCell (partner c x.1 x.2.1) x.1 x.2.1 (qOf x.2.2)) (rOf x.2.2) false))

/-- Every device paired with one of its neighbours, seen from the neighbour. -/
def nbrEquiv : Dev nD × Bool ≃ Dev nD × Bool :=
  Function.Involutive.toPerm (fun cb => (nbr cb.1 cb.2, cb.2)) fun cb => by show (nbr (nbr cb.1 cb.2) cb.2, cb.2) = cb; rw [nbr_nbr]
/-- Every device paired with a transfer, seen from the partner. -/
def partnerEquiv : Dev nD × Xfer ≃ Dev nD × Xfer :=
  Function.Involutive.toPerm (fun cx => (partner cx.1 cx.2.1 cx.2.2.1, cx.2)) fun cx => by
    show (partner (partner cx.1 cx.2.1 cx.2.2.1) cx.2.1 cx.2.2.1, cx.2) = cx; rw [partner_partner]

/-- The tokens dealt: the barriers' to the neighbours, the receives' to the partners. -/
theorem toks_around : (bigSep Finset.univ fun c : Dev nD => (toks c : sProp 𝕄)) ⊢ bigSep Finset.univ fun c : Dev nD => payToks c := by
  have hb : (bigSep Finset.univ fun c : Dev nD => bigSep Finset.univ fun b : Bool => (dutyTok ER (barCell c) 0 b : sProp 𝕄))
      = bigSep Finset.univ fun c : Dev nD => bigSep Finset.univ fun b : Bool => dutyTok ER (barCell (nbr c b)) 0 b := by
    rw [← bigSep_univ_prod (fun cb : Dev nD × Bool => (dutyTok ER (barCell cb.1) 0 cb.2 : sProp 𝕄)), bigSep_univ_equiv nbrEquiv, bigSep_univ_prod]
    rfl
  have hr : (bigSep Finset.univ fun c : Dev nD => bigSep Finset.univ fun x : Xfer =>
        (dutyTok ER (recvCell c x.1 x.2.1 (qOf x.2.2)) (rOf x.2.2) false : sProp 𝕄))
      = bigSep Finset.univ fun c : Dev nD => bigSep Finset.univ fun x : Xfer =>
        dutyTok ER (recvCell (partner c x.1 x.2.1) x.1 x.2.1 (qOf x.2.2)) (rOf x.2.2) false := by
    rw [← bigSep_univ_prod (fun cx : Dev nD × Xfer => (dutyTok ER (recvCell cx.1 cx.2.1 cx.2.2.1 (qOf cx.2.2.2)) (rOf cx.2.2.2) false : sProp 𝕄)),
      bigSep_univ_equiv partnerEquiv, bigSep_univ_prod]
    rfl
  unfold toks payToks
  rw [bigSep_sep', bigSep_sep', bigSep_sep', bigSep_sep', hb, hr]

/-! ## The cells' invariants -/

/-- What the launch element deals device `c`. -/
def G (c : Dev nD) : sProp 𝕄 :=
  iprop((bigSep Finset.univ fun k : Fin 17 => roundState ER (exRd m) (kcell (c, k)) 0)
    ∗ (bigSep Finset.univ fun k : Fin 17 => iprop(atPos ER (kcell (c, k)) 0 ∅ 0 ∗ reached ER (kcell (c, k)) 0)) ∗ toks c)

/-- What the launch owns of the exchange gives every device its part. -/
theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 17 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: the two of the local copies, the sends' and the receives'. -/
abbrev osem : Fin 2 ⊕ (Slot ⊕ Slot) → SemLoc sig
  | .inl p => .dma (ewS p)
  | .inr (.inl t) => .dma (sendS t.1 t.2.1 t.2.2)
  | .inr (.inr t) => .dma (recvS t.1 t.2.1 t.2.2)
set_option maxRecDepth 20000 in
/-- The semaphores the body owns are distinct and none of them belongs to the staging. -/
theorem ownSemFacts : Pipeline.OwnSemFacts cfg0.spec osem := by decide

/-- The semaphores of the local copies at rest. -/
def ewSems (c : Dev nD) : sProp 𝕄 := iprop(semVal ((c : Thread nD τ), .dma (ewS 0)) 0 ∗ semVal ((c : Thread nD τ), .dma (ewS 1)) 0)

/-- The semaphores the body owns, all at zero: the local copies', the send and the receive ones. -/
theorem ownSems0_eq (c : Dev nD) : (Pipeline.ownSems0 (Ix := Fin 2) (Name := ℕ) (U := UU) (Lvl := ℕ) (Val := Elt F) (τ := τ) osem c : sProp 𝕄)
    = iprop(ewSems c ∗ (bigSep Finset.univ fun t : Slot => semVal (sendCell c t.1 t.2.1 t.2.2) 0) ∗ bigSep Finset.univ fun t : Slot => semVal (recvCell c t.1 t.2.1 t.2.2) 0) := by
  unfold Pipeline.ownSems0 ewSems
  rw [bigSep_univ_sum, bigSep_univ_sum, bigSep_two]
  rfl
/-- The barrier's semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over the send cells, by number or by slot. -/
theorem send_fun (c : Dev nD) (Φ : GSem nD τ sig → sProp 𝕄) :
    (bigSep Finset.univ fun t : Slot => Φ (kcell (c, sIx t.1 t.2.1 t.2.2))) = bigSep Finset.univ fun t : Slot => Φ (sendCell c t.1 t.2.1 t.2.2) :=
  bigSep_congr fun t _ => by rw [kcell_send]
/-- A family over the receive cells, by number or by slot. -/
theorem recv_fun (c : Dev nD) (Φ : GSem nD τ sig → sProp 𝕄) :
    (bigSep Finset.univ fun t : Slot => Φ (kcell (c, rIx t.1 t.2.1 t.2.2))) = bigSep Finset.univ fun t : Slot => Φ (recvCell c t.1 t.2.1 t.2.2) :=
  bigSep_congr fun t _ => by rw [kcell_recv]
/-- A property of a device's cells, by kind. -/
theorem cells_eq (c : Dev nD) (Φ : GSem nD τ sig → sProp 𝕄) : (bigSep Finset.univ fun k : Fin 17 => Φ (kcell (c, k)))
    = iprop(Φ (barCell c) ∗ (bigSep Finset.univ fun t : Slot => Φ (sendCell c t.1 t.2.1 t.2.2)) ∗ bigSep Finset.univ fun t : Slot => Φ (recvCell c t.1 t.2.1 t.2.2)) := by
  rw [bigSep_cells, send_fun, recv_fun]
  rfl

/-- A device's semaphores at zero and its part of the exchange set up its cells' invariants. -/
theorem core_alloc (c : Dev nD) :
    iprop(Pipeline.ownSems0 (Ix := Fin 2) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ iprop(toks c ∗ ewSems c)) := by
  rw [ownSems0_eq, unscopedSems0_eq]
  unfold G
  iintro ⟨⟨Hew, Hsd, Hrv⟩, Hbar, Hst, Hat, Htok⟩
  imod (show iprop((bigSep Finset.univ fun k : Fin 17 => semVal (kcell (c, k)) 0) ∗ bigSep Finset.univ fun k : Fin 17 => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hsd Hrv Hbar Hst] with Hinv
  · isplitr [Hst]
    · rw [cells_eq c fun g => semVal g 0]
      isplitl [Hbar]; · iexact Hbar
      isplitl [Hsd]; · iexact Hsd
      iexact Hrv
    · iexact Hst
  imodintro
  isplitl [Hinv]; · iexact Hinv
  isplitl [Hat]; · iexact Hat
  isplitl [Htok]; · iexact Htok
  iexact Hew

/-- What stays with device `c`: its cells' positions, the tokens it pays with, its local copies' semaphores. -/
def linear (c : Dev nD) : sProp 𝕄 :=
  iprop((bigSep Finset.univ fun k : Fin 17 => atPos ER (kcell (c, k)) 0 ∅ 0) ∗ payToks c ∗ ewSems c)

/-- What the global step makes: the invariants, every cell's first round reached, and what is the device's own. -/
def G' (c : Dev nD) : sProp 𝕄 :=
  iprop(∃ K, invs m K ∗ (bigSep Finset.univ fun ck : Dev nD × Fin 17 => reached ER (kcell ck) 0) ∗ linear c)

/-- Of all the cells at their first round, any one is. -/
theorem reached_at (ck : Dev nD × Fin 17) :
    (bigSep Finset.univ fun ck : Dev nD × Fin 17 => (reached ER (kcell ck) 0 : sProp 𝕄)) ⊢ reached ER (kcell ck) 0 :=
  bigSep_elim (Finset.mem_univ ck)

/-- A persistent resource beside a family serves each of its members. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device's part, set up, gives every device the invariants of all and the tokens it pays with. -/
theorem regroup :
    (bigSep Finset.univ fun c : Dev nD => iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ iprop(toks c ∗ ewSems c)) : sProp 𝕄)
      ⊢ bigSep Finset.univ (G' m) := by
  rw [bigSep_sep', bigSep_sep', bigSep_sep', ← bigSep_univ_prod (fun ck : Dev nD × Fin 17 => iprop(∃ κ : ℕ, cellInv ER (exRd m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok, Hew⟩
  ihave HK := (BI.bigSep_exists_pi Finset.univ (fun (ck : Dev nD × Fin 17) (κ : ℕ) => (cellInv ER (exRd m) κ (kcell ck) : sProp 𝕄))) $$ HI
  icases HK with ⟨%K, #HI⟩
  ihave Htk := (toks_around (F := F)) $$ Htok
  iapply (bigSep_beside (R := iprop(invs m K ∗ bigSep Finset.univ fun ck : Dev nD × Fin 17 => reached ER (kcell ck) 0)) (Φ := linear) fun c _ => by
    unfold G'
    iintro ⟨⟨HI, HR⟩, HL⟩
    iexists K
    isplitl [HI]; · iexact HI
    isplitl [HR]; · iexact HR
    iexact HL)
  isplitr
  · isplitl; · unfold invs; iexact HI
    iexact HR
  · unfold linear
    rw [bigSep_sep', bigSep_sep']
    isplitl [Hat]; · iexact Hat
    isplitl [Htk]; · iexact Htk
    iexact Hew

/-- The global step: the own and the unscoped semaphores of every device at once. -/
theorem glob : (bigSep Finset.univ fun c => iprop(Pipeline.ownSems0 (Ix := Fin 2) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A transfer `x` of device `d` pays slot `t` of device `c` at round `i`. -/
def pays (d c : Dev nD) (t : Slot) (i : Fin 2) (x : Xfer) : Bool := decide (c = partner d x.1 x.2.1 ∧ t = (x.1, x.2.1, qOf x.2.2) ∧ i = iOf x.2.2)

/-- Different slots have different receive semaphores. -/
theorem recvS_inj : Function.Injective (fun t : Slot => recvS t.1 t.2.1 t.2.2) := by decide

/-- What a list of transfers owes a receive cell: a credit for each transfer that pays it. -/
theorem owedX_recv (d c : Dev nD) (t : Slot) (i : Fin 2) (xs : List Xfer) :
    owedX d xs (recvCell c t.1 t.2.1 t.2.2) i = N * xs.countP (pays d c t i) := by
  induction xs with
  | nil => rfl
  | cons x xs ih =>
    unfold owedX
    rw [Pi.add_apply, Finsupp.add_apply, ih, tallyAt_apply, List.countP_cons, Nat.mul_add]
    refine congrArg _ ?_
    by_cases h : pays d c t i x
    · obtain ⟨h1, h2, h3⟩ := of_decide_eq_true h
      rw [if_pos h, if_pos ⟨by rw [← h1, h2], h3⟩, Nat.mul_one]
    · rw [if_neg h, if_neg (fun ⟨h1, h3⟩ => h (decide_eq_true ⟨congrArg (fun g : GSem nD τ sig => g.1.1) h1,
        recvS_inj (SemLoc.dma.inj (congrArg (fun g : GSem nD τ sig => g.2) h1)), h3⟩)), Nat.mul_zero]
/-- Transfers owe a barrier cell nothing. -/
theorem owedX_bar (d c : Dev nD) (i : Fin 2) (xs : List Xfer) : owedX d xs (barCell c) i = 0 := by
  induction xs with
  | nil => rfl
  | cons x xs ih =>
    unfold owedX
    rw [Pi.add_apply, Finsupp.add_apply, ih, tallyAt_ne_cell (fun h => by cases congrArg (fun g : GSem nD τ sig => g.2) h)]
    rfl

set_option maxRecDepth 20000 in
set_option maxHeartbeats 4000000 in
/-- Over all the transfers of a device, each round of a slot is paid once by the partner and by no other. -/
theorem countX (d c : Dev nD) (t : Slot) (i : Fin 2) : (rem 0).countP (pays d c t i) = if d = partner c t.1 t.2.1 then 1 else 0 := by
  revert d c t i; decide +kernel

/-- Barrier cells are equal just when their devices are. -/
theorem bar_eq_iff {a b : Dev nD} : Iff (barCell a = barCell b) (a = b) :=
  ⟨fun h => congrArg (fun g : GSem nD τ sig => g.1.1) h, fun h => h ▸ rfl⟩

/-- At launch a receive cell is owed one credit a round by the partner and nothing by others. -/
theorem owed_recv (d c : Dev nD) (t : Slot) (i : Fin 2) : O₀ d (recvCell c t.1 t.2.1 t.2.2) i = if d = partner c t.1 t.2.1 then N else 0 := by
  unfold O₀ O₁
  rw [Pi.add_apply, Finsupp.add_apply, Pi.add_apply, Finsupp.add_apply,
    tallyAt_ne_cell (fun h => by cases congrArg (fun g : GSem nD τ sig => g.2) h), tallyAt_ne_cell (fun h => by cases congrArg (fun g : GSem nD τ sig => g.2) h),
    owedX_recv, countX]
  split
  · rfl
  · rfl

/-- Each device is signalled by two, once by each. -/
theorem nbr_sum (c : Dev nD) (i : Fin 2) : (∑ d : Dev nD, ((if c = nbr d (!b₁ d) ∧ i = 0 then 1 else 0) + (if c = nbr d (b₁ d) ∧ i = 0 then 1 else 0) : ℕ)) = if i = 0 then 2 else 0 := by
  revert c i; decide

/-- The launch credit of a barrier cell is two units. -/
theorem launch_bar (c : Dev nD) :
    tallyOn (barCell c) (launchCredit (Pipeline.owing O₀) 0 (barCell c)) = (tallyAt (barCell c) 0 2 : CellTallies nD τ sig (Fin 2)) := by
  unfold tallyAt; refine congrArg _ (Finsupp.ext fun u => ?_)
  rw [Pipeline.launchCredit_owing, Finset.sum_congr rfl fun d _ => show O₀ d (barCell c) u
      = (if c = nbr d (!b₁ d) ∧ u = 0 then 1 else 0) + (if c = nbr d (b₁ d) ∧ u = 0 then 1 else 0) from by
    unfold O₀ O₁
    rw [Pi.add_apply, Finsupp.add_apply, Pi.add_apply, Finsupp.add_apply, owedX_bar, tallyAt_apply, tallyAt_apply, Nat.zero_add]
    simp only [bar_eq_iff],
    nbr_sum, Finsupp.single_apply]
  by_cases h : u = 0
  · rw [if_pos h, if_pos h.symm]
  · rw [if_neg h, if_neg fun e => h e.symm]

/-- The launch credit of a receive cell is one transfer's for each of its rounds. -/
theorem launch_recv (c : Dev nD) (t : Slot) :
    tallyOn (recvCell c t.1 t.2.1 t.2.2) (launchCredit (Pipeline.owing O₀) 0 (recvCell c t.1 t.2.1 t.2.2))
      = (tallyAt (recvCell c t.1 t.2.1 t.2.2) 0 N + tallyAt (recvCell c t.1 t.2.1 t.2.2) 1 N : CellTallies nD τ sig (Fin 2)) := by
  unfold tallyAt
  rw [← tallyOn_add]
  refine congrArg _ (Finsupp.ext fun u => ?_)
  rw [Pipeline.launchCredit_owing, Finset.sum_congr rfl fun d _ => owed_recv d c t u, Finset.sum_ite_eq' Finset.univ (partner c t.1 t.2.1) fun _ => N,
    if_pos (Finset.mem_univ _), Finsupp.add_apply, Finsupp.single_apply, Finsupp.single_apply]
  revert u
  intro u
  fin_cases u <;> rfl

/-- The cells whose credit the launch deals, by slot. -/
def recvEmb : Slot ↪ SemLoc sig := ⟨fun t => .dma (recvS t.1 t.2.1 t.2.2), fun t t' h => recvS_inj (SemLoc.dma.inj h)⟩

/-- The credit of the barrier's two units and of every receive. -/
theorem creds (c : Dev nD) :
    (Pipeline.launchCred O₀ c : sProp 𝕄) ⊢ iprop(cred (tallyAt (barCell c) 0 2)
      ∗ bigSep Finset.univ fun x : Xfer => cred (tallyAt (recvCell c x.1 x.2.1 (qOf x.2.2)) (iOf x.2.2) N)) := by
  unfold Pipeline.launchCred
  rw [bigSep_univ_at _ (SemLoc.reg barS), launch_bar]
  refine sep_mono_right ?_
  have hsub : Finset.univ.map recvEmb ⊆ Finset.univ.erase (SemLoc.reg barS) := fun sm hsm => by
    obtain ⟨t, -, rfl⟩ := Finset.mem_map.mp hsm
    exact Finset.mem_erase.mpr ⟨fun h => (by cases h), Finset.mem_univ _⟩
  refine (BI.bigSep_subset hsub).trans ?_
  rw [BI.bigSep_map, bigSep_univ_equiv (Equiv.ofBijective xferIx xferIx_bij).symm, bigSep_univ_prod (α := Slot) (β := Fin 2)]
  refine bigSep_mono fun t _ => ?_
  show (cred (tallyOn (recvCell c t.1 t.2.1 t.2.2) (launchCredit (Pipeline.owing O₀) 0 (recvCell c t.1 t.2.1 t.2.2))) : sProp 𝕄) ⊢ _
  rw [launch_recv, bigSep_two]
  have key : ∀ i : Fin 2, (tallyAt (recvCell c t.1 t.2.1 t.2.2) i N : CellTallies nD τ sig (Fin 2))
      = (fun x : Xfer => tallyAt (recvCell c x.1 x.2.1 (qOf x.2.2)) (iOf x.2.2) N) ((Equiv.ofBijective xferIx xferIx_bij).symm (t, i)) := fun i => by
    have h := (Equiv.ofBijective xferIx xferIx_bij).apply_symm_apply (t, i)
    generalize (Equiv.ofBijective xferIx xferIx_bij).symm (t, i) = x at h ⊢
    have h' : xferIx x = (t, i) := h
    obtain ⟨rfl, rfl⟩ := Prod.mk.inj h'
    rfl
  rw [key 0, key 1]
  exact (cred_add (Val := Elt F) (Name := ℕ) (U := UU) (Lvl := ℕ) _ _).1

end Cert.KernelIdeal.Moe
-- ==== Proof.KernelIdeal.Body.lean ====
/-
# `Body`: the body as the pipeline runs it

The proof data of the pipeline, what a device holds before the body and after it, and the body's obligation from `walk`:
the buffers cut into what the steps hold, joined again at the end.
-/
module

public import proofs.«01_k».proof.Proof.KernelIdeal.Deal
public import proofs.«01_k».proof.Proof.Gen.KernelIdeal.Launch
public import proofs.«01_k».proof.Proof.Gen.KernelIdeal.Points

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (Fin 2) (Elt F) ℕ UU ℕ

variable (m : (ℓ : Loc nD τ sig) → Buf (Elt F) ℓ)

/-! ## The result -/

/-- A position of a half chunk. -/
def halfIx (a b : ℕ) (ha : a < 1024) (hb : b < 256) : S1024x256.Idx := fun
  | ⟨0, _⟩ => ⟨a, ha⟩
  | ⟨1, _⟩ => ⟨b, hb⟩
/-- The kernel's result on device `c`: every half chunk after both exchanges. -/
def outAt (c : Dev nD) : Vec F S2048x1024 .f32 := fun i =>
  outv m 2 c ⟨(i 0).val / 1024, by have h : (i 0).val < 2048 := (i 0).isLt; omega⟩ ⟨(i 1).val / 256, by have h : (i 1).val < 1024 := (i 1).isLt; omega⟩
    (halfIx ((i 0).val % 1024) ((i 1).val % 256) (Nat.mod_lt _ (by decide)) (Nat.mod_lt _ (by decide)))

/-- A half of a column block of the whole result is the value written there last. -/
theorem outAt_half (c : Dev nD) (h : Fin 2) (k : Fin 4) : (fun j => outAt m c ((halfR h k).emb j)) = outv m 2 c h k := by
  funext j
  have h0 : (j 0).val < 1024 := (j 0).isLt
  have h1 : (j 1).val < 256 := (j 1).isLt
  have hh := h.isLt
  have hk := k.isLt
  have e0 : (((halfR h k).emb j) 0).val = 1024 * h.val + 1 * (j 0).val := rfl
  have e1 : (((halfR h k).emb j) 1).val = 256 * k.val + 1 * (j 1).val := rfl
  unfold outAt
  have a : (⟨(((halfR h k).emb j) 0).val / 1024, by rw [e0]; omega⟩ : Fin 2) = h := Fin.ext (by show (((halfR h k).emb j) 0).val / 1024 = h.val; rw [e0]; omega)
  have b : (⟨(((halfR h k).emb j) 1).val / 256, by rw [e1]; omega⟩ : Fin 4) = k := Fin.ext (by show (((halfR h k).emb j) 1).val / 256 = k.val; rw [e1]; omega)
  have d : halfIx ((((halfR h k).emb j) 0).val % 1024) ((((halfR h k).emb j) 1).val % 256) (Nat.mod_lt _ (by decide)) (Nat.mod_lt _ (by decide)) = j := by
    funext x
    apply Fin.ext
    fin_cases x
    · show (((halfR h k).emb j) 0).val % 1024 = (j 0).val; rw [e0]; omega
    · show (((halfR h k).emb j) 1).val % 256 = (j 1).val; rw [e1]; omega
  rw [a, b, d]

/-! ## The pipeline's proof data -/

/-- The grid has one step. -/
theorem cfg0_N : cfg0.N = 1 := by decide

/-- What device `c` starts from besides its buffers: the invariants and the levels, the first rounds reached, its own positions, tokens
    and credits, its weights. -/
def start (c : Dev nD) : sProp 𝕄 :=
  iprop(G' m c ∗ levAts L lv ∗ cred (tallyAt (barCell c) 0 2)
    ∗ (bigSep Finset.univ fun x : Xfer => cred (tallyAt (recvCell c x.1 x.2.1 (qOf x.2.2)) (iOf x.2.2) N))
    ∗ (((c : Thread nD τ).loc main_arg3) ↦{fullShare} m ((c : Thread nD τ).loc main_arg3)))
/-- What it passes on at the end. -/
def kept (c : Dev nD) : sProp 𝕄 :=
  iprop(unscopedSems0 c ∗ (((c : Thread nD τ).loc main_arg3) ↦{fullShare} m ((c : Thread nD τ).loc main_arg3)))

def Φ₀ (c : Dev nD) : sProp 𝕄 := iprop(start m c ∗ Pipeline.scopedRest cfg0.spec c)
def Φ₁ (c : Dev nD) : sProp 𝕄 := iprop(kept m c ∗ Pipeline.ownSems0 osem c ∗ Pipeline.scopedRest cfg0.spec c)

def dats (_ : Fin 1) (c : Dev nD) : Dat τ (Elt F) (Fin 2) ℕ UU ℕ cfg0 c where
  A w := m ((cfg0.win w).arr.view.loc (c : Thread nD τ))
  after w _ := match w with
    | ⟨0, _⟩ => xstg m c
    | ⟨1, _⟩ => rstg m c
    | ⟨2, _⟩ => istg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Windows 0, 1 and 2 hold their arrays. -/
theorem before_x (c : Dev nD) (t : Fin cfg0.N) (d) : (dats (F := F) m 0 c).before 0 t d = xstg m c := by
  unfold Dat.before; rw [if_pos (fetch0_0 t), fin_N0 t]
  funext j
  show m ((c : Thread nD τ).loc main_arg0) _ = m ((c : Thread nD τ).loc main_arg0) j
  refine congrArg _ (funext fun a => Fin.ext ?_)
  fin_cases a
  · show 0 + 1 * (j 0).val = (j 0).val; omega
  · show 0 + 1 * (j 1).val = (j 1).val; omega
/-- What is in the router's staging buffer before the body. -/
theorem before_r (c : Dev nD) (t : Fin cfg0.N) (d) : (dats (F := F) m 0 c).before 1 t d = rstg m c := by
  unfold Dat.before; rw [if_pos (fetch0_1 t), fin_N0 t]
  funext j
  show m ((c : Thread nD τ).loc main_arg1) _ = m ((c : Thread nD τ).loc main_arg1) j
  refine congrArg _ (funext fun a => Fin.ext ?_)
  fin_cases a
  · show 0 + 1 * (j 0).val = (j 0).val; omega
  · show 0 + 1 * (j 1).val = (j 1).val; omega
/-- What is in the indices' staging buffer before the body. -/
theorem before_i (c : Dev nD) (t : Fin cfg0.N) (d) : (dats (F := F) m 0 c).before 2 t d = istg m c := by
  unfold Dat.before; rw [if_pos (fetch0_2 t), fin_N0 t]
  funext j
  show m ((c : Thread nD τ).loc main_arg2) _ = m ((c : Thread nD τ).loc main_arg2) j
  refine congrArg _ (funext fun a => Fin.ext ?_)
  fin_cases a
  · show 0 + 1 * (j 0).val = (j 0).val; omega
  · show 0 + 1 * (j 1).val = (j 1).val; omega

/-! ## Whole buffers -/

/-- A buffer held with contents is its whole rectangle held with them. -/
theorem whole_blk {cs : Space} {s : Shape} {e : EltTy} (M : Memref sig .tc cs s e) (r : Rect s) (hr : ∀ a, r.stride a = 1) (hc : r.set = Finset.univ)
    (c : Dev nD) (X : s.Idx → Elt F e) : (owns (c : Thread nD τ) M fullShare X : sProp 𝕄) ⊢ blk M r c (fun j => X (r.emb j)) := by
  have key (f : Buf (Elt F) (M.view.loc (c : Thread nD τ))) : (M.view.loc (c : Thread nD τ) ↦[M.view.set]{fullShare} f : sProp 𝕄)
      ⊢ blk M r c (fun j => M.view.read (Elt F) f (r.emb j)) := by
    have h : (M.view.loc (c : Thread nD τ) ↦[M.view.set]{fullShare} f : sProp 𝕄)
        = bigSep (Finset.univ : Finset Unit) fun _ => owns (c : Thread nD τ) (M.slice r hr) fullShare (fun j => M.view.read (Elt F) f (r.emb j)) :=
      pointsTo_rects (c : Thread nD τ) M fullShare (fun _ => r) (fun _ => hr) (fun t t' h => absurd (Subsingleton.elim t t') h)
        (by rw [Finset.univ_unique, Finset.singleton_biUnion, hc]) f
    rw [bigSep_univ_of_subsingleton ()] at h
    rw [h]
    exact .rfl
  unfold owns
  iintro ⟨%f, %hf, H⟩
  subst hf
  iapply (key f)
  iexact H
/-- A block that covers its buffer, read through the rectangle, gives back the whole buffer. -/
theorem blk_whole {cs : Space} {s : Shape} {e : EltTy} (M : Memref sig .tc cs s e) (r : Rect s) (hr : ∀ a, r.stride a = 1) (hc : r.set = Finset.univ)
    (c : Dev nD) (X : s.Idx → Elt F e) : (blk M r c (fun j => X (r.emb j)) : sProp 𝕄) ⊢ owns (c : Thread nD τ) M fullShare X := by
  refine BIBase.Entails.trans ?_ (join_blk (T := Unit) M (fun _ => r) (fun _ => hr) (fun t t' h => absurd (Subsingleton.elim t t') h)
    (by rw [Finset.univ_unique, Finset.singleton_biUnion, hc]) c X)
  rw [bigSep_univ_of_subsingleton ()]

/-- The tokens' rectangle is the whole buffer. -/
theorem xR_emb (j : S2048x1024.Idx) : xR.emb j = j := funext fun a => Fin.ext (by
  fin_cases a
  · show 0 + 1 * (j 0).val = (j 0).val; omega
  · show 0 + 1 * (j 1).val = (j 1).val; omega)
/-- The router's rectangle is the whole buffer. -/
theorem rR_emb (j : S1024x32.Idx) : rR.emb j = j := funext fun a => Fin.ext (by
  fin_cases a
  · show 0 + 1 * (j 0).val = (j 0).val; omega
  · show 0 + 1 * (j 1).val = (j 1).val; omega)
/-- The indices' rectangle is the whole buffer. -/
theorem iR_emb (j : S2048x2.Idx) : iR.emb j = j := funext fun a => Fin.ext (by
  fin_cases a
  · show 0 + 1 * (j 0).val = (j 0).val; omega
  · show 0 + 1 * (j 1).val = (j 1).val; omega)

/-- A rectangle that reaches every index covers its shape. -/
theorem whole_set {s : Shape} (r : Rect s) (f : s.Idx → r.shape.Idx) (h : ∀ i, r.emb (f i) = i) : r.set = Finset.univ := by
  ext i
  simp only [Finset.mem_univ, iff_true]
  rw [← h i]
  exact r.idx_mem (f i)

/-- The tokens' buffer as a block. -/
theorem x_blk (c : Dev nD) (X : Vec F S2048x1024 .f32) : (owns (c : Thread nD τ) xM fullShare X : sProp 𝕄) ⊢ blk xM xR c X := by
  have h := whole_blk (F := F) xM xR (fun _ => rfl) (whole_set xR id xR_emb) c X
  rwa [show (fun j => X (xR.emb j)) = X from funext fun j => congrArg X (xR_emb j)] at h
/-- The tokens' block as a buffer. -/
theorem x_owns (c : Dev nD) (X : Vec F S2048x1024 .f32) : (blk xM xR c X : sProp 𝕄) ⊢ owns (c : Thread nD τ) xM fullShare X := by
  have h := blk_whole (F := F) xM xR (fun _ => rfl) (whole_set xR id xR_emb) c X
  rwa [show (fun j => X (xR.emb j)) = X from funext fun j => congrArg X (xR_emb j)] at h
/-- The router's buffer as a block. -/
theorem r_blk (c : Dev nD) (X : Vec F S1024x32 .f32) : (owns (c : Thread nD τ) rM fullShare X : sProp 𝕄) ⊢ blk rM rR c X := by
  have h := whole_blk (F := F) rM rR (fun _ => rfl) (whole_set rR id rR_emb) c X
  rwa [show (fun j => X (rR.emb j)) = X from funext fun j => congrArg X (rR_emb j)] at h
/-- The router's block as a buffer. -/
theorem r_owns (c : Dev nD) (X : Vec F S1024x32 .f32) : (blk rM rR c X : sProp 𝕄) ⊢ owns (c : Thread nD τ) rM fullShare X := by
  have h := blk_whole (F := F) rM rR (fun _ => rfl) (whole_set rR id rR_emb) c X
  rwa [show (fun j => X (rR.emb j)) = X from funext fun j => congrArg X (rR_emb j)] at h
/-- The indices' buffer as a block. -/
theorem i_blk (c : Dev nD) (X : Vec F S2048x2 .i32) : (owns (c : Thread nD τ) iM fullShare X : sProp 𝕄) ⊢ blk iM iR c X := by
  have h := whole_blk (F := F) iM iR (fun _ => rfl) (whole_set iR id iR_emb) c X
  rwa [show (fun j => X (iR.emb j)) = X from funext fun j => congrArg X (iR_emb j)] at h
/-- The indices' block as a buffer. -/
theorem i_owns (c : Dev nD) (X : Vec F S2048x2 .i32) : (blk iM iR c X : sProp 𝕄) ⊢ owns (c : Thread nD τ) iM fullShare X := by
  have h := blk_whole (F := F) iM iR (fun _ => rfl) (whole_set iR id iR_emb) c X
  rwa [show (fun j => X (iR.emb j)) = X from funext fun j => congrArg X (iR_emb j)] at h

/-- The output buffer, cut into its chunks. -/
theorem o_cut (c : Dev nD) (X : Vec F S2048x1024 .f32) : (owns (c : Thread nD τ) oM fullShare X : sProp 𝕄)
    ⊢ iprop(anyBlk oM (colR 0) c ∗ anyBlk oM (colR 1) c ∗ anyBlk oM (colR 2) c ∗ anyBlk oM (colR 3) c) := by
  rw [← bigSep_four fun k => anyBlk oM (colR k) c]
  unfold owns
  iintro ⟨%f, -, H⟩
  iapply (cut_any oM colR (fun _ _ => rfl) colR_disj colR_cover c f)
  iexact H
/-- Its half chunks joined: the result. -/
theorem o_join (c : Dev nD) : iprop(blk oM (halfR 0 0) c (outv m 2 c 0 0) ∗ blk oM (halfR 0 1) c (outv m 2 c 0 1) ∗ blk oM (halfR 0 2) c (outv m 2 c 0 2)
      ∗ blk oM (halfR 0 3) c (outv m 2 c 0 3) ∗ blk oM (halfR 1 0) c (outv m 2 c 1 0) ∗ blk oM (halfR 1 1) c (outv m 2 c 1 1)
      ∗ blk oM (halfR 1 2) c (outv m 2 c 1 2) ∗ blk oM (halfR 1 3) c (outv m 2 c 1 3))
    ⊢ (owns (c : Thread nD τ) oM fullShare (outAt m c) : sProp 𝕄) := by
  refine BIBase.Entails.trans ?_ (join_blk oM halfT (fun _ _ => rfl) halfT_disj halfT_cover c (outAt m c))
  rw [bigSep_half]
  simp only [outAt_half]
  exact .rfl

/-- The scratch buffers, cut into their slots and joined again. -/
theorem scratch_cut (c : Dev nD) : (Pipeline.scopedRest cfg0.spec c : sProp 𝕄)
    ⊢ iprop((anyBlk eM (slotE 0) c ∗ anyBlk eM (slotE 1) c) ∗ (bigSep Finset.univ fun t : Slot => anyBlk sM (slotT t) c) ∗ bigSep Finset.univ fun t : Slot => anyBlk vM (slotT t) c) := by
  rw [show (Pipeline.scopedRest cfg0.spec c : sProp 𝕄) = Pipeline.scopedRest spec0 c from rfl, scopedRest0_eq, ← bigSep_two fun p => anyBlk eM (slotE p) c]
  iintro ⟨⟨%f, He⟩, ⟨%g, Hs⟩, ⟨%h, Hv⟩⟩
  isplitl [He]
  · iapply (cut_any eM slotE (fun _ _ => rfl) slotE_disj slotE_cover c f)
    rw [show (eM : Memref sig .tc .vmem S2x1024x256 .f32).view.set = Finset.univ from View.set_whole _]; iexact He
  isplitl [Hs]
  · iapply (cut_any sM slotT (fun _ _ => rfl) slotT_disj slotT_cover c g)
    rw [show (sM : Memref sig .tc .vmem S2x2x2x1024x256 .bf16).view.set = Finset.univ from View.set_whole _]; iexact Hs
  · iapply (cut_any vM slotT (fun _ _ => rfl) slotT_disj slotT_cover c h)
    rw [show (vM : Memref sig .tc .vmem S2x2x2x1024x256 .bf16).view.set = Finset.univ from View.set_whole _]; iexact Hv
/-- The slots of the weights', send and receive buffers join into the scratch memory the launch lent. -/
theorem scratch_join (c : Dev nD) : iprop((anyBlk eM (slotE 0) c ∗ anyBlk eM (slotE 1) c) ∗ (bigSep Finset.univ fun t : Slot => anyBlk sM (slotT t) c)
      ∗ bigSep Finset.univ fun t : Slot => anyBlk vM (slotT t) c) ⊢ (Pipeline.scopedRest cfg0.spec c : sProp 𝕄) := by
  rw [show (Pipeline.scopedRest cfg0.spec c : sProp 𝕄) = Pipeline.scopedRest spec0 c from rfl, scopedRest0_eq, ← bigSep_two fun p => anyBlk eM (slotE p) c]
  iintro ⟨He, Hs, Hv⟩
  ihave He := (join_any eM slotE (fun _ _ => rfl) slotE_disj slotE_cover c) $$ He
  ihave Hs := (join_any sM slotT (fun _ _ => rfl) slotT_disj slotT_cover c) $$ Hs
  ihave Hv := (join_any vM slotT (fun _ _ => rfl) slotT_disj slotT_cover c) $$ Hv
  icases He with ⟨%f, He⟩
  icases Hs with ⟨%g, Hs⟩
  icases Hv with ⟨%h, Hv⟩
  isplitl [He]
  · iexists f; rw [show (eM : Memref sig .tc .vmem S2x1024x256 .f32).view.set = Finset.univ from View.set_whole _]; iexact He
  isplitl [Hs]
  · iexists g; rw [show (sM : Memref sig .tc .vmem S2x2x2x1024x256 .bf16).view.set = Finset.univ from View.set_whole _]; iexact Hs
  · iexists h; rw [show (vM : Memref sig .tc .vmem S2x2x2x1024x256 .bf16).view.set = Finset.univ from View.set_whole _]; iexact Hv

/-! ## Before the body -/

/-- Every send cell of a device has reached its first round. -/
theorem reached_sends (c : Dev nD) : (bigSep Finset.univ fun ck : Dev nD × Fin 17 => (reached ER (kcell ck) 0 : sProp 𝕄))
    ⊢ bigSep Finset.univ fun t : Slot => reached ER (sendCell c t.1 t.2.1 t.2.2) 0 :=
  (BI.bigSep_of_persistent (Finset.univ : Finset Slot) _).trans (bigSep_mono fun t _ => by rw [← kcell_send]; exact reached_at _)
/-- Every receive cell of a device has reached its first round. -/
theorem reached_recvs (c : Dev nD) : (bigSep Finset.univ fun ck : Dev nD × Fin 17 => (reached ER (kcell ck) 0 : sProp 𝕄))
    ⊢ bigSep Finset.univ fun t : Slot => reached ER (recvCell c t.1 t.2.1 t.2.2) 0 :=
  (BI.bigSep_of_persistent (Finset.univ : Finset Slot) _).trans (bigSep_mono fun t _ => by rw [← kcell_recv]; exact reached_at _)

/-- The receive slots, all at their first round, are what the device hands both neighbours at the barrier. -/
theorem give_all (c : Dev nD) : (iprop((bigSep Finset.univ fun t : Slot => anyBlk vM (slotT t) c)
      ∗ bigSep Finset.univ fun t : Slot => reached ER (recvCell c t.1 t.2.1 t.2.2) 0) : sProp 𝕄)
    ⊢ iprop(barPay c (nbr c true) ∗ barPay c (nbr c false)) := by
  rw [← bigSep_sep' (Finset.univ : Finset Slot) (fun t => (anyBlk vM (slotT t) c : sProp 𝕄)) (fun t => reached ER (recvCell c t.1 t.2.1 t.2.2) 0), bigSep_slot]
  refine (show iprop(pslot (F := F) c 0 0 0 ∗ pslot c 0 0 1 ∗ pslot c 0 1 0 ∗ pslot c 0 1 1 ∗ pslot c 1 0 0 ∗ pslot c 1 0 1 ∗ pslot c 1 1 0 ∗ pslot c 1 1 1)
    ⊢ iprop(barPay c (nbr c true) ∗ barPay c (nbr c false)) from ?_)
  refine BIBase.Entails.trans ?_ (bar_give c)
  iintro ⟨A, B, C, D, E, G, H, I⟩
  isplitl [A B]; · isplitl [A] <;> iassumption
  isplitl [C D]; · isplitl [C] <;> iassumption
  isplitl [E G]; · isplitl [E] <;> iassumption
  isplitl [H] <;> iassumption

/-- What a device starts from and its receive slots are what the body's steps take. -/
theorem start_open (c : Dev nD) : iprop(start m c ∗ bigSep Finset.univ fun t : Slot => anyBlk vM (slotT t) c)
    ⊢ iprop(∃ K, ctx m K ∗ bar₀ c ∗ (kit c true ∗ kit c false) ∗ (bigSep Finset.univ fun t : Slot => pos c t.1 t.2.1 t.2.2 0)
      ∗ (bigSep Finset.univ fun x : Xfer => tok c x.1 x.2.1 x.2.2) ∗ ewIdle m c 0 ∗ ewIdle m c 1) := by
  unfold start G' linear payToks ewSems ctx
  iintro ⟨⟨⟨%K, #HI, #HR, Hat, ⟨Htb, Hts, Htr⟩, He0, He1⟩, #HL, Hcb, Hcr, Hw⟩, Hv⟩
  ihave Hat := (Entails.of_eq (cells_eq c fun g => (atPos ER g 0 ∅ 0 : sProp 𝕄))) $$ Hat
  icases Hat with ⟨Hab, Has, Har⟩
  ihave Hrs := (reached_sends c) $$ HR
  ihave Hrr := (reached_recvs c) $$ HR
  ihave Hpay := (give_all c) $$ [Hv Hrr]
  · isplitl [Hv] <;> iassumption
  ihave #Hr1 := (reached_at (nbr c true, 0)) $$ HR
  ihave #Hr2 := (reached_at (nbr c false, 0)) $$ HR
  ihave Htb := (Entails.of_eq (bigSep_ff fun b => (dutyTok ER (barCell (nbr c b)) 0 b : sProp 𝕄))) $$ Htb
  icases Htb with ⟨Ht1, Ht2⟩
  icases Hpay with ⟨Hp1, Hp2⟩
  ihave Hw := (Entails.of_eq (show ((((c : Thread nD τ).loc main_arg3) ↦{fullShare} m ((c : Thread nD τ).loc main_arg3)) : sProp 𝕄)
    = (wLoc c ↦{fullShare} m (wLoc c)) from rfl)) $$ Hw
  ihave Hw := (pointsTo_share (PosShare.mem_left_op_right fullShare)).1 $$ Hw
  icases Hw with ⟨Hw0, Hw1⟩
  iexists K
  isplitr
  · isplitr; · iexact HL
    iexact HI
  isplitl [Hab Hcb]
  · unfold bar₀; isplitl [Hab]; · iexact Hab
    iexact Hcb
  isplitl [Ht1 Ht2 Hp1 Hp2]
  · unfold kit
    isplitl [Ht1 Hp1]
    · isplitl [Ht1]; · iexact Ht1
      isplitl [Hp1]; · iexact Hp1
      iexact Hr1
    · isplitl [Ht2]; · iexact Ht2
      isplitl [Hp2]; · iexact Hp2
      iexact Hr2
  isplitl [Has Hrs Har]
  · unfold pos
    rw [bigSep_sep', bigSep_sep']
    isplitl [Has]; · iexact Has
    isplitl [Hrs] <;> iassumption
  isplitl [Hts Htr Hcr]
  · unfold tok
    rw [bigSep_sep', bigSep_sep']
    isplitl [Hts]; · iexact Hts
    isplitl [Htr] <;> iassumption
  unfold ewIdle
  isplitl [He0 Hw0]
  · isplitl [He0]; · iexact He0
    iexact Hw0
  · isplitl [He1]; · iexact He1
    iexact Hw1

/-- The kits in the order of the signals. -/
theorem kits (c : Dev nD) : (iprop(kit c true ∗ kit c false) : sProp 𝕄) ⊢ iprop(kit c (b₁ c) ∗ kit c (!b₁ c)) := by
  cases b₁ c
  · refine (show iprop(kit c true ∗ kit c false) ⊢ iprop(kit c false ∗ kit c true) from ?_)
    iintro ⟨H1, H2⟩; isplitl [H2] <;> iassumption
  · exact .rfl

/-! ## After it -/

/-- All the device's cells close: their semaphores are at rest again. -/
theorem close_cells (K : Dev nD × Fin 17 → ℕ) (c : Dev nD) : iprop(ctx m K ∗ bar₁ c ∗ bigSep Finset.univ fun t : Slot => pos c t.1 t.2.1 t.2.2 2)
    ⊢ |={Set.univ}=> iprop(unscopedSems0 c ∗ (bigSep Finset.univ fun t : Slot => semVal (sendCell c t.1 t.2.1 t.2.2) 0)
      ∗ bigSep Finset.univ fun t : Slot => semVal (recvCell c t.1 t.2.1 t.2.2) 0) := by
  have h : iprop(invs m K ∗ bigSep Finset.univ fun t : Slot => pos c t.1 t.2.1 t.2.2 2)
      ⊢ |={Set.univ}=> (bigSep Finset.univ fun t : Slot => iprop(semVal (sendCell c t.1 t.2.1 t.2.2) 0 ∗ semVal (recvCell c t.1 t.2.1 t.2.2) 0) : sProp 𝕄) := by
    refine (bigSep_beside fun t _ => ?_).trans (bigSep_fupd _ _)
    unfold pos
    iintro ⟨#HI, Hs, -, Hr⟩
    imod (Rounds.cell_close ER (exRd m) (Set.mem_univ (K (c, sIx t.1 t.2.1 t.2.2))) (fun h => h) (R := 2) (duties_later m (sendCell c t.1 t.2.1 t.2.2))) $$ [Hs] with Hs
    · isplitr; · iapply (inv_send m K c t.1 t.2.1 t.2.2); iexact HI
      iexact Hs
    imod (Rounds.cell_close ER (exRd m) (Set.mem_univ (K (c, rIx t.1 t.2.1 t.2.2))) (fun h => h) (R := 2) (duties_later m (recvCell c t.1 t.2.1 t.2.2))) $$ [Hr] with Hr
    · isplitr; · iapply (inv_recv m K c t.1 t.2.1 t.2.2); iexact HI
      iexact Hr
    imodintro
    isplitl [Hs] <;> iassumption
  unfold ctx bar₁
  rw [unscopedSems0_eq, ← bigSep_sep']
  iintro ⟨⟨-, #HI⟩, Hb, Hp⟩
  imod (Rounds.cell_close ER (exRd m) (Set.mem_univ (K (c, 0))) (fun h => h) (R := 1) (duties_bar_later m c)) $$ [Hb] with Hb
  · isplitr; · iapply (inv_bar m K c); iexact HI
    iexact Hb
  imod h $$ [Hp] with Hp
  · isplitr; · iexact HI
    iexact Hp
  imodintro
  isplitl [Hb] <;> iassumption

/-- The weights whole again. -/
theorem idle_join (c : Dev nD) : iprop(ewIdle m c 0 ∗ ewIdle m c 1)
    ⊢ iprop(ewSems c ∗ (((c : Thread nD τ).loc main_arg3) ↦{fullShare} m ((c : Thread nD τ).loc main_arg3))) := by
  unfold ewIdle ewSems
  iintro ⟨⟨He0, Hw0⟩, He1, Hw1⟩
  isplitl [He0 He1]
  · isplitl [He0] <;> iassumption
  refine BIBase.Entails.trans ?_ (Entails.of_eq (show (wLoc c ↦{fullShare} m (wLoc c) : sProp 𝕄)
    = (((c : Thread nD τ).loc main_arg3) ↦{fullShare} m ((c : Thread nD τ).loc main_arg3)) from rfl))
  exact (pointsTo_share (PosShare.mem_left_op_right fullShare)).2

/-- What a slot received last leaves it held. -/
theorem got_any (c : Dev nD) (t : Slot) (k : Fin 4) (hk : qOf k = t.2.2) : got m c t.1 t.2.1 k ⊢ anyBlk vM (slotT t) c := by
  obtain ⟨s, h, q⟩ := t
  subst hk
  unfold got
  exact blk_any vM _ c _

/-! ## The obligation -/

def bodyPre (c : Dev nD) : sProp 𝕄 :=
  iprop(Φ₀ m c ∗ (dats m 0 c).owesAt (0 : Fin 2) t0_0.castSucc
    ∗ (∃ d, owns (c : Thread nD τ) xM fullShare ((dats m 0 c).before 0 t0_0 d)) ∗ (∃ d, owns (c : Thread nD τ) rM fullShare ((dats m 0 c).before 1 t0_0 d))
    ∗ (∃ d, owns (c : Thread nD τ) iM fullShare ((dats m 0 c).before 2 t0_0 d)) ∗ ∃ d, owns (c : Thread nD τ) oM fullShare ((dats m 0 c).before 3 t0_0 d))
def bodyPost (c : Dev nD) : sProp 𝕄 :=
  iprop(Φ₁ m c ∗ (dats m 0 c).owesAt (0 : Fin 2) t0_0.succ
    ∗ owns (c : Thread nD τ) xM fullShare (xstg m c) ∗ owns (c : Thread nD τ) rM fullShare (rstg m c)
    ∗ owns (c : Thread nD τ) iM fullShare (istg m c) ∗ owns (c : Thread nD τ) oM fullShare (outAt m c))

/-- The body's steps from what the pipeline hands it to what it hands back. -/
theorem body_wp (c : Dev nD) {h0 : (xM : Memref sig .tc .vmem S2048x1024 .f32).IsWhole} {h1 : (rM : Memref sig .tc .vmem S1024x32 .f32).IsWhole}
    {h2 : (iM : Memref sig .tc .vmem S2048x2 .i32).IsWhole} {h3 : (wM : Memref sig .tc .hbm S8x1024x1024 .f32).IsWhole}
    {h4 : (oM : Memref sig .tc .vmem S2048x1024 .f32).IsWhole} {h5 : (eM : Memref sig .tc .vmem S2x1024x256 .f32).IsWhole}
    {h7 : (sM : Memref sig .tc .vmem S2x2x2x1024x256 .bf16).IsWhole} {h8 : (vM : Memref sig .tc .vmem S2x2x2x1024x256 .bf16).IsWhole} :
    bodyPre m c ⊢ wpD c (cc0_body xM h0 rM h1 iM h2 wM h3 oM h4 eM h5 cc0_scratch1 sM h7 vM h8 cc0_scratch4 cc0_scratch5) fun _ => bodyPost m c := by
  unfold bodyPre Φ₀
  iintro ⟨⟨Hst, Hscr⟩, Hown, ⟨%dx, Hx⟩, ⟨%dr, Hr⟩, ⟨%di, Hi⟩, ⟨%dO, Hout⟩⟩
  rw [before_x, before_r, before_i]
  ihave Hx := (x_blk c _) $$ Hx
  ihave Hr := (r_blk c _) $$ Hr
  ihave Hi := (i_blk c _) $$ Hi
  ihave Hout := (o_cut c _) $$ Hout
  icases Hout with ⟨Hc0, Hc1, Hc2, Hc3⟩
  ihave Hscr := (scratch_cut c) $$ Hscr
  icases Hscr with ⟨⟨Hm0, Hm1⟩, Hs, Hv⟩
  ihave Hst := (start_open m c) $$ [Hst Hv]
  · isplitl [Hst] <;> iassumption
  icases Hst with ⟨%K, #HC, Hbar, Hkits, Hpos, Htok, He0, He1⟩
  ihave Hkits := (kits c) $$ Hkits
  icases Hkits with ⟨Hk1, Hk2⟩
  ihave Ho := (show (dats m 0 c).owesAt (0 : Fin 2) t0_0.castSucc ⊢ ow₀ c from by
    unfold Dat.owesAt Pipeline.owesWithin ow₀
    iintro ⟨%W, -, H⟩
    iexists W
    iexact H) $$ Hown
  ihave Hs := (Entails.of_eq (bigSep_slot fun t => anyBlk (F := F) sM (slotT t) c)) $$ Hs
  icases Hs with ⟨Hs000, Hs001, Hs010, Hs011, Hs100, Hs101, Hs110, Hs111⟩
  ihave Hpos := (Entails.of_eq (bigSep_slot fun t => pos (F := F) c t.1 t.2.1 t.2.2 0)) $$ Hpos
  icases Hpos with ⟨Hp000, Hp001, Hp010, Hp011, Hp100, Hp101, Hp110, Hp111⟩
  ihave Htok := (Entails.of_eq (bigSep_xfer fun x => tok (F := F) c x.1 x.2.1 x.2.2)) $$ Htok
  icases Htok with ⟨Ht000, Ht001, Ht002, Ht003, Ht010, Ht011, Ht012, Ht013, Ht100, Ht101, Ht102, Ht103, Ht110, Ht111, Ht112, Ht113⟩
  iapply (wp_fupd _ _)
  iapply (walk m K c) $$ HC Hbar Hk1 Hk2 Ho Hx Hr Hi He0 Hm0 He1 Hm1 Hc0 Hc1 Hc2 Hc3 Hs000 Hp000 Hs001 Hp001 Ht000 Ht001 Ht002 Ht003 Hs010 Hp010 Hs011 Hp011 Ht010 Ht011 Ht012 Ht013 Hs100 Hp100 Hs101 Hp101 Ht100 Ht101 Ht102 Ht103 Hs110 Hp110 Hs111 Hp111 Ht110 Ht111 Ht112 Ht113
  iintro Hbar Ho Hx Hr Hi He0 He1 Ho00 Ho10 Ho01 Ho11 Ho02 Ho12 Hm0 Hm1 Ho03 Ho13 Hs000 Hv000 Hp000 Hs010 Hv010 Hp010 Hs100 Hv100 Hp100 Hs110 Hv110 Hp110 Hs001 Hv001 Hp001 Hs011 Hv011 Hp011 Hs101 Hv101 Hp101 Hs111 Hv111 Hp111
  ihave Hz := (close_cells m K c) $$ [Hbar Hp000 Hp001 Hp010 Hp011 Hp100 Hp101 Hp110 Hp111]
  · isplitr; · iexact HC
    isplitl [Hbar]; · iexact Hbar
    rw [bigSep_slot]
    isplitl [Hp000]; · iexact Hp000
    isplitl [Hp001]; · iexact Hp001
    isplitl [Hp010]; · iexact Hp010
    isplitl [Hp011]; · iexact Hp011
    isplitl [Hp100]; · iexact Hp100
    isplitl [Hp101]; · iexact Hp101
    isplitl [Hp110]; · iexact Hp110
    iexact Hp111
  imod Hz with ⟨Hu, Hzs, Hzr⟩
  ihave Hw := (idle_join m c) $$ [He0 He1]
  · isplitl [He0] <;> iassumption
  icases Hw with ⟨Hew, Hw⟩
  ihave Hrest := (scratch_join c) $$ [Hm0 Hm1 Hs000 Hs001 Hs010 Hs011 Hs100 Hs101 Hs110 Hs111 Hv000 Hv001 Hv010 Hv011 Hv100 Hv101 Hv110 Hv111]
  · isplitl [Hm0 Hm1]; · isplitl [Hm0] <;> iassumption
    rw [bigSep_slot, bigSep_slot]
    isplitl [Hs000 Hs001 Hs010 Hs011 Hs100 Hs101 Hs110 Hs111]
    · isplitl [Hs000]; · iexact Hs000
      isplitl [Hs001]; · iexact Hs001
      isplitl [Hs010]; · iexact Hs010
      isplitl [Hs011]; · iexact Hs011
      isplitl [Hs100]; · iexact Hs100
      isplitl [Hs101]; · iexact Hs101
      isplitl [Hs110]; · iexact Hs110
      iexact Hs111
    isplitl [Hv000]
    · iapply (got_any m c (0, 0, 0) 2 rfl); iexact Hv000
    isplitl [Hv001]
    · iapply (got_any m c (0, 0, 1) 3 rfl); iexact Hv001
    isplitl [Hv010]
    · iapply (got_any m c (0, 1, 0) 2 rfl); iexact Hv010
    isplitl [Hv011]
    · iapply (got_any m c (0, 1, 1) 3 rfl); iexact Hv011
    isplitl [Hv100]
    · iapply (got_any m c (1, 0, 0) 2 rfl); iexact Hv100
    isplitl [Hv101]
    · iapply (got_any m c (1, 0, 1) 3 rfl); iexact Hv101
    isplitl [Hv110]
    · iapply (got_any m c (1, 1, 0) 2 rfl); iexact Hv110
    iapply (got_any m c (1, 1, 1) 3 rfl); iexact Hv111
  ihave Hout := (o_join m c) $$ [Ho00 Ho01 Ho02 Ho03 Ho10 Ho11 Ho12 Ho13]
  · isplitl [Ho00]; · iexact Ho00
    isplitl [Ho01]; · iexact Ho01
    isplitl [Ho02]; · iexact Ho02
    isplitl [Ho03]; · iexact Ho03
    isplitl [Ho10]; · iexact Ho10
    isplitl [Ho11]; · iexact Ho11
    isplitl [Ho12]; · iexact Ho12
    iexact Ho13
  ihave Hx := (x_owns c _) $$ Hx
  ihave Hr := (r_owns c _) $$ Hr
  ihave Hi := (i_owns c _) $$ Hi
  imodintro
  unfold bodyPost Φ₁ kept
  rw [ownSems0_eq]
  isplitl [Hu Hw Hew Hzs Hzr Hrest]
  · isplitl [Hu Hw]; · isplitl [Hu] <;> iassumption
    isplitl [Hew Hzs Hzr]
    · isplitl [Hew]; · iexact Hew
      isplitl [Hzs] <;> iassumption
    iexact Hrest
  isplitl [Ho]
  · iapply (show ow c (rem 16) ⊢ (dats m 0 c).owesAt (0 : Fin 2) t0_0.succ from by
      unfold Dat.owesAt Pipeline.owesWithin ow
      iintro ⟨%W, H⟩
      iexists W
      isplitr; · ipureintro; exact fun _ _ => Or.inl trivial
      iexact H)
    iexact Ho
  isplitl [Hx]; · iexact Hx
  isplitl [Hr]; · iexact Hr
  isplitl [Hi]; · iexact Hi
  iexact Hout

set_option maxRecDepth 100000 in
/-- The library's body obligation. -/
theorem body_obligation (c : Dev nD) : BodyObligation (dats (F := F) m 0 c) (defs₀ (F := F)) 𝒱₀ (0 : Fin 2) Set.univ := fun t => by
  rw [fin_N0 t, bigSep_W0, bigSep_W0]
  show bodyPre m c ⊢ wpD c (bodyAt0 t0_0) fun _ => bodyPost m c
  exact body_wp m c

end Cert.KernelIdeal.Moe
-- ==== Proof.KernelIdeal.Run.lean ====
/-
# `Run`: the whole program runs, and what it leaves

From any memory every device's program ends with its result the half chunks after both exchanges, its arguments as they
were and every semaphore at rest.
-/
module

public import proofs.«01_k».proof.Proof.KernelIdeal.Body
public import Idealize.ShloMosaic.Lib.Pipeline.CollectiveSegs

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (Fin 2) (Elt F) ℕ UU ℕ

variable (m : (ℓ : Loc nD τ sig) → Buf (Elt F) ℓ)

/-! ## The side conditions of the launch -/

/-- Every window is held in full. -/
theorem share_eq (c : Dev nD) (w : Fin cfg0.W) : (dats (F := F) m 0 c).share w = fullShare := by unfold Dat.share; split <;> rfl

/-- What the launch gives a device is what its body starts from. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hw, Hlev, Hcr, -, HG⟩
  ihave Hw := (show Pipeline.unscopedRestP Pipeline.Prefetch.none cfg0.spec c (fun b => m ((c : Thread nD τ).loc b))
    ⊢ (((c : Thread nD τ).loc main_arg3) ↦{fullShare} m ((c : Thread nD τ).loc main_arg3) : sProp 𝕄) from by
      rw [Pipeline.unscopedRestP_none]
      exact Entails.of_eq (unscopedRest0_eq c fun b => m ((c : Thread nD τ).loc b))) $$ Hw
  ihave Hc := (creds (F := F) c) $$ Hcr
  icases Hc with ⟨H1, HN⟩
  imodintro
  unfold start
  isplitl
  · isplitl [HG]; · iexact HG
    isplitl [Hlev]; · iexact Hlev
    isplitl [H1]; · iexact H1
    isplitl [HN]; · iexact HN
    iexact Hw
  · iempintro

/-- What a device starts from, with its scratch memory, is the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

/-- The state after the body gives back the semaphores and the scratch memory. -/
theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl]
  exact .rfl

/-- What a device owes at launch it owes a partner's receive cell or a barrier cell. -/
theorem O₀_pos {c : Dev nD} {g : GSem nD τ sig} {u : Fin 2} (h : 0 < O₀ c g u) :
    (∃ x : Xfer, g = recvCell (partner c x.1 x.2.1) x.1 x.2.1 (qOf x.2.2) ∧ u = iOf x.2.2) ∨ ∃ d : Dev nD, g = barCell d ∧ u = 0 := by
  unfold O₀ O₁ at h
  rw [Pi.add_apply, Finsupp.add_apply, Pi.add_apply, Finsupp.add_apply, tallyAt_apply, tallyAt_apply] at h
  by_cases h1 : g = barCell (nbr c (b₁ c)) ∧ u = 0
  · exact .inr ⟨_, h1⟩
  by_cases h2 : g = barCell (nbr c (!b₁ c)) ∧ u = 0
  · exact .inr ⟨_, h2⟩
  rw [if_neg h1, if_neg h2, Nat.add_zero] at h
  obtain ⟨x, -, hx⟩ := owedX_pos h
  exact .inl ⟨x, hx⟩

/-- A barrier cell's level is one. -/
theorem lv_bar (d : Dev nD) : lv (barCell d) 0 = 1 := rfl

/-- A device may wait for a staging copy whether it owes everything or nothing. -/
theorem mayWait_stage (c : Dev nD) (q : DmaSem sig) (hq : q.val < 4) (O : CellTallies nD τ sig (Fin 2)) (hO : O = O₀ c ∨ O = 0) :
    (levAts L lv : sProp 𝕄) ⊢ MayWait (c : Thread nD τ) (.dma q) 0 O := by
  rcases hO with rfl | rfl
  · refine MayOwe.of_cut (L := L) (lev := lv) 0 (fun p hp => by rw [Finset.mem_singleton.mp hp, L_tc]; exact Finset.mem_univ _)
      (fun g u hg => by rcases O₀_pos hg with ⟨x, rfl, rfl⟩ | ⟨d, rfl, rfl⟩ <;> rw [L_tc] <;> exact Finset.mem_univ _)
      (fun p hp => by
        rw [Finset.mem_singleton.mp hp]
        show (if 14 ≤ q.val then _ else 0) ≤ 0
        rw [if_neg (by omega)])
      (fun g u hg => by
        rcases O₀_pos hg with ⟨x, rfl, rfl⟩ | ⟨d, rfl, rfl⟩
        · rw [lv_recv]; omega
        · rw [lv_bar]; omega)
  · rw [MayWait_zero]; iintro -; iempintro

/-- Every wait of the staging is allowed. -/
theorem waits (c : Dev nD) : (levAts L lv : sProp 𝕄) ⊢ Pipeline.cellsWaits cfgs (dats m) (0 : Fin 2) 0 c :=
  Pipeline.cellsWaits_intro cfgs (dats m) (0 : Fin 2) 0 c fun w s t =>
    mayWait_stage c _ (by fin_cases w <;> fin_cases s <;> decide) _ (by
      rcases t with ⟨_ | _, ht⟩
      · exact Or.inl rfl
      · exact Or.inr rfl)

/-! ## The run -/

/-- What the run leaves of a device's arrays. -/
def QC (r : PUnit × MemSt nD τ sig (Elt F)) : Prop :=
  ∀ c : Dev nD, (∀ w : Fin cfg0.W, r.2.mem ((cfg0.win w).arr.view.loc (c : Thread nD τ)) = (dats m 0 c).arrAt w cfg0.N)
    ∧ r.2.mem ((c : Thread nD τ).loc main_arg3) = m ((c : Thread nD τ).loc main_arg3)

set_option maxRecDepth 100000 in
/-- Every execution of the four devices' programs ends; the arrays are as `QC` says and every semaphore is at rest. -/
theorem run_arrays (ρ : Dev nD → PrngReg) : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) (0 : Fin 2) cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_ex m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg3) = m ((c : Thread nD τ).loc main_arg3))
    (hY := fun c s' => by
      unfold kept
      iintro ⟨⟨Hu, Hw⟩, -, HSI⟩
      ihave H := (persistent_entails_right (SI_pointsTo_agree (st := s') (ℓ := (c : Thread nD τ).loc main_arg3) (I := Finset.univ) (q := fullShare)
        (f := m ((c : Thread nD τ).loc main_arg3)))) $$ [HSI Hw]
      · isplitl [HSI] <;> iassumption
      icases H with ⟨%hm, HSI, -⟩
      imod (Pipeline.unscopedSems0_read (X := unscopedSems0 c) (c := c) fupd_intro s') $$ [Hu HSI] with ⟨%hs, HSI⟩
      · isplitl [Hu] <;> iassumption
      imodintro
      isplitr
      · ipureintro; exact ⟨hs, funext fun i => hm i (Finset.mem_univ i)⟩
      iexact HSI)
    (hQ := fun _ h hs => ⟨fun c => ⟨fun w => (h c).1 w, (h c).2.2.2⟩, sem_eq_zero hs fun c => (h c).2.2.1⟩)

/-- The result's one block is the whole result. -/
theorem blk_emb (t : Fin cfg0.N) (j : S2048x1024.Idx) : ((cfg0.win 3).blk t).view.emb j = j := funext fun a => Fin.ext (by
  rw [fin_N0 t]
  fin_cases a
  · show 0 + 1 * (j 0).val = (j 0).val; omega
  · show 0 + 1 * (j 1).val = (j 1).val; omega)

/-- The result array after the write-back. -/
theorem result (c : Dev nD) : (dats m 0 c).arrAt 3 cfg0.N = outAt m c := by
  rw [show cfg0.N = (t0_0 : Fin cfg0.N).val + 1 from cfg0_N, (dats m 0 c).arrAt_succ 3 t0_0]
  rw [if_pos (flush0_3 t0_0)]
  funext j
  have h := View.write_emb_of_mem (v := ((cfg0.win 3).blk t0_0).view) ((dats m 0 c).arrAt 3 t0_0.val) ((dats m 0 c).flushed 3 t0_0) (Finset.mem_univ j)
  rw [blk_emb] at h
  exact h

/-- Every execution ends with each device's result the kernel's value, its arguments as they were and every semaphore at rest. -/
theorem run_main (ρ : Dev nD → PrngReg) : θ_run defs (onTc (τ := τ) (main (F := F))) ⟨m, fun _ => 0, ρ⟩ (fun r =>
    (∀ c : Dev nD, r.2.mem ((c : Thread nD τ).loc main_v1) = outAt m c ∧ r.2.mem ((c : Thread nD τ).loc main_arg0) = m ((c : Thread nD τ).loc main_arg0)
      ∧ r.2.mem ((c : Thread nD τ).loc main_arg1) = m ((c : Thread nD τ).loc main_arg1) ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨((h.1 c).1 3).trans (result m c), ((h.1 c).1 0).trans ((dats m 0 c).arrAt_in 0 rfl _),
    ((h.1 c).1 1).trans ((dats m 0 c).arrAt_in 1 rfl _), ((h.1 c).1 2).trans ((dats m 0 c).arrAt_in 2 rfl _), (h.1 c).2⟩, h.2⟩) (run_arrays m ρ)

/-- Every execution ends with the arguments as they were and every semaphore at rest. -/
theorem run_frame (ρ : Dev nD → PrngReg) : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1) ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => (h.1 c).2, h.2⟩) (run_main m ρ)

end Cert.KernelIdeal.Moe
-- ==== Proof.Same.lean ====
/-
# `Same`: the two prints of the kernel are one program

The kernel printed for the machine's floats and the kernel printed for reading at the extended reals are the same program of
the float instance, so what is proved of the one, for any floats, holds of the other.
-/
module

public import proofs.«01_k».proof.Proof.KernelIdeal.Run
public import proofs.«01_k».proof.Proof.Gen.Kernel
public import proofs.«01_k».proof.Defs

@[expose] public section

noncomputable section

namespace Cert.Moe

open Idealize.ShloMosaic Idealize.ShloMosaic.TcCoe Idealize.SL.Sem

variable {F : FTy → Type} [FloatOps F]

set_option maxRecDepth 100000

/-- The bodies are one function, at every label. -/
theorem defs₀_eq : @Cert.Kernel.defs₀ F _ _ = @Cert.KernelIdeal.defs₀ F _ _ := by
  funext κ l a
  cases κ
  · obtain ⟨l, hl⟩ := l
    cases l with
    | zero => with_unfolding_all rfl
    | succ n => exact absurd hl (Nat.not_lt.2 (Nat.le_add_left _ _))
  all_goals with_unfolding_all rfl

/-- So are the tables of the bodies with their pipelines. -/
theorem defs_eq : @Cert.Kernel.defs F _ _ = @Cert.KernelIdeal.defs F _ _ := congrArg (Pipeline.defs (Cert.Kernel.pcfgs (F := F))) defs₀_eq

/-- The kernel runs, leaves its arguments alone and every semaphore at rest. -/
theorem kernel_runs : Cert.quiescent_Kernel := fun m g _ => by
  rw [defs_eq]
  with_unfolding_all exact Cert.KernelIdeal.Moe.run_frame (F := Bits) m g

/-- So does its other print. -/
theorem ideal_runs : Cert.quiescent_KernelIdeal := fun m g _ => Cert.KernelIdeal.Moe.run_frame (F := Ideal) m g

end Cert.Moe
-- ==== Proof.KernelIdeal.Experts.lean ====
/-
# `Experts`: a chunk is a sum over the device's experts

Whatever the cuts between the printed segments, a chunk of columns on a device is one step per expert, eight of them in order
(`chunk_eq`).  At the extended reals a step is read at a row and a column (`stepv_apply`): it adds the expert's product weighted
by the row's gate, so the chunk is the sum of these over the experts (`chunk_apply`).
-/
module

public import proofs.«01_k».proof.Proof.KernelIdeal.Vals
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.KernelVsHost
public import Idealize.ShloMosaic.Lib.IdealHost

@[expose] public section

noncomputable section

namespace Cert.KernelIdeal.Moe

open Cert.KernelIdeal Cert.KernelIdeal.Gen

open Idealize.ShloMosaic Idealize.ShloMosaic.TcCoe Idealize.ShloMosaic.ValueIdx
open Idealize.SL.Sem

variable {F : FTy → Type} [FloatOps F]

/-- The gate of the expert numbered `w`: a row's weight for it, zero unless the row is routed there. -/
def gatev (w : BitVec 32) (ix : IVec S2048x2 32) (w0 w1 : FVec F S2048x1 .f32) : FVec F S2048x1 .f32 :=
  addf
    (select (cmpi .eq (extractStridedSlice S2048x1 ![0, 0] ix slices_S2048x2_o0_0_S2048x1) (broadcast S2048x1 w)) w0
      (broadcast S2048x1 (Scalar.ofBits .f32 0x00000000#32)))
    (select (cmpi .eq (extractStridedSlice S2048x1 ![0, 1] ix slices_S2048x2_o0_1_S2048x1) (broadcast S2048x1 w)) w1
      (broadcast S2048x1 (Scalar.ofBits .f32 0x00000000#32)))

/-- One expert's step: its product with the tokens, weighted by its gate, added to the sum so far. -/
def stepv (w : BitVec 32) (x : FVec F S2048x1024 .f32) (ix : IVec S2048x2 32) (w0 w1 : FVec F S2048x1 .f32)
    (acc : FVec F S2048x256 .f32) (W : Vec F S1x1024x256 .f32) : FVec F S2048x256 .f32 :=
  addf acc (mulf (broadcastTo S2048x256 (gatev w ix w0 w1) broadcasts_S2048x1_S2048x256)
    (matmul dot_S2048x1024_S1024x256_S2048x256_1_0_0_1_n_n none x (shapeCast S1024x256 W shapeCasts_S1x1024x256_S1024x256)
      (constant S2048x256 .f32 0x00000000#32)))

variable (m : (ℓ : Loc nD τ sig) → Buf (Elt F) ℓ)

/-- The sum of device `c`'s first `n` experts, in chunk `k`. -/
def sumv (c : Dev nD) (k : Fin 4) : (n : ℕ) → n ≤ 8 → FVec F S2048x256 .f32
  | 0, _ => broadcast S2048x256 (Scalar.ofBits .f32 0x00000000#32)
  | n + 1, h => stepv (Scalar.addi (Scalar.muli (val_v2 m c) 8#32) (BitVec.ofNat 32 n)) (val_v24 m c) (val_v38 m c) (val_v55 m c)
      (val_v56 m c) (sumv c k n (Nat.le_of_succ_le h)) (wblk m c ⟨n, h⟩ k)

/-- The chunk a device stores is the sum of its eight experts. -/
theorem chunk_eq (c : Dev nD) (k : Fin 4) : chunk m c k = sumv m c k 8 (Nat.le_refl 8) := by
  match k with
  | 0 => rfl
  | 1 => rfl
  | 2 => rfl
  | 3 => rfl

/-! ## At the extended reals -/

/-- A word equal to another selects the first value, and else the second. -/
theorem select_eq_word {α : Type} (a b : BitVec 32) (x y : α) :
    Scalar.select (IntOp.cmpi .eq a b) x y = if a = b then x else y := by
  by_cases h : a = b
  · subst h; simp [Scalar.select, IntOp.cmpi]
  · have hb : (a == b) = false := beq_eq_false_iff_ne.2 h
    simp [Scalar.select, IntOp.cmpi, h, hb]

/-- A column spread over a matrix reads the column at the row. -/
theorem broadcastTo_col_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) :=
  broadcastTo_apply _ _ _ _ (fun ax => by
    match ax with
    | ⟨0, _⟩ =>
      show i.val = if a = 1 then 0 else i.val
      split
      · have := i.isLt; omega
      · rfl
    | ⟨1, _⟩ => rfl)

/-- The gate read at a row. -/
theorem gatev_apply (w : BitVec 32) (ix : IVec S2048x2 32) (w0 w1 : FVec Ideal S2048x1 .f32) (n : Fin 2048) :
    gatev w ix w0 w1 (ix2 n (0 : Fin 1))
      = ((if ix (ix2 n (0 : Fin 2)) = w then w0 (ix2 n (0 : Fin 1)) else 0)
          + (if ix (ix2 n (1 : Fin 2)) = w then w1 (ix2 n (0 : Fin 1)) else 0) : EReal) := by
  have e0 : extractStridedSlice S2048x1 ![0, 0] ix slices_S2048x2_o0_0_S2048x1 (ix2 n (0 : Fin 1)) = ix (ix2 n (0 : Fin 2)) :=
    slice2_axis1_apply 0 ix _ n 0 0 rfl
  have e1 : extractStridedSlice S2048x1 ![0, 1] ix slices_S2048x2_o0_1_S2048x1 (ix2 n (0 : Fin 1)) = ix (ix2 n (1 : Fin 2)) :=
    slice2_axis1_apply 1 ix _ n 0 1 rfl
  have z : (Scalar.ofBits (F := Ideal) .f32 0x00000000#32 : EReal) = 0 := Ideal.ofBits_zero_f32
  show (Scalar.select (IntOp.cmpi .eq _ w) _ _ + Scalar.select (IntOp.cmpi .eq _ w) _ _ : EReal) = _
  rw [e0, e1, select_eq_word, select_eq_word]
  simp only [broadcast_apply, z]

/-- A step read at a row and a column. -/
theorem stepv_apply (w : BitVec 32) (x : FVec Ideal S2048x1024 .f32) (ix : IVec S2048x2 32) (w0 w1 : FVec Ideal S2048x1 .f32)
    (acc : FVec Ideal S2048x256 .f32) (W : Vec Ideal S1x1024x256 .f32) (n : Fin 2048) (j : Fin 256) :
    stepv w x ix w0 w1 acc W (ix2 n j)
      = (acc (ix2 n j) + gatev w ix w0 w1 (ix2 n (0 : Fin 1)) * ∑ k : Fin 1024, x (ix2 n k) * W (ix3 (0 : Fin 1) k j) : EReal) := by
  have hb : broadcastTo S2048x256 (gatev w ix w0 w1) broadcasts_S2048x1_S2048x256 (ix2 n j) = gatev w ix w0 w1 (ix2 n (0 : Fin 1)) :=
    broadcastTo_col_apply _ _ n j
  have hm : matmul dot_S2048x1024_S1024x256_S2048x256_1_0_0_1_n_n none x (shapeCast S1024x256 W shapeCasts_S1x1024x256_S1024x256)
      (constant S2048x256 .f32 0x00000000#32) (ix2 n j)
        = (0 + ∑ k : Fin 1024, x (ix2 n k) * shapeCast S1024x256 W shapeCasts_S1x1024x256_S1024x256 (ix2 k j) : EReal) :=
    (Ideal.matmul_plain_apply none x (shapeCast S1024x256 W shapeCasts_S1x1024x256_S1024x256) _ n j).trans (by
      rw [constant_apply, Ideal.ofBits_zero_f32])
  show (acc (ix2 n j) + broadcastTo S2048x256 (gatev w ix w0 w1) broadcasts_S2048x1_S2048x256 (ix2 n j) * _ : EReal) = _
  rw [hb]
  refine congrArg (fun t : EReal => acc (ix2 n j) + gatev w ix w0 w1 (ix2 n (0 : Fin 1)) * t) ?_
  refine hm.trans ?_
  rw [zero_add]
  exact Finset.sum_congr rfl fun k _ => congrArg (x (ix2 n k) * ·) (shapeCast_1ab_ab_apply W _ k j)

variable (μ : (ℓ : Loc nD τ sig) → Buf (Elt Ideal) ℓ)

/-- The word of an expert's number over the whole mesh. -/
theorem expert_word (c : Dev nD) (e : Fin 8) :
    Scalar.addi (Scalar.muli (val_v2 μ c) 8#32) (BitVec.ofNat 32 e.val) = BitVec.ofNat 32 (8 * c.val + e.val) := by
  have h : ∀ (c : Fin 4) (e : Fin 8), Scalar.addi (Scalar.muli
      (Scalar.remsi (Scalar.divsi (BitVec.ofNat 32 c.val) 1#32) 4#32) 8#32) (BitVec.ofNat 32 e.val) = BitVec.ofNat 32 (8 * c.val + e.val) := by
    decide
  exact h c e

/-- What expert `e` of device `c` contributes at row `n` and column `j` of chunk `k`. -/
def partv (c : Dev nD) (k : Fin 4) (n : Fin 2048) (j : Fin 256) (e : Fin 8) : EReal :=
  gatev (BitVec.ofNat 32 (8 * c.val + e.val)) (istg μ c) (val_v55 μ c) (val_v56 μ c) (ix2 n (0 : Fin 1))
    * ∑ d : Fin 1024, xstg μ c (ix2 n d) * wblk μ c e k (ix3 (0 : Fin 1) d j)

/-- The sum of a device's first experts, read at a row and a column. -/
theorem sumv_apply (c : Dev nD) (k : Fin 4) (n : Fin 2048) (j : Fin 256) : ∀ (t : ℕ) (h : t ≤ 8),
    (sumv μ c k t h (ix2 n j) : EReal) = ∑ e : Fin t, partv μ c k n j (e.castLE h) := by
  intro t
  induction t with
  | zero => intro h; exact Ideal.ofBits_zero_f32
  | succ t ih =>
    intro h
    rw [Fin.sum_univ_castSucc]
    have hx : val_v24 μ c = xstg μ c := shapeCast_self _ _
    have hi : val_v38 μ c = istg μ c := shapeCast_self _ _
    have hw := expert_word μ c ⟨t, h⟩
    have hs := stepv_apply (Scalar.addi (Scalar.muli (val_v2 μ c) 8#32) (BitVec.ofNat 32 t)) (val_v24 μ c) (val_v38 μ c) (val_v55 μ c)
      (val_v56 μ c) (sumv μ c k t (Nat.le_of_succ_le h)) (wblk μ c ⟨t, h⟩ k) n j
    refine hs.trans ?_
    rw [ih (Nat.le_of_succ_le h)]
    rw [hw, hx, hi]
    rfl

/-- The chunk a device stores, read at a row and a column. -/
theorem chunk_apply (c : Dev nD) (k : Fin 4) (n : Fin 2048) (j : Fin 256) :
    (chunk μ c k (ix2 n j) : EReal) = ∑ e : Fin 8, partv μ c k n j e := by
  rw [chunk_eq]
  exact sumv_apply μ c k n j 8 (Nat.le_refl 8)

end Cert.KernelIdeal.Moe
-- ==== Proof.KernelIdeal.Total.lean ====
/-
# `Total`: what the kernel stores, at the extended reals

The two exchanges add up the four devices' chunks (`outv_total`), in whatever order each device does, so the result on every device
is the sum over the devices and their experts (`outAt_apply`).
-/
module

public import proofs.«01_k».proof.Proof.KernelIdeal.Experts
public import proofs.«01_k».proof.Proof.KernelIdeal.Body

@[expose] public section

noncomputable section

namespace Cert.KernelIdeal.Moe

open Cert.KernelIdeal Cert.KernelIdeal.Gen

open Idealize.ShloMosaic Idealize.ShloMosaic.TcCoe Idealize.ShloMosaic.ValueIdx
open Idealize.SL.Sem

variable (μ : (ℓ : Loc nD τ sig) → Buf (Elt Ideal) ℓ)

/-- An exchange adds what arrives: the narrowing on the way is the identity at the extended reals. -/
theorem finF_stF_apply (o r : Vec Ideal S1024x256 .f32) (i : S1024x256.Idx) :
    (finF o (stF r) i : EReal) = (o i + r i : EReal) := by
  have h0 : shapeCast S1024x256 o shapeCasts_S1024x256_S1024x256 = o := shapeCast_self _ _
  have h1 : shapeCast S1024x256 r shapeCasts_S1024x256_S1024x256 = r := shapeCast_self _ _
  have h2 : shapeCast S1024x256 (shapeCast S1x1x1x1024x256 (truncf .bf16 (shapeCast S1024x256 r shapeCasts_S1024x256_S1024x256)
      bitsLt_bf16_f32 : FVec Ideal S1024x256 .bf16) shapeCasts_S1024x256_S1x1x1x1024x256) shapeCasts_S1x1x1x1024x256_S1024x256
      = (truncf .bf16 (shapeCast S1024x256 r shapeCasts_S1024x256_S1024x256) bitsLt_bf16_f32 : FVec Ideal S1024x256 .bf16) :=
    shapeCast_shapeCast _ _ _
  show (shapeCast S1024x256 o shapeCasts_S1024x256_S1024x256 i + shapeCast S1024x256 (shapeCast S1x1x1x1024x256 (truncf .bf16
      (shapeCast S1024x256 r shapeCasts_S1024x256_S1024x256) bitsLt_bf16_f32 : FVec Ideal S1024x256 .bf16)
      shapeCasts_S1024x256_S1x1x1x1024x256) shapeCasts_S1x1x1x1024x256_S1024x256 i : EReal) = _
  rw [h2, h0]
  show (o i + shapeCast S1024x256 r shapeCasts_S1024x256_S1024x256 i : EReal) = _
  rw [h1]

/-- The exchange partners reach every device once: a sum along them is the sum over the devices. -/
theorem partners_sum (f : Fin 4 → EReal) : ∀ (c : Fin 4) (h : Fin 2),
    (f c + f (partner c 0 h)) + (f (partner c 1 h) + f (partner (partner c 1 h) 0 h)) = ∑ d : Fin 4, f d := by
  intro c h
  rw [Fin.sum_univ_four]
  match c, h with
  | 0, 0 => show (f 0 + f 1) + (f 3 + f 2) = _; ac_rfl
  | 1, 0 => show (f 1 + f 0) + (f 2 + f 3) = _; ac_rfl
  | 2, 0 => show (f 2 + f 3) + (f 1 + f 0) = _; ac_rfl
  | 3, 0 => show (f 3 + f 2) + (f 0 + f 1) = _; ac_rfl
  | 0, 1 => show (f 0 + f 3) + (f 1 + f 2) = _; ac_rfl
  | 1, 1 => show (f 1 + f 2) + (f 0 + f 3) = _; ac_rfl
  | 2, 1 => show (f 2 + f 1) + (f 3 + f 0) = _; ac_rfl
  | 3, 1 => show (f 3 + f 0) + (f 2 + f 1) = _; ac_rfl

/-- After both exchanges a half chunk is the sum of the four devices'. -/
theorem outv_total (c : Dev nD) (h : Fin 2) (k : Fin 4) (i : S1024x256.Idx) :
    (outv μ 2 c h k i : EReal) = ∑ d : Fin 4, (chunk μ d k ((rowR h).emb i) : EReal) := by
  refine (finF_stF_apply _ _ i).trans ?_
  have e : ∀ d, (outv μ 1 d h k i : EReal) = (outv μ 0 d h k i + outv μ 0 (partner d 0 h) h k i : EReal) := fun d => finF_stF_apply _ _ i
  rw [e, e]
  exact partners_sum (fun d => (chunk μ d k ((rowR h).emb i) : EReal)) c h

/-- The kernel's result at row `n` and column `j`: every expert's contribution, on whichever device. -/
theorem outAt_apply (c : Dev nD) (n : Fin 2048) (j : Fin 1024) :
    (outAt μ c (ix2 n j) : EReal)
      = ∑ d : Fin 4, ∑ e : Fin 8, partv μ d ⟨j.val / 256, by omega⟩ n ⟨j.val % 256, by omega⟩ e := by
  have hi : ∀ h : Fin 2, ∀ p, h.val = n.val / 1024 → (rowR h).emb (halfIx (n.val % 1024) (j.val % 256) p (Nat.mod_lt _ (by decide)))
      = ix2 n (⟨j.val % 256, by omega⟩ : Fin 256) := by
    intro h p hh
    funext a
    apply Fin.ext
    match a with
    | ⟨0, _⟩ => show 1024 * h.val + 1 * (n.val % 1024) = n.val; omega
    | ⟨1, _⟩ => show 0 + 1 * (j.val % 256) = j.val % 256; omega
  refine (outv_total μ c _ _ _).trans (Finset.sum_congr rfl fun d _ => ?_)
  refine Eq.trans (congrArg (chunk μ d _) (hi _ _ rfl)) ?_
  exact chunk_apply μ d _ n _

end Cert.KernelIdeal.Moe
-- ==== Proof.KernelIdeal.Gates.lean ====
/-
# `Gates`: the kernel's result for a routed row

A row whose two indices name experts picks its two probabilities out of the softmax by a sum over all experts (`pay6_apply`,
`pay7_apply`), and of the 32 experts' contributions only the two named ones are left (`gates_sum`); where both indices name one
expert the kernel weighs its product by twice the weight (`twice_mul`).  So the result is the two weighted products (`outAt_routed`).
-/
module

public import proofs.«01_k».proof.Proof.KernelIdeal.Total
public import Idealize.ShloMosaic.Lib.Layout

@[expose] public section

noncomputable section

namespace Cert.KernelIdeal.Moe

open Cert.KernelIdeal Cert.KernelIdeal.Gen

open Idealize.ShloMosaic Idealize.ShloMosaic.TcCoe Idealize.ShloMosaic.ValueIdx
open Idealize.SL.Sem

/-! ## Extended reals and sums over the experts -/

/-- Twice a weight times a product is the weighted product twice, whatever the weight. -/
theorem twice_mul (w d : EReal) : (w + w) * d = w * d + w * d := by
  have h : ∀ y : EReal, (1 + 1) * y = y + y := fun y => by
    rw [EReal.right_distrib_of_nonneg zero_le_one zero_le_one, one_mul]
  rw [← h w, mul_assoc, h]

/-- Words of two expert numbers are equal as the numbers are. -/
theorem word_inj (a b : Fin 32) : (BitVec.ofNat 32 a.val = BitVec.ofNat 32 b.val) ↔ a = b := by
  revert a b; decide

/-- A gate that may hold at either index, times a product: the two weighted products, each where its index holds. -/
theorem gate_mul (p q : Prop) [Decidable p] [Decidable q] (w0 w1 d : EReal) (h : p → q → w0 = w1) :
    ((if p then w0 else 0) + (if q then w1 else 0)) * d = (if p then w0 * d else 0) + (if q then w1 * d else 0) := by
  by_cases hp : p <;> by_cases hq : q
  · obtain rfl := h hp hq
    simp only [if_pos hp, if_pos hq]
    exact twice_mul w0 d
  · simp only [if_pos hp, if_neg hq, add_zero]
  · simp only [if_neg hp, if_pos hq, zero_add]
  · simp only [if_neg hp, if_neg hq, add_zero, zero_mul]

/-- The number of device `d`'s expert `e` over the whole mesh. -/
def expertOf (d : Fin 4) (e : Fin 8) : Fin 32 := ⟨8 * d.val + e.val, by omega⟩

/-- A sum over devices and their experts of what is zero but at one expert is the value there. -/
theorem sum_expertOf (a : Fin 32) (f : Fin 32 → EReal) :
    (∑ d : Fin 4, ∑ e : Fin 8, if a = expertOf d e then f (expertOf d e) else 0) = f a := by
  have ha : a = expertOf ⟨a.val / 8, by omega⟩ ⟨a.val % 8, by omega⟩ := Fin.ext (by show a.val = 8 * (a.val / 8) + a.val % 8; omega)
  rw [Finset.sum_eq_single (⟨a.val / 8, by omega⟩ : Fin 4), Finset.sum_eq_single (⟨a.val % 8, by omega⟩ : Fin 8), if_pos ha, ← ha]
  · intro e _ he
    refine if_neg fun h => he (Fin.ext ?_)
    have h' : a.val = 8 * (a.val / 8) + e.val := congrArg Fin.val h
    show e.val = a.val % 8
    omega
  · intro h; exact absurd (Finset.mem_univ _) h
  · intro d _ hd
    refine Finset.sum_eq_zero fun e _ => if_neg fun h => hd (Fin.ext ?_)
    have h' : a.val = 8 * d.val + e.val := congrArg Fin.val h
    show d.val = a.val / 8
    omega
  · intro h; exact absurd (Finset.mem_univ _) h

/-- Of all experts' contributions to a row routed to `a` and `b` the two named ones are left. -/
theorem gates_sum (a b : Fin 32) (w0 w1 : EReal) (h : a = b → w0 = w1) (D : Fin 32 → EReal) :
    (∑ d : Fin 4, ∑ e : Fin 8, ((if a = expertOf d e then w0 else 0) + (if b = expertOf d e then w1 else 0)) * D (expertOf d e))
      = w0 * D a + w1 * D b := by
  have hg : ∀ d e, ((if a = expertOf d e then w0 else 0) + (if b = expertOf d e then w1 else 0)) * D (expertOf d e)
      = (if a = expertOf d e then w0 * D (expertOf d e) else 0) + (if b = expertOf d e then w1 * D (expertOf d e) else 0) :=
    fun d e => gate_mul _ _ _ _ _ fun p q => h (p.trans q.symm)
  simp only [hg, Finset.sum_add_distrib]
  rw [sum_expertOf a fun x => w0 * D x, sum_expertOf b fun x => w1 * D x]

/-! ## The weights of a row -/

/-- A position of a row sum: the row, and the summed column. -/
theorem lift_row {a b : ℕ} (h : (⟨2, ![a, b]⟩ : Shape).Reduces [1] (⟨1, ![a]⟩ : Shape)) (i : Fin a) (k : Fin b) :
    h.lift (ix1 i) k = ix2 i k := by
  funext c
  apply Fin.ext
  match c with
  | ⟨0, _⟩ => rfl
  | ⟨1, _⟩ => rfl

/-- The probabilities of one row where the expert's number is a given word, summed: the probability of that expert. -/
theorem pick_apply (P : FVec Ideal S2048x32 .f32) (v : IVec S2048x1 32) (n : Fin 2048) (a : Fin 32)
    (ha : v (ix2 n (0 : Fin 1)) = BitVec.ofNat 32 a.val) :
    shapeCast S2048x1 (multiReduction .add [1] S2048 (select (cmpi .eq (iota .tc S2048x32 32 [1] iota_S2048x32_d1_w32)
        (broadcastTo S2048x32 v broadcasts_S2048x1_S2048x32)) P (broadcast S2048x32 (Scalar.ofBits (F := Ideal) .f32 0x00000000#32)))
      0x00000000#32 reduces_S2048x32_S2048 (.inl rfl) rfl) shapeCasts_S2048_S2048x1 (ix2 n (0 : Fin 1)) = P (ix2 n a) := by
  have z : (Scalar.ofBits (F := Ideal) .f32 0x00000000#32 : EReal) = 0 := Ideal.ofBits_zero_f32
  refine (shapeCast_a_a1_apply _ _ n 0).trans ?_
  refine (Ideal.multiReduction_add_single _ _ _ _ _ (ix1 n)).trans ?_
  refine (Finset.sum_congr rfl fun (k : Fin 32) _ => show _ = if k = a then P (ix2 n k) else (0 : EReal) from ?_).trans ?_
  · rw [lift_row, select_apply]
    show Scalar.select (IntOp.cmpi .eq (iota .tc S2048x32 32 [1] iota_S2048x32_d1_w32 (ix2 n k))
      (broadcastTo S2048x32 v broadcasts_S2048x1_S2048x32 (ix2 n k))) (P (ix2 n k)) _ = _
    have hi : iota .tc S2048x32 32 [1] iota_S2048x32_d1_w32 (ix2 n k) = BitVec.ofNat 32 k.val := iota_single_apply _ _ _ _ _ _
    have hb : broadcastTo S2048x32 v broadcasts_S2048x1_S2048x32 (ix2 n k) = v (ix2 n (0 : Fin 1)) := broadcastTo_col_apply _ _ n k
    rw [hi, hb, ha, select_eq_word, broadcast_apply, z]
    simp only [word_inj]
  · exact (Finset.sum_ite_eq' (Finset.univ : Finset (Fin 32)) a fun k => (P (ix2 n k) : EReal)).trans (if_pos (Finset.mem_univ a))

variable (x : FVec Ideal S2048x1024 .f32) (rw : FVec Ideal S1024x32 .f32) (ix : Vec Ideal S2048x2 .i32)

/-- The first probability of a row routed to `a`. -/
theorem pay6_apply (n : Fin 2048) (a : Fin 32) (ha : ix (ix2 n (0 : Fin 2)) = BitVec.ofNat 32 a.val) :
    k0_pay6 x rw ix (ix2 n (0 : Fin 1)) = k0_pay4 x rw (ix2 n a) :=
  pick_apply _ _ n a (by
    refine (slice2_axis1_apply 0 _ _ n 0 0 rfl).trans ?_
    exact (congrFun (shapeCast_self ix _) _).trans ha)

/-- The second probability of a row routed to `b`. -/
theorem pay7_apply (n : Fin 2048) (b : Fin 32) (hb : ix (ix2 n (1 : Fin 2)) = BitVec.ofNat 32 b.val) :
    k0_pay7 x rw ix (ix2 n (0 : Fin 1)) = k0_pay4 x rw (ix2 n b) :=
  pick_apply _ _ n b (by
    refine (slice2_axis1_apply 1 _ _ n 0 1 rfl).trans ?_
    exact (congrFun (shapeCast_self ix _) _).trans hb)

/-! ## The result -/

/-- A device's weights are its block of the whole. -/
theorem wblk_apply (μ : (ℓ : Loc nD τ sig) → Buf (Elt Ideal) ℓ) (W : FVec Ideal ⟨3, ![32, 1024, 1024]⟩ .f32) (c : Dev nD)
    (hW : μ ((c.tc : Thread nD τ).loc main_arg3) = Layout.block ⟨3, ![8, 1024, 1024]⟩ ⟨3, ![32, 1024, 1024]⟩ 0 4 c W)
    (e : Fin 8) (j : Fin 1024) (d : Fin 1024) :
    wblk μ c e ⟨j.val / 256, by omega⟩ (ix3 (0 : Fin 1) d (⟨j.val % 256, by omega⟩ : Fin 256)) = W (ix3 (expertOf c e) d j) := by
  show μ ((c.tc : Thread nD τ).loc main_arg3) ((wR e ⟨j.val / 256, by omega⟩).emb (ix3 (0 : Fin 1) d (⟨j.val % 256, by omega⟩ : Fin 256))) = _
  rw [hW]
  refine congrArg W (funext fun a => Fin.ext ?_)
  match a with
  | ⟨0, _⟩ => show c.val * 8 + (e.val + 1 * 0) = 8 * c.val + e.val; omega
  | ⟨1, _⟩ => show 0 + 1 * d.val = d.val; omega
  | ⟨2, _⟩ => show 256 * (j.val / 256) + 1 * (j.val % 256) = j.val; omega

/-- The kernel's result at a row routed to `a` and `b`: the two weighted products, on every device. -/
theorem outAt_routed (μ : (ℓ : Loc nD τ sig) → Buf (Elt Ideal) ℓ) (W : FVec Ideal ⟨3, ![32, 1024, 1024]⟩ .f32)
    (hx : ∀ c : Dev nD, xstg μ c = x) (hr : ∀ c : Dev nD, rstg μ c = rw) (hi : ∀ c : Dev nD, istg μ c = ix)
    (hW : ∀ c : Dev nD, μ ((c.tc : Thread nD τ).loc main_arg3) = Layout.block ⟨3, ![8, 1024, 1024]⟩ ⟨3, ![32, 1024, 1024]⟩ 0 4 c W)
    (c : Dev nD) (n : Fin 2048) (j : Fin 1024) (a b : Fin 32)
    (ha : ix (ix2 n (0 : Fin 2)) = BitVec.ofNat 32 a.val) (hb : ix (ix2 n (1 : Fin 2)) = BitVec.ofNat 32 b.val) :
    (outAt μ c (ix2 n j) : EReal)
      = Ideal.div (k0_pay4 x rw (ix2 n a)) (k0_pay4 x rw (ix2 n a) + k0_pay4 x rw (ix2 n b) : EReal)
          * (∑ d : Fin 1024, (x (ix2 n d) * W (ix3 a d j) : EReal))
        + Ideal.div (k0_pay4 x rw (ix2 n b)) (k0_pay4 x rw (ix2 n a) + k0_pay4 x rw (ix2 n b) : EReal)
          * (∑ d : Fin 1024, (x (ix2 n d) * W (ix3 b d j) : EReal)) := by
  have hv24 : ∀ d, val_v24 μ d = x := fun d => (shapeCast_self _ _).trans (hx d)
  have hv26 : ∀ d, val_v26 μ d = rw := fun d => (shapeCast_self _ _).trans (hr d)
  have h0 : ∀ d, (val_v55 μ d (ix2 n (0 : Fin 1)) : EReal)
      = Ideal.div (k0_pay4 x rw (ix2 n a)) (k0_pay4 x rw (ix2 n a) + k0_pay4 x rw (ix2 n b) : EReal) := fun d => by
    show k0_pay9 (val_v24 μ d) (val_v26 μ d) (istg μ d) (ix2 n (0 : Fin 1)) = _
    rw [hv24, hv26, hi]
    show Ideal.div (k0_pay6 x rw ix (ix2 n (0 : Fin 1))) (k0_pay6 x rw ix (ix2 n (0 : Fin 1)) + k0_pay7 x rw ix (ix2 n (0 : Fin 1)) : EReal) = _
    rw [pay6_apply x rw ix n a ha, pay7_apply x rw ix n b hb]
  have h1 : ∀ d, (val_v56 μ d (ix2 n (0 : Fin 1)) : EReal)
      = Ideal.div (k0_pay4 x rw (ix2 n b)) (k0_pay4 x rw (ix2 n a) + k0_pay4 x rw (ix2 n b) : EReal) := fun d => by
    show k0_pay10 (val_v24 μ d) (val_v26 μ d) (istg μ d) (ix2 n (0 : Fin 1)) = _
    rw [hv24, hv26, hi]
    show Ideal.div (k0_pay7 x rw ix (ix2 n (0 : Fin 1))) (k0_pay6 x rw ix (ix2 n (0 : Fin 1)) + k0_pay7 x rw ix (ix2 n (0 : Fin 1)) : EReal) = _
    rw [pay6_apply x rw ix n a ha, pay7_apply x rw ix n b hb]
  rw [outAt_apply]
  refine Eq.trans ?_ (gates_sum a b _ _ (fun h => by rw [h]) (fun E => ∑ d : Fin 1024, (x (ix2 n d) * W (ix3 E d j) : EReal)))
  refine Finset.sum_congr rfl fun d _ => Finset.sum_congr rfl fun e _ => ?_
  unfold partv
  rw [gatev_apply, h0, h1, hi, ha, hb, hx]
  have hw : BitVec.ofNat 32 (8 * d.val + e.val) = BitVec.ofNat 32 (expertOf d e).val := rfl
  rw [hw]
  simp only [word_inj]
  exact congrArg _ (Finset.sum_congr rfl fun t _ => congrArg (x (ix2 n t) * ·) (wblk_apply μ W d (hW d) e j t))

end Cert.KernelIdeal.Moe
-- ==== Proof.ReferenceIdeal.Read.lean ====
/-
# `Read`: the reference's result for a routed row

The reference names its experts by gathers, whose indices it first moves into range as array indexing does; an index that names an
expert stays as it is (`wrap_apply`).  So the gathers pick the row's probability (`gate_apply`) and the expert's matrix
(`product_apply`), and the result is the two weighted products (`refv_routed`).
-/
module

public import proofs.«01_k».proof.Proof.Gen.ReferenceIdeal.Run
public import Idealize.ShloMosaic.Lib.KernelVsHost
public import Idealize.ShloMosaic.Lib.IdealHost
public import Idealize.ShloMosaic.Lib.ValueLayout

@[expose] public section

noncomputable section

namespace Cert.ReferenceIdeal.Moe

open Cert.ReferenceIdeal Cert.ReferenceIdeal.Gen

open Idealize.ShloMosaic Idealize.ShloMosaic.TcCoe Idealize.ShloMosaic.ValueIdx
open Idealize.SL.Sem

/-! ## The reference by its parts -/

/-- A column of 2048 copies of a word. -/
abbrev copies (w : BitVec 32) : IVec S2048 32 := broadcastInDim S2048 ![] bcast_S_S2048 (constantI S_ 32 w)

/-- Indices moved into range: a negative one counts from the end of an axis of length `w`. -/
def wrap (w : BitVec 32) (s : IVec S2048 32) : IVec S2048 32 := select (cmpi .slt s (copies 0#32)) (addi s (copies w)) s

/-- A vector as a column. -/
abbrev column {α : Type} (v : S2048.Idx → α) : S2048x1.Idx → α := broadcastInDim S2048x1 ![0] bcast_S2048_S2048x1_0 v

/-- The first index of every row. -/
abbrev first (ix : IVec S2048x2 32) : IVec S2048 32 :=
  shapeCast S2048 (extractStridedSlice S2048x1 ![0, 0] ix slices_S2048x2_S2048x1_0_0) shapeCasts_S2048x1_S2048

/-- The second index of every row. -/
abbrev second (ix : IVec S2048x2 32) : IVec S2048 32 :=
  shapeCast S2048 (extractStridedSlice S2048x1 ![0, 1] ix slices_S2048x2_S2048x1_0_1) shapeCasts_S2048x1_S2048

/-- The softmax of the scores. -/
def probs (x : FVec Ideal S2048x1024 .f32) (rw : FVec Ideal S1024x32 .f32) : FVec Ideal S2048x32 .f32 :=
  let s := Host.dotGeneral dot_S2048x1024_S1024x32_S2048x32_1_0_0_1_n_n none x rw
  let p := Host.exp (subf s (broadcastInDim S2048x32 ![0, 1] bcast_S2048x1_S2048x32_0_1
    (column (Host.reduce FloatOps.maximumf s (constant S_ .f32 0xFF800000#32) reducesTo_S2048x32_S2048_d1 h_S_))))
  Host.divf p (broadcastInDim S2048x32 ![0, 1] bcast_S2048x1_S2048x32_0_1
    (column (Host.reduceAdd p (constant S_ .f32 0x00000000#32) reducesTo_S2048x32_S2048_d1 h_S_)))

/-- Every row's probability at the expert its index names. -/
def gate (p : FVec Ideal S2048x32 .f32) (s : IVec S2048 32) : FVec Ideal S2048 .f32 :=
  Host.gather gather_S2048x32_S2048x2_S2048_n_01_n_n_01_1_11 p
    (concatenate S2048x2 1 [⟨S2048x1, column (wrap 2048#32 (iotaInDim S2048 32 0))⟩, ⟨S2048x1, column (wrap 32#32 s)⟩]
      concatenates_S2048x1_S2048x1_S2048x2_d1)

/-- Every row times the matrix of the expert its index names. -/
def product (x : FVec Ideal S2048x1024 .f32) (W : FVec Ideal S32x1024x1024 .f32) (s : IVec S2048 32) : FVec Ideal S2048x1024 .f32 :=
  Host.dotGeneral dot_S2048x1024_S2048x1024x1024_S2048x1024_1_1_n_2_0_0 none x
    (Host.gather gather_S32x1024x1024_S2048x1_S2048x1024x1024_12_0_n_n_0_1_110241024 W (column (wrap 32#32 s)))

/-- A weight for every row, laid along it. -/
abbrev along (v : FVec Ideal S2048 .f32) : FVec Ideal S2048x1024 .f32 :=
  broadcastInDim S2048x1024 ![0, 1] bcast_S2048x1_S2048x1024_0_1 (column v)

/-- The reference's result. -/
def refv (x : FVec Ideal S2048x1024 .f32) (rw : FVec Ideal S1024x32 .f32) (ix : IVec S2048x2 32) (W : FVec Ideal S32x1024x1024 .f32) :
    FVec Ideal S2048x1024 .f32 :=
  let g0 := gate (probs x rw) (first ix)
  let g1 := gate (probs x rw) (second ix)
  addf (mulf (along (Host.divf g0 (addf g0 g1))) (product x W (first ix)))
    (mulf (along (Host.divf g1 (addf g0 g1))) (product x W (second ix)))

/-- What the reference's run leaves is `refv` of its arguments. -/
theorem res_eq (m : (ℓ : Loc nD τ sig) → Buf (Elt Ideal) ℓ) (c : Dev nD) :
    Value.res_main_v68 m c = refv (m ((c.tc : Thread nD τ).loc main_arg0)) (m ((c.tc : Thread nD τ).loc main_arg1))
      (m ((c.tc : Thread nD τ).loc main_arg2)) (m ((c.tc : Thread nD τ).loc main_arg3)) := rfl

/-! ## Read at an index -/

/-- A column at a row is the vector there. -/
theorem column_apply {α : Type} (v : S2048.Idx → α) (n : Fin 2048) (u : Fin 1) : column v (ix2 n u) = v (ix1 n) :=
  broadcastInDim_apply _ _ v (ix2 n u) (ix1 n) (by
    intro a
    match a with
    | ⟨0, _⟩ => rfl)

/-- A weight laid along its row is the weight. -/
theorem along_apply (v : FVec Ideal S2048 .f32) (n : Fin 2048) (j : Fin 1024) : along v (ix2 n j) = v (ix1 n) :=
  (broadcastInDim_apply _ _ (column v) (ix2 n j) (ix2 n (0 : Fin 1)) (by
    intro a
    match a with
    | ⟨0, _⟩ => rfl
    | ⟨1, _⟩ => rfl)).trans (column_apply v n 0)

/-- The first index of a row. -/
theorem first_apply (ix : IVec S2048x2 32) (n : Fin 2048) : first ix (ix1 n) = ix (ix2 n (0 : Fin 2)) :=
  (shapeCast_apply _ _ (ix1 n) (ix2 n (0 : Fin 1)) (by
    rw [Shape.rowMajor_val_two, Shape.rowMajor_val_one]; show n.val * 1 + 0 = n.val; omega)).trans
    (slice2_axis1_apply 0 _ _ n 0 0 rfl)

/-- The second index of a row. -/
theorem second_apply (ix : IVec S2048x2 32) (n : Fin 2048) : second ix (ix1 n) = ix (ix2 n (1 : Fin 2)) :=
  (shapeCast_apply _ _ (ix1 n) (ix2 n (0 : Fin 1)) (by
    rw [Shape.rowMajor_val_two, Shape.rowMajor_val_one]; show n.val * 1 + 0 = n.val; omega)).trans
    (slice2_axis1_apply 1 _ _ n 0 1 rfl)

/-- A small number's word, read signed, is the number. -/
theorem word_toInt (a : ℕ) (ha : a < 2 ^ 31) : (BitVec.ofNat 32 a).toInt.toNat = a := by
  rw [BitVec.toInt_eq_toNat_cond, BitVec.toNat_ofNat, Nat.mod_eq_of_lt (by omega), if_pos (by omega)]
  rfl

/-- An index that is already in range stays as it is. -/
theorem wrap_apply (w : BitVec 32) (s : IVec S2048 32) (n : Fin 2048) (a : ℕ) (ha : a < 2 ^ 31)
    (hs : s (ix1 n) = BitVec.ofNat 32 a) : wrap w s (ix1 n) = BitVec.ofNat 32 a := by
  show (if (BitVec.ofBool (BitVec.slt (s (ix1 n)) 0#32)) = 1#1 then _ else s (ix1 n)) = _
  rw [hs]
  have hlt : BitVec.slt (BitVec.ofNat 32 a) 0#32 = false := by
    rw [BitVec.slt_eq_decide, BitVec.toInt_eq_toNat_cond, BitVec.toNat_ofNat, Nat.mod_eq_of_lt (by omega), if_pos (by omega)]
    simp
  rw [hlt]
  rfl

/-! ## The gathers and the products -/

/-- The dimension numbers of the gather of one entry a row. -/
abbrev pickD : GatherDims S2048x32 S2048x2 S2048 := gather_S2048x32_S2048x2_S2048_n_01_n_n_01_1_11

/-- The dimension numbers of the gather of one matrix a row. -/
abbrev matD : GatherDims S32x1024x1024 S2048x1 S2048x1024x1024 :=
  gather_S32x1024x1024_S2048x1_S2048x1024x1024_12_0_n_n_0_1_110241024

/-- Where an entry's gather starts on each axis: the row's two table words, clamped. -/
theorem pick_start (idx : IVec S2048x2 32) (n : Fin 2048) (a : Fin 2) :
    pickD.start (ix1 n) idx a = min (idx (ix2 n a)).toInt.toNat ((![2048, 32] : Fin 2 → ℕ) a - 1) := by
  unfold GatherDims.start
  match a with
  | ⟨0, _⟩ =>
    rw [dif_pos (show (⟨0, by decide⟩ : Fin 2) ∈ pickD.startIndexMap from List.mem_cons_self ..)]
    have hsi : pickD.siIdx (ix1 n) ⟨List.idxOf (⟨0, by decide⟩ : Fin 2) pickD.startIndexMap,
        List.idxOf_lt_length_iff.2 (List.mem_cons_self ..)⟩ = ix2 n (0 : Fin 2) := by
      funext b; refine Fin.ext ?_
      match b with
      | ⟨0, _⟩ => rfl
      | ⟨1, _⟩ => rfl
    rw [hsi]; rfl
  | ⟨1, _⟩ =>
    rw [dif_pos (show (⟨1, by decide⟩ : Fin 2) ∈ pickD.startIndexMap from List.mem_cons_of_mem _ (List.mem_cons_self ..))]
    have hsi : pickD.siIdx (ix1 n) ⟨List.idxOf (⟨1, by decide⟩ : Fin 2) pickD.startIndexMap,
        List.idxOf_lt_length_iff.2 (List.mem_cons_of_mem _ (List.mem_cons_self ..))⟩ = ix2 n (1 : Fin 2) := by
      funext b; refine Fin.ext ?_
      match b with
      | ⟨0, _⟩ => rfl
      | ⟨1, _⟩ => rfl
    rw [hsi]; rfl

/-- An entry's gather reads the row and column its two table words name. -/
theorem pick_apply (p : FVec Ideal S2048x32 .f32) (idx : IVec S2048x2 32) (n : Fin 2048) (a : Fin 32)
    (h0 : idx (ix2 n (0 : Fin 2)) = BitVec.ofNat 32 n.val) (h1 : idx (ix2 n (1 : Fin 2)) = BitVec.ofNat 32 a.val) :
    Host.gather pickD p idx (ix1 n) = p (ix2 n a) := by
  have hall : ∀ b : Fin 2, b ∈ pickD.collapsedSliceDims := fun b => by
    match b with
    | ⟨0, _⟩ => exact List.mem_cons_self ..
    | ⟨1, _⟩ => exact List.mem_cons_of_mem _ (List.mem_cons_self ..)
  refine congrArg p (funext fun b => Fin.ext ?_)
  show pickD.start (ix1 n) idx b + pickD.batchCoord (ix1 n) b + pickD.offCoord (ix1 n) b = _
  rw [GatherDims.batchCoord_eq_zero _ _ _ List.not_mem_nil,
    GatherDims.offCoord_eq_zero _ _ _ (fun h => ((GatherDims.mem_sKept _ _).mp h).1 (hall b)), pick_start]
  match b with
  | ⟨0, _⟩ =>
    show min (idx (ix2 n (0 : Fin 2))).toInt.toNat (2048 - 1) + 0 + 0 = n.val
    rw [h0, word_toInt _ (by omega)]; omega
  | ⟨1, _⟩ =>
    show min (idx (ix2 n (1 : Fin 2))).toInt.toNat (32 - 1) + 0 + 0 = a.val
    rw [h1, word_toInt _ (by omega)]; omega

/-- A row's probability at the expert its index names. -/
theorem gate_apply (p : FVec Ideal S2048x32 .f32) (s : IVec S2048 32) (n : Fin 2048) (a : Fin 32)
    (hs : s (ix1 n) = BitVec.ofNat 32 a.val) : gate p s (ix1 n) = p (ix2 n a) := by
  refine pick_apply p _ n a ?_ ?_
  · refine (concatenate_pair_apply_left (t := S2048x2) (s₁ := S2048x1) (s₂ := S2048x1) 1 _ _ _ (ix2 n (0 : Fin 2)) rfl
      (ix2 n (0 : Fin 1)) ?_).trans ?_
    · intro b
      match b with
      | ⟨0, _⟩ => rfl
      | ⟨1, _⟩ => rfl
    · exact (column_apply _ n 0).trans (wrap_apply _ _ n n.val (by omega) rfl)
  · refine (concatenate_pair_apply_right (t := S2048x2) (s₁ := S2048x1) (s₂ := S2048x1) 1 _ _ _ (ix2 n (1 : Fin 2)) rfl rfl
      (ix2 n (0 : Fin 1)) ?_ rfl).trans ?_
    · intro b hb
      match b with
      | ⟨0, _⟩ => rfl
      | ⟨1, _⟩ => exact absurd rfl hb
    · exact (column_apply _ n 0).trans (wrap_apply _ _ n a.val (by omega) hs)

/-- A matrix's gather reads the expert its table word names. -/
theorem mat_apply (W : FVec Ideal S32x1024x1024 .f32) (idx : IVec S2048x1 32) (n : Fin 2048) (d j : Fin 1024) (a : Fin 32)
    (h : idx (ix2 n (0 : Fin 1)) = BitVec.ofNat 32 a.val) : Host.gather matD W idx (ix3 n d j) = W (ix3 a d j) := by
  refine congrArg W (funext fun b => Fin.ext ?_)
  show matD.start (ix3 n d j) idx b + matD.batchCoord (ix3 n d j) b + matD.offCoord (ix3 n d j) b = _
  rw [GatherDims.batchCoord_eq_zero _ _ _ List.not_mem_nil]
  match b with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ matD.startIndexMap from List.mem_singleton.mpr rfl)]
    have hsi : matD.siIdx (ix3 n d j) ⟨List.idxOf (⟨0, by decide⟩ : Fin 3) matD.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, h, word_toInt _ (by omega)]
    show min a.val (32 - 1) + 0 + 0 = a.val
    omega
  | ⟨1, _⟩ =>
    unfold GatherDims.start
    rw [dif_neg (show (⟨1, by decide⟩ : Fin 3) ∉ matD.startIndexMap from fun h => absurd (List.mem_singleton.mp h) (by decide))]
    show 0 + 0 + d.val = d.val
    omega
  | ⟨2, _⟩ =>
    unfold GatherDims.start
    rw [dif_neg (show (⟨2, by decide⟩ : Fin 3) ∉ matD.startIndexMap from fun h => absurd (List.mem_singleton.mp h) (by decide))]
    show 0 + 0 + j.val = j.val
    omega

/-- Every row times its own matrix, at an index. -/
theorem rows_apply (x : FVec Ideal S2048x1024 .f32) (Y : FVec Ideal S2048x1024x1024 .f32) (n : Fin 2048) (j : Fin 1024) :
    (Host.dotGeneral dot_S2048x1024_S2048x1024x1024_S2048x1024_1_1_n_2_0_0 none x Y (ix2 n j) : EReal)
      = ∑ d : Fin 1024, (x (ix2 n d) * Y (ix3 n d j) : EReal) := by
  show FloatOps.dotGeneral _ none _ x Y (ix2 n j) = _
  rw [Ideal.dotGeneral_apply,
    ← Equiv.sum_comp (contrEquiv1 dot_S2048x1024_S2048x1024x1024_S2048x1024_1_1_n_2_0_0 1024 rfl rfl).symm]
  refine Finset.sum_congr rfl fun c _ => ?_
  have cc := contrEquiv1_symm_val dot_S2048x1024_S2048x1024x1024_S2048x1024_1_1_n_2_0_0 1024 rfl rfl c
  have l : dot_S2048x1024_S2048x1024x1024_S2048x1024_1_1_n_2_0_0.lhsIdx (ix2 n j) ((contrEquiv1 _ 1024 rfl rfl).symm c) = ix2 n c := by
    funext ax; apply Fin.ext
    match ax with
    | ⟨0, _⟩ => rfl
    | ⟨1, _⟩ => exact cc
  have r : dot_S2048x1024_S2048x1024x1024_S2048x1024_1_1_n_2_0_0.rhsIdx (ix2 n j) ((contrEquiv1 _ 1024 rfl rfl).symm c) = ix3 n c j := by
    funext ax; apply Fin.ext
    match ax with
    | ⟨0, _⟩ => rfl
    | ⟨1, _⟩ => exact cc
    | ⟨2, _⟩ => rfl
  rw [l, r]

/-- A row times the matrix of the expert its index names. -/
theorem product_apply (x : FVec Ideal S2048x1024 .f32) (W : FVec Ideal S32x1024x1024 .f32) (s : IVec S2048 32) (n : Fin 2048)
    (j : Fin 1024) (a : Fin 32) (hs : s (ix1 n) = BitVec.ofNat 32 a.val) :
    (product x W s (ix2 n j) : EReal) = ∑ d : Fin 1024, (x (ix2 n d) * W (ix3 a d j) : EReal) :=
  (rows_apply x _ n j).trans (Finset.sum_congr rfl fun d _ => congrArg (fun y : EReal => (x (ix2 n d) : EReal) * y)
    (mat_apply W _ n d j a ((column_apply _ n 0).trans (wrap_apply _ _ n a.val (by omega) hs))))

/-! ## The result -/

/-- Two products weighed by their shares of two gates, at an index. -/
theorem weigh_apply (g0 g1 : FVec Ideal S2048 .f32) (y0 y1 : FVec Ideal S2048x1024 .f32) (n : Fin 2048) (j : Fin 1024) :
    (addf (mulf (along (Host.divf g0 (addf g0 g1))) y0) (mulf (along (Host.divf g1 (addf g0 g1))) y1) (ix2 n j) : EReal)
      = Ideal.div (g0 (ix1 n)) (g0 (ix1 n) + g1 (ix1 n) : EReal) * y0 (ix2 n j)
        + Ideal.div (g1 (ix1 n)) (g0 (ix1 n) + g1 (ix1 n) : EReal) * y1 (ix2 n j) := by
  show (along (Host.divf g0 (addf g0 g1)) (ix2 n j) * y0 (ix2 n j) + along (Host.divf g1 (addf g0 g1)) (ix2 n j) * y1 (ix2 n j) : EReal) = _
  rw [along_apply, along_apply]
  rfl

/-- The reference's result at a row routed to `a` and `b`: the two weighted products. -/
theorem refv_routed (x : FVec Ideal S2048x1024 .f32) (rw : FVec Ideal S1024x32 .f32) (ix : IVec S2048x2 32)
    (W : FVec Ideal S32x1024x1024 .f32) (n : Fin 2048) (j : Fin 1024) (a b : Fin 32)
    (ha : ix (ix2 n (0 : Fin 2)) = BitVec.ofNat 32 a.val) (hb : ix (ix2 n (1 : Fin 2)) = BitVec.ofNat 32 b.val) :
    (refv x rw ix W (ix2 n j) : EReal)
      = Ideal.div (probs x rw (ix2 n a)) (probs x rw (ix2 n a) + probs x rw (ix2 n b) : EReal)
          * (∑ d : Fin 1024, (x (ix2 n d) * W (ix3 a d j) : EReal))
        + Ideal.div (probs x rw (ix2 n b)) (probs x rw (ix2 n a) + probs x rw (ix2 n b) : EReal)
          * (∑ d : Fin 1024, (x (ix2 n d) * W (ix3 b d j) : EReal)) := by
  have h0 := (first_apply ix n).trans ha
  have h1 := (second_apply ix n).trans hb
  have g0 := gate_apply (probs x rw) (first ix) n a h0
  have g1 := gate_apply (probs x rw) (second ix) n b h1
  refine (weigh_apply _ _ _ _ n j).trans ?_
  rw [g0, g1, product_apply x W _ n j a h0, product_apply x W _ n j b h1]

end Cert.ReferenceIdeal.Moe
-- ==== Proof.Equal.lean ====
/-
# `Equal`: the kernel's result is the reference's

Both softmaxes are one array (`probs_eq`).  Where every index names an expert (`routed_word`) both results are, at each row, the two
weighted products of `outAt_routed` and `refv_routed`; so they are equal (`results_eq`), and the runs give the claim (`same_result`).
-/
module

public import proofs.«01_k».proof.Proof.KernelIdeal.Gates
public import proofs.«01_k».proof.Proof.KernelIdeal.Run
public import proofs.«01_k».proof.Proof.ReferenceIdeal.Read
public import proofs.«01_k».proof.Defs

@[expose] public section

noncomputable section

namespace Cert.Moe

open Idealize.ShloMosaic Idealize.ShloMosaic.TcCoe Idealize.ShloMosaic.ValueIdx Idealize.SL.Sem

/-- The precondition's one side condition. -/
theorem facts_kernel : Cert.Pre_routed_KernelIdeal.Facts := ⟨by decide⟩

/-- The same of the reference's shapes. -/
theorem facts_reference : Cert.Pre_routed_ReferenceIdeal.Facts := ⟨by decide⟩

/-! ## The softmax -/

/-- A value for every row, laid along it, as the kernel writes it. -/
def kernelAlong (v : FVec Ideal Cert.KernelIdeal.S2048 .f32) : FVec Ideal Cert.KernelIdeal.S2048x32 .f32 :=
  broadcastTo Cert.KernelIdeal.S2048x32 (shapeCast Cert.KernelIdeal.S2048x1 v Cert.KernelIdeal.Gen.shapeCasts_S2048_S2048x1)
    Cert.KernelIdeal.Gen.broadcasts_S2048x1_S2048x32

/-- The same as the reference writes it. -/
def referenceAlong (v : FVec Ideal Cert.KernelIdeal.S2048 .f32) : FVec Ideal Cert.KernelIdeal.S2048x32 .f32 :=
  broadcastInDim Cert.ReferenceIdeal.S2048x32 ![0, 1] Cert.ReferenceIdeal.Gen.bcast_S2048x1_S2048x32_0_1
    (Cert.ReferenceIdeal.Moe.column v)

/-- The rows' maxima as the kernel writes them. -/
def kernelMax (s : FVec Ideal Cert.KernelIdeal.S2048x32 .f32) : FVec Ideal Cert.KernelIdeal.S2048 .f32 :=
  multiReduction .maximumf [1] Cert.KernelIdeal.S2048 s 0xFF800000#32 Cert.KernelIdeal.Gen.reduces_S2048x32_S2048 (.inl rfl) rfl

/-- The rows' maxima as the reference writes them. -/
def referenceMax (s : FVec Ideal Cert.KernelIdeal.S2048x32 .f32) : FVec Ideal Cert.KernelIdeal.S2048 .f32 :=
  Host.reduce FloatOps.maximumf s (constant Cert.ReferenceIdeal.S_ .f32 0xFF800000#32)
    Cert.ReferenceIdeal.Gen.reducesTo_S2048x32_S2048_d1 Cert.ReferenceIdeal.Gen.h_S_

/-- The rows' sums as the kernel writes them. -/
def kernelSum (s : FVec Ideal Cert.KernelIdeal.S2048x32 .f32) : FVec Ideal Cert.KernelIdeal.S2048 .f32 :=
  multiReduction .add [1] Cert.KernelIdeal.S2048 s 0x00000000#32 Cert.KernelIdeal.Gen.reduces_S2048x32_S2048 (.inl rfl) rfl

/-- The rows' sums as the reference writes them. -/
def referenceSum (s : FVec Ideal Cert.KernelIdeal.S2048x32 .f32) : FVec Ideal Cert.KernelIdeal.S2048 .f32 :=
  Host.reduceAdd s (constant Cert.ReferenceIdeal.S_ .f32 0x00000000#32)
    Cert.ReferenceIdeal.Gen.reducesTo_S2048x32_S2048_d1 Cert.ReferenceIdeal.Gen.h_S_

/-- The two ways to lay values along rows agree. -/
theorem along_eq (v : FVec Ideal Cert.KernelIdeal.S2048 .f32) : kernelAlong v = referenceAlong v := by
  funext i
  rw [eq_ix2 i]
  refine (Cert.KernelIdeal.Moe.broadcastTo_col_apply _ _ _ _).trans ((shapeCast_a_a1_apply v _ _ 0).trans (Eq.symm ?_))
  refine (broadcastInDim_apply _ _ (Cert.ReferenceIdeal.Moe.column v) _ (ix2 (i 0 : Fin 2048) (0 : Fin 1)) ?_).trans
    (Cert.ReferenceIdeal.Moe.column_apply v _ 0)
  intro a
  match a with
  | ⟨0, _⟩ => rfl
  | ⟨1, _⟩ => rfl

/-- The two ways to take the rows' maxima agree. -/
theorem max_eq (s : FVec Ideal Cert.KernelIdeal.S2048x32 .f32) : kernelMax s = referenceMax s :=
  (hostReduce_maximumf_eq_multiReduction s 0xFF800000#32 Cert.ReferenceIdeal.Gen.reducesTo_S2048x32_S2048_d1
    Cert.ReferenceIdeal.Gen.h_S_ Cert.KernelIdeal.Gen.reduces_S2048x32_S2048 (.inl rfl) rfl).symm

/-- The two ways to take the rows' sums agree. -/
theorem add_eq (s : FVec Ideal Cert.KernelIdeal.S2048x32 .f32) : kernelSum s = referenceSum s :=
  multiReduction_add_eq_hostReduceAdd s 0x00000000#32 Cert.KernelIdeal.Gen.reduces_S2048x32_S2048 (.inl rfl) rfl
    (constant Cert.ReferenceIdeal.S_ .f32 0x00000000#32) Cert.ReferenceIdeal.Gen.reducesTo_S2048x32_S2048_d1
    Cert.ReferenceIdeal.Gen.h_S_ Ideal.ofBits_zero_f32

/-- The kernel's softmax is the reference's. -/
theorem probs_eq (x : FVec Ideal Cert.KernelIdeal.S2048x1024 .f32) (rw : FVec Ideal Cert.KernelIdeal.S1024x32 .f32) :
    Cert.KernelIdeal.Gen.k0_pay4 x rw = Cert.ReferenceIdeal.Moe.probs x rw := by
  have e : ∀ s : FVec Ideal Cert.KernelIdeal.S2048x32 .f32,
      divf (exp (subf s (kernelAlong (kernelMax s)))) (kernelAlong (kernelSum (exp (subf s (kernelAlong (kernelMax s))))))
        = divf (exp (subf s (referenceAlong (referenceMax s)))) (referenceAlong (referenceSum (exp (subf s (referenceAlong (referenceMax s)))))) :=
    fun s => by simp only [along_eq, max_eq, add_eq]
  exact (congrArg (fun s => divf (exp (subf s (kernelAlong (kernelMax s)))) (kernelAlong (kernelSum (exp (subf s (kernelAlong (kernelMax s)))))))
    (matmul_zero_eq_dotGeneral Cert.KernelIdeal.dot_S2048x1024_S1024x32_S2048x32_1_0_0_1_n_n none x rw)).trans (e _)

/-! ## The routing -/

/-- A word that is at least 0 and below 32, read signed, is the word of an expert's number. -/
theorem word_of_range (w : BitVec 32) (h : IntOp.andi (IntOp.cmpi .sge w 0#32) (IntOp.cmpi .slt w 32#32) = 1#1) :
    ∃ a : Fin 32, w = BitVec.ofNat 32 a.val := by
  have h' : BitVec.ofBool (BitVec.sle 0#32 w) &&& BitVec.ofBool (BitVec.slt w 32#32) = 1#1 := h
  have hb : BitVec.sle 0#32 w = true ∧ BitVec.slt w 32#32 = true := by
    revert h'
    generalize BitVec.sle 0#32 w = p
    generalize BitVec.slt w 32#32 = q
    revert p q; decide
  rw [BitVec.sle_eq_decide, BitVec.slt_eq_decide, decide_eq_true_eq, decide_eq_true_eq] at hb
  have h0 : (0#32 : BitVec 32).toInt = 0 := by decide
  have h32 : (32#32 : BitVec 32).toInt = 32 := by decide
  rw [h0, h32, BitVec.toInt_eq_toNat_cond] at hb
  have hw := w.isLt
  have hlt : w.toNat < 32 := by
    split at hb <;> omega
  exact ⟨⟨w.toNat, hlt⟩, BitVec.eq_of_toNat_eq (by rw [BitVec.toNat_ofNat, Nat.mod_eq_of_lt hw])⟩

/-- Under the precondition every index names an expert. -/
theorem routed_word (x rw W) (ix : IVec Cert.KernelIdeal.S2048x2 32)
    (h : @Cert.Pre_routed_KernelIdeal.fn facts_kernel Ideal _ x rw ix W = fun _ => 1#1) (i : Cert.KernelIdeal.S2048x2.Idx) :
    ∃ a : Fin 32, ix i = BitVec.ofNat 32 a.val := word_of_range _ (congrFun h i)

/-! ## The results -/

/-- The kernel's result on every device is the reference's. -/
theorem results_eq (m : (ℓ : Loc Cert.KernelIdeal.nD Cert.KernelIdeal.τ Cert.KernelIdeal.sig) → Buf (Elt Ideal) ℓ)
    (x : FVec Ideal Cert.KernelIdeal.S2048x1024 .f32) (rw : FVec Ideal Cert.KernelIdeal.S1024x32 .f32)
    (ix : IVec Cert.KernelIdeal.S2048x2 32) (W : FVec Ideal Cert.ReferenceIdeal.S32x1024x1024 .f32)
    (hi : ∀ i, ∃ a : Fin 32, ix i = BitVec.ofNat 32 a.val)
    (hx : ∀ c : Dev Cert.KernelIdeal.nD, m ((c.tc : Thread Cert.KernelIdeal.nD Cert.KernelIdeal.τ).loc Cert.KernelIdeal.main_arg0) = x)
    (hr : ∀ c : Dev Cert.KernelIdeal.nD, m ((c.tc : Thread Cert.KernelIdeal.nD Cert.KernelIdeal.τ).loc Cert.KernelIdeal.main_arg1) = rw)
    (hx2 : ∀ c : Dev Cert.KernelIdeal.nD, m ((c.tc : Thread Cert.KernelIdeal.nD Cert.KernelIdeal.τ).loc Cert.KernelIdeal.main_arg2) = ix)
    (hW : ∀ c : Dev Cert.KernelIdeal.nD, m ((c.tc : Thread Cert.KernelIdeal.nD Cert.KernelIdeal.τ).loc Cert.KernelIdeal.main_arg3)
      = Layout.block ⟨3, ![8, 1024, 1024]⟩ ⟨3, ![32, 1024, 1024]⟩ 0 4 c W)
    (c : Dev Cert.KernelIdeal.nD) : Cert.KernelIdeal.Moe.outAt m c = Cert.ReferenceIdeal.Moe.refv x rw ix W := by
  funext i
  rw [eq_ix2 i]
  obtain ⟨a, ha⟩ := hi (ix2 (i 0 : Fin 2048) (0 : Fin 2))
  obtain ⟨b, hb⟩ := hi (ix2 (i 0 : Fin 2048) (1 : Fin 2))
  refine (Cert.KernelIdeal.Moe.outAt_routed x rw ix m W hx hr hx2 hW c (i 0) (i 1) a b ha hb).trans (Eq.symm ?_)
  refine (Cert.ReferenceIdeal.Moe.refv_routed x rw ix W (i 0) (i 1) a b ha hb).trans ?_
  rw [probs_eq]

/-- The kernel on four devices and the reference on one end with one result, where every index names an expert. -/
theorem same_result : Cert.algebraic_KernelIdeal_ReferenceIdeal_pre_routed_KernelIdeal (hPre_routed_KernelIdeal := facts_kernel) := by
  intro m g m' g' hpre hargs
  refine ⟨Cert.ReferenceIdeal.Value.res_main_v68 m' 0, ?_, ?_⟩
  · refine (θ_run Cert.KernelIdeal.defs _ _).mono (fun r h c => ⟨(h.1 c).1.trans ?_, (h.1 c).2⟩) (Cert.KernelIdeal.Moe.run_main m g)
    rw [Cert.ReferenceIdeal.Moe.res_eq]
    refine results_eq m _ _ _ _ ?_ (fun c => (hargs c).1) (fun c => (hargs c).2.1) (fun c => (hargs c).2.2.1) (fun c => (hargs c).2.2.2) c
    rw [← (hargs 0).2.2.1]
    exact routed_word _ _ _ _ (hpre 0)
  · exact (θ_run Cert.ReferenceIdeal.defs _ _).mono (fun r h => h 0) (Cert.ReferenceIdeal.Value.run (F := Ideal) m' g')

end Cert.Moe
-- ==== Proof.lean ====
/-
# The proof of `Cert.Claim`

The kernel's two frames are `Cert.Moe.kernel_runs` and `ideal_runs` (`Same`), the reference's is below; the kernel read at the
extended reals is the kernel as printed, so `preserves` has nothing to show; and that the kernel's result is the reference's is
`Cert.Moe.same_result` (`Equal`).
-/
module

public import proofs.«01_k».proof.Defs
public import proofs.«01_k».proof.Proof.Same
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference runs, leaves its arguments alone, and declares no semaphore. -/
theorem reference_runs : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Everything this certificate claims. -/
theorem claim : Cert.Claim := ⟨Cert.Kernel.Gen.facts, Cert.KernelIdeal.Gen.facts, Cert.ReferenceIdeal.Gen.facts,
  Cert.Moe.facts_kernel, Cert.Moe.facts_reference,
  Cert.Moe.kernel_runs, Cert.Moe.ideal_runs, fun m g _ => Cert.Moe.ideal_runs m g trivial,
  reference_runs, fun m g _ => reference_runs m g trivial, trivial, Cert.Moe.same_result⟩

end Cert.Proof

end
